-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def Pre_SiluIdeal_within_clip [hPre_within_clip : Cert.Pre_within_clip.Facts] (m : (ℓ : Loc Cert.SiluIdeal.nD Cert.SiluIdeal.τ Cert.SiluIdeal.sig) → Buf (Elt Ideal) ℓ) : Prop :=
  ∀ c : Dev Cert.SiluIdeal.nD,
    (Cert.Pre_within_clip.fn (F := Ideal) (m ((c.tc : Thread Cert.SiluIdeal.nD Cert.SiluIdeal.τ).loc Cert.SiluIdeal.main_arg0)) (m ((c.tc : Thread Cert.SiluIdeal.nD Cert.SiluIdeal.τ).loc Cert.SiluIdeal.main_arg1)) (m ((c.tc : Thread Cert.SiluIdeal.nD Cert.SiluIdeal.τ).loc Cert.SiluIdeal.main_arg2)) (m ((c.tc : Thread Cert.SiluIdeal.nD Cert.SiluIdeal.τ).loc Cert.SiluIdeal.main_arg3))) = (fun _ => 1#1)

def Pre_ClippedIdeal (m : (ℓ : Loc Cert.ClippedIdeal.nD Cert.ClippedIdeal.τ Cert.ClippedIdeal.sig) → Buf (Elt Ideal) ℓ) : Prop :=
  True

def Pre_ClippedIdeal_within_clip [hPre_within_clip : Cert.Pre_within_clip.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_within_clip.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1)) (m ((c.tc : Thread Cert.ClippedIdeal.nD Cert.ClippedIdeal.τ).loc Cert.ClippedIdeal.main_arg2)) (m ((c.tc : Thread Cert.ClippedIdeal.nD Cert.ClippedIdeal.τ).loc Cert.ClippedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def quiescent_SiluIdeal_pre_within_clip [hSiluIdeal : Cert.SiluIdeal.Facts] [hPre_within_clip : Cert.Pre_within_clip.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal_within_clip m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
      ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
      ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def quiescent_ClippedIdeal_pre_within_clip [hClippedIdeal : Cert.ClippedIdeal.Facts] [hPre_within_clip : Cert.Pre_within_clip.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_within_clip m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_SiluIdeal_ClippedIdeal_pre_within_clip [hSiluIdeal : Cert.SiluIdeal.Facts] [hClippedIdeal : Cert.ClippedIdeal.Facts] [hPre_within_clip : Cert.Pre_within_clip.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_SiluIdeal_within_clip m →
    (∀ c : Dev Cert.SiluIdeal.nD,
      m' ((c.tc : Thread Cert.ClippedIdeal.nD Cert.ClippedIdeal.τ).loc Cert.ClippedIdeal.main_arg0) = m ((c.tc : Thread Cert.SiluIdeal.nD Cert.SiluIdeal.τ).loc Cert.SiluIdeal.main_arg0)
      ∧ m' ((c.tc : Thread Cert.ClippedIdeal.nD Cert.ClippedIdeal.τ).loc Cert.ClippedIdeal.main_arg1) = m ((c.tc : Thread Cert.SiluIdeal.nD Cert.SiluIdeal.τ).loc Cert.SiluIdeal.main_arg1)
      ∧ m' ((c.tc : Thread Cert.ClippedIdeal.nD Cert.ClippedIdeal.τ).loc Cert.ClippedIdeal.main_arg2) = m ((c.tc : Thread Cert.SiluIdeal.nD Cert.SiluIdeal.τ).loc Cert.SiluIdeal.main_arg2)
      ∧ m' ((c.tc : Thread Cert.ClippedIdeal.nD Cert.ClippedIdeal.τ).loc Cert.ClippedIdeal.main_arg3) = m ((c.tc : Thread Cert.SiluIdeal.nD Cert.SiluIdeal.τ).loc Cert.SiluIdeal.main_arg3)) →
    ∃ (v0 : (c : Dev Cert.SiluIdeal.nD) → Buf (Elt Ideal) ((c.tc : Thread Cert.SiluIdeal.nD Cert.SiluIdeal.τ).loc Cert.SiluIdeal.main_v9)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v9) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1)
          ∧ r.2.mem ((c.tc : Thread Cert.SiluIdeal.nD Cert.SiluIdeal.τ).loc Cert.SiluIdeal.main_arg2) = m ((c.tc : Thread Cert.SiluIdeal.nD Cert.SiluIdeal.τ).loc Cert.SiluIdeal.main_arg2)
          ∧ r.2.mem ((c.tc : Thread Cert.SiluIdeal.nD Cert.SiluIdeal.τ).loc Cert.SiluIdeal.main_arg3) = m ((c.tc : Thread Cert.SiluIdeal.nD Cert.SiluIdeal.τ).loc Cert.SiluIdeal.main_arg3))
      ∧ θ_run (Cert.ClippedIdeal.defs (F := Ideal)) (onTc (τ := Cert.ClippedIdeal.τ) (Cert.ClippedIdeal.main (F := Ideal))) ⟨m', fun _ => 0, g'⟩ (fun r => ∀ c : Dev Cert.ClippedIdeal.nD,
          r.2.mem ((c.tc : Thread Cert.ClippedIdeal.nD Cert.ClippedIdeal.τ).loc Cert.ClippedIdeal.main_v10) = v0 c
          ∧ r.2.mem ((c.tc : Thread Cert.ClippedIdeal.nD Cert.ClippedIdeal.τ).loc Cert.ClippedIdeal.main_arg0) = m' ((c.tc : Thread Cert.ClippedIdeal.nD Cert.ClippedIdeal.τ).loc Cert.ClippedIdeal.main_arg0)
          ∧ r.2.mem ((c.tc : Thread Cert.ClippedIdeal.nD Cert.ClippedIdeal.τ).loc Cert.ClippedIdeal.main_arg1) = m' ((c.tc : Thread Cert.ClippedIdeal.nD Cert.ClippedIdeal.τ).loc Cert.ClippedIdeal.main_arg1)
          ∧ r.2.mem ((c.tc : Thread Cert.ClippedIdeal.nD Cert.ClippedIdeal.τ).loc Cert.ClippedIdeal.main_arg2) = m' ((c.tc : Thread Cert.ClippedIdeal.nD Cert.ClippedIdeal.τ).loc Cert.ClippedIdeal.main_arg2)
          ∧ r.2.mem ((c.tc : Thread Cert.ClippedIdeal.nD Cert.ClippedIdeal.τ).loc Cert.ClippedIdeal.main_arg3) = m' ((c.tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hSiluIdeal : Cert.SiluIdeal.Facts) (hClippedIdeal : Cert.ClippedIdeal.Facts) (hPre_within_clip : Cert.Pre_within_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ quiescent_SiluIdeal_pre_within_clip (hSiluIdeal := hSiluIdeal) (hPre_within_clip := hPre_within_clip)
    ∧ quiescent_ClippedIdeal (hClippedIdeal := hClippedIdeal)
    ∧ quiescent_ClippedIdeal_pre_within_clip (hClippedIdeal := hClippedIdeal) (hPre_within_clip := hPre_within_clip)
    ∧ preserves_Kernel_KernelIdeal
    ∧ algebraic_KernelIdeal_ReferenceIdeal (hKernelIdeal := hKernelIdeal) (hReferenceIdeal := hReferenceIdeal)
    ∧ algebraic_SiluIdeal_ClippedIdeal_pre_within_clip (hSiluIdeal := hSiluIdeal) (hClippedIdeal := hClippedIdeal) (hPre_within_clip := hPre_within_clip)
-- ==== Pre_within_clip.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S4096x8192 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_v5 : FVec F S4096x8192 .f32 := Host.absf main_v4
  let main_cst : FVec F S_ .f32 := constant S_ .f32 0x42700000#32
  let main_v6 : FVec F S4096x8192 .f32 := broadcastInDim S4096x8192 ![] bcast_S_S4096x8192 main_cst
  let main_v7 : IVec S4096x8192 1 := cmpf .ole main_v5 main_v6
  main_v7
-- ==== Kernel.lean ====
abbrev S4096x1024 : Shape := ⟨2, ![4096, 1024]⟩
abbrev S1024x8192 : Shape := ⟨2, ![1024, 8192]⟩
abbrev S1 : Shape := ⟨1, ![1]⟩
abbrev S4096x8192 : Shape := ⟨2, ![4096, 8192]⟩
abbrev S2x1024x4096 : Shape := ⟨3, ![2, 1024, 4096]⟩
abbrev S1024x4096 : Shape := ⟨2, ![1024, 4096]⟩
abbrev S1024x1024 : Shape := ⟨2, ![1024, 1024]⟩
abbrev S2 : Shape := ⟨1, ![2]⟩
abbrev S7 : Shape := ⟨1, ![7]⟩
abbrev S_ : Shape := ⟨0, ![]⟩
abbrev S1x1024x4096 : Shape := ⟨3, ![1, 1024, 4096]⟩
abbrev S1x1024x2048 : Shape := ⟨3, ![1, 1024, 2048]⟩
abbrev S1024x2048 : Shape := ⟨2, ![1024, 2048]⟩
abbrev S1x1024x1024 : Shape := ⟨3, ![1, 1024, 1024]⟩

abbrev nBuf : Space → Nat
  | .hbm => 10
  | .vmem => 9
  | .smem => 1
  | _ => 0

abbrev bufTy : (tb : Table) → Fin (tcTables nBuf tb) → BufTy
  | .hbm, ⟨0, _⟩ => ⟨S4096x1024, .fp8e4m3⟩
  | .hbm, ⟨1, _⟩ => ⟨S1024x8192, .fp8e4m3⟩
  | .hbm, ⟨2, _⟩ => ⟨S1, .f32⟩
  | .hbm, ⟨3, _⟩ => ⟨S1, .f32⟩
  | .hbm, ⟨4, _⟩ => ⟨S4096x1024, .bf16⟩
  | .hbm, ⟨5, _⟩ => ⟨S1024x8192, .bf16⟩
  | .hbm, ⟨6, _⟩ => ⟨S4096x8192, .f32⟩
  | .hbm, ⟨7, _⟩ => ⟨S4096x8192, .bf16⟩
  | .hbm, ⟨8, _⟩ => ⟨S1, .f32⟩
  | .hbm, ⟨9, _⟩ => ⟨S4096x8192, .f32⟩
  | .local _ .vmem, ⟨0, _⟩ => ⟨S4096x1024, .fp8e4m3⟩
  | .local _ .vmem, ⟨1, _⟩ => ⟨S1024x8192, .fp8e4m3⟩
  | .local _ .vmem, ⟨2, _⟩ => ⟨S4096x1024, .bf16⟩
  | .local _ .vmem, ⟨3, _⟩ => ⟨S1024x8192, .bf16⟩
  | .local _ .vmem, ⟨4, _⟩ => ⟨S2x1024x4096, .bf16⟩
  | .local _ .vmem, ⟨5, _⟩ => ⟨S2x1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x1024, .f32⟩
  | .local _ .smem, ⟨0, _⟩ => ⟨S1, .f32⟩
  | _, _ => ⟨S4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc1_scratch3 : Ref sig .tc := ⟨.vmem, 7, rfl⟩
abbrev cc1_scratch4 : Ref sig .tc := ⟨.vmem, 8, rfl⟩
abbrev cc1_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev barrier0 : Sem sig := 2

abbrev nD : Nat := 4
abbrev τ : Topo := Topo.v7x

variable {F : FTy → Type} [FloatOps F]

abbrev grid0 : Pipeline.Grid := .none

abbrev stage0_0 : Fin 1 → Memref sig .tc .vmem S4096x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_off1 (d0 : Dev nD) (c3_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c3_i32_3
  let c4_i32_4 : BitVec 32 := 4#32
  let v9 : BitVec 32 := Scalar.remsi v8 c4_i32_4
  let c1024_i32 : BitVec 32 := 1024#32
  let v10 : BitVec 32 := Scalar.muli v9 c1024_i32
  let c0_i32_7 : BitVec 32 := 0#32
  ![v10.toNat, 0]
def k1_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v14 : BitVec 32 := Scalar.addi v2 c1_i32_8
  let c4_i32_9 : BitVec 32 := 4#32
  let v15 : BitVec 32 := Scalar.remsi v14 c4_i32_9
  let c1024_i32_10 : BitVec 32 := 1024#32
  let v16 : BitVec 32 := Scalar.muli v15 c1024_i32_10
  let c4096_i32 : BitVec 32 := 4096#32
  ![v16.toNat, 4096]
def k1_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_23 : BitVec 32 := 1#32
  let v27 : BitVec 32 := Scalar.muli v6 c1_i32_23
  let v28 : BitVec 32 := Scalar.addi c0_i32_24 v27
  v28.toNat
def k1_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_26 : BitVec 32 := 1#32
  let v29 : BitVec 32 := Scalar.muli v4 c1_i32_26
  let v30 : BitVec 32 := Scalar.addi c0_i32_27 v29
  v30.toNat
def k1_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_32 : BitVec 32 := 1#32
  let v31 : BitVec 32 := Scalar.muli v4 c1_i32_32
  let v32 : BitVec 32 := Scalar.addi c0_i32_33 v31
  v32.toNat
def k1_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_42 : BitVec 32 := 1#32
  let v41 : BitVec 32 := Scalar.muli v6 c1_i32_42
  let v42 : BitVec 32 := Scalar.addi c0_i32_43 v41
  v42.toNat
def k1_off3 (d0 : Dev nD) (c0_i32_53 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_52 : BitVec 32 := 2#32
  let v55 : BitVec 32 := Scalar.addi v2 c2_i32_52
  let v56 : BitVec 32 := Scalar.addi v55 c0_i32_53
  let c4_i32_54 : BitVec 32 := 4#32
  let v57 : BitVec 32 := Scalar.remsi v56 c4_i32_54
  let c1024_i32_55 : BitVec 32 := 1024#32
  let v58 : BitVec 32 := Scalar.muli v57 c1024_i32_55
  let c4096_i32_56 : BitVec 32 := 4096#32
  ![v58.toNat, 4096]
def k1_dev5 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_96 : BitVec 32 := 1#32
  let v88 : BitVec 32 := Scalar.muli v6 c1_i32_96
  let v89 : BitVec 32 := Scalar.addi c0_i32_97 v88
  v89.toNat
def k1_dev6 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_99 : BitVec 32 := 1#32
  let v90 : BitVec 32 := Scalar.muli v4 c1_i32_99
  let v91 : BitVec 32 := Scalar.addi c0_i32_100 v90
  v91.toNat
def k1_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_141 : BitVec 32 := 1#32
  let v122 : BitVec 32 := Scalar.muli v4 c1_i32_141
  let v123 : BitVec 32 := Scalar.addi c0_i32_142 v122
  v123.toNat
def k1_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_151 : BitVec 32 := 1#32
  let v132 : BitVec 32 := Scalar.muli v6 c1_i32_151
  let v133 : BitVec 32 := Scalar.addi c0_i32_152 v132
  v133.toNat
def k1_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_205 : BitVec 32 := 1#32
  let v179 : BitVec 32 := Scalar.muli v6 c1_i32_205
  let v180 : BitVec 32 := Scalar.addi c0_i32_206 v179
  v180.toNat
def k1_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_208 : BitVec 32 := 1#32
  let v181 : BitVec 32 := Scalar.muli v4 c1_i32_208
  let v182 : BitVec 32 := Scalar.addi c0_i32_209 v181
  v182.toNat
def k1_dev11 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_252 : BitVec 32 := 1#32
  let v213 : BitVec 32 := Scalar.muli v4 c1_i32_252
  let v214 : BitVec 32 := Scalar.addi c0_i32_253 v213
  v214.toNat
def k1_dev12 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_262 : BitVec 32 := 1#32
  let v223 : BitVec 32 := Scalar.muli v6 c1_i32_262
  let v224 : BitVec 32 := Scalar.addi c0_i32_263 v223
  v224.toNat
def k1_dev13 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_316 : BitVec 32 := 1#32
  let v270 : BitVec 32 := Scalar.muli v6 c1_i32_316
  let v271 : BitVec 32 := Scalar.addi c0_i32_317 v270
  v271.toNat
def k1_dev14 (d0 : Dev nD) : Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_319 : BitVec 32 := 1#32
  let v272 : BitVec 32 := Scalar.muli v4 c1_i32_319
  let v273 : BitVec 32 := Scalar.addi c0_i32_320 v272
  v273.toNat
def k1_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_363 : BitVec 32 := 1#32
  let v304 : BitVec 32 := Scalar.muli v4 c1_i32_363
  let v305 : BitVec 32 := Scalar.addi c0_i32_364 v304
  v305.toNat
def k1_dev16 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_373 : BitVec 32 := 1#32
  let v314 : BitVec 32 := Scalar.muli v6 c1_i32_373
  let v315 : BitVec 32 := Scalar.addi c0_i32_374 v314
  v315.toNat
def k1_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_386 : BitVec 32 := 1024#32
  let v340 : BitVec 32 := Scalar.muli v2 c1024_i32_386
  let c0_i32_387 : BitVec 32 := 0#32
  ![v340.toNat, 0]
def k1_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_396 : BitVec 32 := 1024#32
  let v359 : BitVec 32 := Scalar.muli v2 c1024_i32_396
  let c1024_i32_397 : BitVec 32 := 1024#32
  ![v359.toNat, 1024]
def k1_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_407 : BitVec 32 := 1024#32
  let v378 : BitVec 32 := Scalar.muli v2 c1024_i32_407
  let c2048_i32 : BitVec 32 := 2048#32
  ![v378.toNat, 2048]
def k1_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_416 : BitVec 32 := 1024#32
  let v397 : BitVec 32 := Scalar.muli v2 c1024_i32_416
  let c3072_i32 : BitVec 32 := 3072#32
  ![v397.toNat, 3072]
def k1_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_426 : BitVec 32 := 1024#32
  let v416 : BitVec 32 := Scalar.muli v2 c1024_i32_426
  let c4096_i32_427 : BitVec 32 := 4096#32
  ![v416.toNat, 4096]
def k1_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_437 : BitVec 32 := 1024#32
  let v435 : BitVec 32 := Scalar.muli v2 c1024_i32_437
  let c5120_i32 : BitVec 32 := 5120#32
  ![v435.toNat, 5120]
def k1_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_447 : BitVec 32 := 1024#32
  let v454 : BitVec 32 := Scalar.muli v2 c1024_i32_447
  let c6144_i32 : BitVec 32 := 6144#32
  ![v454.toNat, 6144]
def k1_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_457 : BitVec 32 := 1024#32
  let v473 : BitVec 32 := Scalar.muli v2 c1024_i32_457
  let c7168_i32 : BitVec 32 := 7168#32
  ![v473.toNat, 7168]
def k1_dev17 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_498 : BitVec 32 := 1#32
  let v504 : BitVec 32 := Scalar.muli v6 c1_i32_498
  let v505 : BitVec 32 := Scalar.addi c0_i32_499 v504
  v505.toNat
def k1_dev18 (d0 : Dev nD) : Nat :=
  let c0_i32_502 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_501 : BitVec 32 := 1#32
  let v506 : BitVec 32 := Scalar.muli v4 c1_i32_501
  let v507 : BitVec 32 := Scalar.addi c0_i32_502 v506
  v507.toNat
def k1_dev19 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_511 : BitVec 32 := 1#32
  let v508 : BitVec 32 := Scalar.muli v4 c1_i32_511
  let v509 : BitVec 32 := Scalar.addi c0_i32_512 v508
  v509.toNat
def k1_dev20 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_521 : BitVec 32 := 1#32
  let v518 : BitVec 32 := Scalar.muli v6 c1_i32_521
  let v519 : BitVec 32 := Scalar.addi c0_i32_522 v518
  v519.toNat
def k1_off12 (d0 : Dev nD) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_527 : BitVec 32 := 4#32
  let v528 : BitVec 32 := Scalar.addi v2 c4_i32_527
  let c1_i32_528 : BitVec 32 := 1#32
  let v529 : BitVec 32 := Scalar.subi v528 c1_i32_528
  let v530 : BitVec 32 := Scalar.subi v529 c0_i32_529
  let c4_i32_530 : BitVec 32 := 4#32
  let v531 : BitVec 32 := Scalar.remsi v530 c4_i32_530
  let c1024_i32_539 : BitVec 32 := 1024#32
  let v548 : BitVec 32 := Scalar.muli v531 c1024_i32_539
  let c0_i32_540 : BitVec 32 := 0#32
  ![v548.toNat, 0]
def k1_off13 (d0 : Dev nD) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_527 : BitVec 32 := 4#32
  let v528 : BitVec 32 := Scalar.addi v2 c4_i32_527
  let c1_i32_528 : BitVec 32 := 1#32
  let v529 : BitVec 32 := Scalar.subi v528 c1_i32_528
  let v530 : BitVec 32 := Scalar.subi v529 c0_i32_529
  let c4_i32_530 : BitVec 32 := 4#32
  let v531 : BitVec 32 := Scalar.remsi v530 c4_i32_530
  let c1024_i32_550 : BitVec 32 := 1024#32
  let v567 : BitVec 32 := Scalar.muli v531 c1024_i32_550
  let c1024_i32_551 : BitVec 32 := 1024#32
  ![v567.toNat, 1024]
def k1_off14 (d0 : Dev nD) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_527 : BitVec 32 := 4#32
  let v528 : BitVec 32 := Scalar.addi v2 c4_i32_527
  let c1_i32_528 : BitVec 32 := 1#32
  let v529 : BitVec 32 := Scalar.subi v528 c1_i32_528
  let v530 : BitVec 32 := Scalar.subi v529 c0_i32_529
  let c4_i32_530 : BitVec 32 := 4#32
  let v531 : BitVec 32 := Scalar.remsi v530 c4_i32_530
  let c1024_i32_561 : BitVec 32 := 1024#32
  let v586 : BitVec 32 := Scalar.muli v531 c1024_i32_561
  let c2048_i32_562 : BitVec 32 := 2048#32
  ![v586.toNat, 2048]
def k1_off15 (d0 : Dev nD) (c0_i32_529 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_527 : BitVec 32 := 4#32
  let v528 : BitVec 32 := Scalar.addi v2 c4_i32_527
  let c1_i32_528 : BitVec 32 := 1#32
  let v529 : BitVec 32 := Scalar.subi v528 c1_i32_528
  let v530 : BitVec 32 := Scalar.subi v529 c0_i32_529
  let c4_i32_530 : BitVec 32 := 4#32
  let v531 : BitVec 32 := Scalar.remsi v530 c4_i32_530
  let c1024_i32_572 : BitVec 32 := 1024#32
  let v605 : BitVec 32 := Scalar.muli v531 c1024_i32_572
  let c3072_i32_573 : BitVec 32 := 3072#32
  ![v605.toNat, 3072]
def k1_off16 (d0 : Dev nD) (c0_i32_576 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_575 : BitVec 32 := 1#32
  let v608 : BitVec 32 := Scalar.addi v2 c1_i32_575
  let v609 : BitVec 32 := Scalar.addi v608 c0_i32_576
  let c4_i32_577 : BitVec 32 := 4#32
  let v610 : BitVec 32 := Scalar.remsi v609 c4_i32_577
  let c1024_i32_586 : BitVec 32 := 1024#32
  let v627 : BitVec 32 := Scalar.muli v610 c1024_i32_586
  let c4096_i32_587 : BitVec 32 := 4096#32
  ![v627.toNat, 4096]
def k1_off17 (d0 : Dev nD) (c0_i32_576 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_575 : BitVec 32 := 1#32
  let v608 : BitVec 32 := Scalar.addi v2 c1_i32_575
  let v609 : BitVec 32 := Scalar.addi v608 c0_i32_576
  let c4_i32_577 : BitVec 32 := 4#32
  let v610 : BitVec 32 := Scalar.remsi v609 c4_i32_577
  let c1024_i32_597 : BitVec 32 := 1024#32
  let v646 : BitVec 32 := Scalar.muli v610 c1024_i32_597
  let c5120_i32_598 : BitVec 32 := 5120#32
  ![v646.toNat, 5120]
def k1_off18 (d0 : Dev nD) (c0_i32_576 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_575 : BitVec 32 := 1#32
  let v608 : BitVec 32 := Scalar.addi v2 c1_i32_575
  let v609 : BitVec 32 := Scalar.addi v608 c0_i32_576
  let c4_i32_577 : BitVec 32 := 4#32
  let v610 : BitVec 32 := Scalar.remsi v609 c4_i32_577
  let c1024_i32_608 : BitVec 32 := 1024#32
  let v665 : BitVec 32 := Scalar.muli v610 c1024_i32_608
  let c6144_i32_609 : BitVec 32 := 6144#32
  ![v665.toNat, 6144]
def k1_off19 (d0 : Dev nD) (c0_i32_576 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_575 : BitVec 32 := 1#32
  let v608 : BitVec 32 := Scalar.addi v2 c1_i32_575
  let v609 : BitVec 32 := Scalar.addi v608 c0_i32_576
  let c4_i32_577 : BitVec 32 := 4#32
  let v610 : BitVec 32 := Scalar.remsi v609 c4_i32_577
  let c1024_i32_619 : BitVec 32 := 1024#32
  let v684 : BitVec 32 := Scalar.muli v610 c1024_i32_619
  let c7168_i32_620 : BitVec 32 := 7168#32
  ![v684.toNat, 7168]
def k1_dev21 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_661 : BitVec 32 := 1#32
  let v715 : BitVec 32 := Scalar.muli v6 c1_i32_661
  let v716 : BitVec 32 := Scalar.addi c0_i32_662 v715
  v716.toNat
def k1_dev22 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_664 : BitVec 32 := 1#32
  let v717 : BitVec 32 := Scalar.muli v4 c1_i32_664
  let v718 : BitVec 32 := Scalar.addi c0_i32_665 v717
  v718.toNat
def k1_dev23 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_673 : BitVec 32 := 1#32
  let v719 : BitVec 32 := Scalar.muli v4 c1_i32_673
  let v720 : BitVec 32 := Scalar.addi c0_i32_674 v719
  v720.toNat
def k1_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_683 : BitVec 32 := 1#32
  let v729 : BitVec 32 := Scalar.muli v6 c1_i32_683
  let v730 : BitVec 32 := Scalar.addi c0_i32_684 v729
  v730.toNat
def k1_dev25 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_692 : BitVec 32 := 1#32
  let v739 : BitVec 32 := Scalar.muli v4 c1_i32_692
  let v740 : BitVec 32 := Scalar.addi c0_i32_693 v739
  v740.toNat
def k1_dev26 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_702 : BitVec 32 := 1#32
  let v749 : BitVec 32 := Scalar.muli v6 c1_i32_702
  let v750 : BitVec 32 := Scalar.addi c0_i32_703 v749
  v750.toNat
def k1_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_803 : BitVec 32 := 1#32
  let v918 : BitVec 32 := Scalar.addi v2 c1_i32_803
  let c4_i32_804 : BitVec 32 := 4#32
  let v919 : BitVec 32 := Scalar.remsi v918 c4_i32_804
  let c1024_i32_853 : BitVec 32 := 1024#32
  let v966 : BitVec 32 := Scalar.muli v919 c1024_i32_853
  let c0_i32_854 : BitVec 32 := 0#32
  ![v966.toNat, 0]
def k1_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_803 : BitVec 32 := 1#32
  let v918 : BitVec 32 := Scalar.addi v2 c1_i32_803
  let c4_i32_804 : BitVec 32 := 4#32
  let v919 : BitVec 32 := Scalar.remsi v918 c4_i32_804
  let c1024_i32_864 : BitVec 32 := 1024#32
  let v985 : BitVec 32 := Scalar.muli v919 c1024_i32_864
  let c1024_i32_865 : BitVec 32 := 1024#32
  ![v985.toNat, 1024]
def k1_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_805 : BitVec 32 := 3#32
  let v920 : BitVec 32 := Scalar.addi v2 c3_i32_805
  let c4_i32_806 : BitVec 32 := 4#32
  let v921 : BitVec 32 := Scalar.remsi v920 c4_i32_806
  let c1024_i32_875 : BitVec 32 := 1024#32
  let v1004 : BitVec 32 := Scalar.muli v921 c1024_i32_875
  let c4096_i32_876 : BitVec 32 := 4096#32
  ![v1004.toNat, 4096]
def k1_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_805 : BitVec 32 := 3#32
  let v920 : BitVec 32 := Scalar.addi v2 c3_i32_805
  let c4_i32_806 : BitVec 32 := 4#32
  let v921 : BitVec 32 := Scalar.remsi v920 c4_i32_806
  let c1024_i32_886 : BitVec 32 := 1024#32
  let v1023 : BitVec 32 := Scalar.muli v921 c1024_i32_886
  let c5120_i32_887 : BitVec 32 := 5120#32
  ![v1023.toNat, 5120]
def k1_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_803 : BitVec 32 := 1#32
  let v918 : BitVec 32 := Scalar.addi v2 c1_i32_803
  let c4_i32_804 : BitVec 32 := 4#32
  let v919 : BitVec 32 := Scalar.remsi v918 c4_i32_804
  let c1024_i32_935 : BitVec 32 := 1024#32
  let v1070 : BitVec 32 := Scalar.muli v919 c1024_i32_935
  let c2048_i32_936 : BitVec 32 := 2048#32
  ![v1070.toNat, 2048]
def k1_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_803 : BitVec 32 := 1#32
  let v918 : BitVec 32 := Scalar.addi v2 c1_i32_803
  let c4_i32_804 : BitVec 32 := 4#32
  let v919 : BitVec 32 := Scalar.remsi v918 c4_i32_804
  let c1024_i32_946 : BitVec 32 := 1024#32
  let v1089 : BitVec 32 := Scalar.muli v919 c1024_i32_946
  let c3072_i32_947 : BitVec 32 := 3072#32
  ![v1089.toNat, 3072]
def k1_off26 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_805 : BitVec 32 := 3#32
  let v920 : BitVec 32 := Scalar.addi v2 c3_i32_805
  let c4_i32_806 : BitVec 32 := 4#32
  let v921 : BitVec 32 := Scalar.remsi v920 c4_i32_806
  let c1024_i32_957 : BitVec 32 := 1024#32
  let v1108 : BitVec 32 := Scalar.muli v921 c1024_i32_957
  let c6144_i32_958 : BitVec 32 := 6144#32
  ![v1108.toNat, 6144]
def k1_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_805 : BitVec 32 := 3#32
  let v920 : BitVec 32 := Scalar.addi v2 c3_i32_805
  let c4_i32_806 : BitVec 32 := 4#32
  let v921 : BitVec 32 := Scalar.remsi v920 c4_i32_806
  let c1024_i32_968 : BitVec 32 := 1024#32
  let v1127 : BitVec 32 := Scalar.muli v921 c1024_i32_968
  let c7168_i32_969 : BitVec 32 := 7168#32
  ![v1127.toNat, 7168]
abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== SiluIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Hold.lean ====
/-
# Holding a set of a buffer's elements at named contents

A buffer is seen through a memref `M`; `B` is a set of `M`'s indices. `hold c M B q Y` says that core `c` holds the elements
under `B`, at share `q`, and that reading them through `M` gives `Y`; `anyHold` leaves the contents open. The lemmas split and
join such holdings along index sets and along shares, read a rectangle, write a rectangle, and state what a transfer between two
slices leaves. They name no program.
-/
module

public import Idealize.ShloMosaic.Lib.Rounds
public import Idealize.ShloMosaic.Lib.Transfers
public import Idealize.ShloMosaic.Lib.Tactic
public import Idealize.ShloMosaic.Lib.Pipeline.Value
public import Idealize.ShloMosaic.Lib.ValueIdx
public import Idealize.ShloMosaic.Harness.Basic

@[expose] public section

noncomputable section

namespace Cert.Hold

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]
variable {sp sp' : Space} {s s' : Shape} {e : EltTy}

local notation "𝕄" => MT nD τ sig Ix Val Name U Lvl

section Basic

variable (c : Dev nD) (M : Memref sig .tc sp s e)

/-- The elements under `B`, at share `q`, reading as `Y`. -/
def hold (B : Finset s.Idx) (q : PosShare TreeShare) (Y : s.Idx → Val e) : sProp 𝕄 :=
  iprop(∃ f : Buf Val (M.view.loc (c : Thread nD τ)), ⌜∀ x ∈ B, M.view.read Val f x = Y x⌝
    ∗ (M.view.loc (c : Thread nD τ) ↦[M.view.setOn B]{q} f))

/-- The elements under `B`, at share `q`, at some contents. -/
def anyHold (B : Finset s.Idx) (q : PosShare TreeShare) : sProp 𝕄 :=
  iprop(∃ f : Buf Val (M.view.loc (c : Thread nD τ)), M.view.loc (c : Thread nD τ) ↦[M.view.setOn B]{q} f)

instance hold_storable (B : Finset s.Idx) (q : PosShare TreeShare) (Y : s.Idx → Val e) :
    BI.Storable (upEmb : UEmb _ 𝕄) (hold c M B q Y : sProp 𝕄) := by unfold hold; infer_instance
instance anyHold_storable (B : Finset s.Idx) (q : PosShare TreeShare) :
    BI.Storable (upEmb : UEmb _ 𝕄) (anyHold c M B q : sProp 𝕄) := by unfold anyHold; infer_instance

variable {c M}

/-- Forgetting the contents. -/
theorem hold_any {B : Finset s.Idx} {q : PosShare TreeShare} {Y : s.Idx → Val e} : (hold c M B q Y : sProp 𝕄) ⊢ anyHold c M B q := by
  unfold hold anyHold
  iintro ⟨%f, -, H⟩
  iexists f; iexact H

/-- Contents equal on the set may be exchanged. -/
theorem hold_congr {B : Finset s.Idx} {q : PosShare TreeShare} {Y Y' : s.Idx → Val e} (h : ∀ x ∈ B, Y x = Y' x) :
    (hold c M B q Y : sProp 𝕄) ⊢ hold c M B q Y' := by
  unfold hold
  iintro ⟨%f, %hf, H⟩
  iexists f
  isplitr
  · ipureintro; intro x hx; rw [hf x hx, h x hx]
  · iexact H

theorem setOn_union (B B' : Finset s.Idx) : M.view.setOn (B ∪ B') = M.view.setOn B ∪ M.view.setOn B' := by
  unfold View.setOn; exact Finset.map_union _ _
theorem setOn_disjoint {B B' : Finset s.Idx} (h : Disjoint B B') : Disjoint (M.view.setOn B) (M.view.setOn B') := by
  unfold View.setOn; exact (Finset.disjoint_map _).mpr h
theorem setOn_mono {B B' : Finset s.Idx} (h : B ⊆ B') : M.view.setOn B ⊆ M.view.setOn B' := by
  unfold View.setOn; exact Finset.map_subset_map.mpr h

/-- Splitting along two disjoint sets. -/
theorem hold_split {B B' : Finset s.Idx} {q : PosShare TreeShare} {Y : s.Idx → Val e} (h : Disjoint B B') :
    (hold c M (B ∪ B') q Y : sProp 𝕄) ⊢ iprop(hold c M B q Y ∗ hold c M B' q Y) := by
  unfold hold
  rw [setOn_union]
  iintro ⟨%f, %hf, H⟩
  ihave H2 := (pointsTo_union (setOn_disjoint (M := M) h)).1 $$ H
  icases H2 with ⟨H1, H2⟩
  isplitl [H1]
  · iexists f
    isplitr
    · ipureintro; exact fun x hx => hf x (Finset.mem_union_left _ hx)
    · iexact H1
  · iexists f
    isplitr
    · ipureintro; exact fun x hx => hf x (Finset.mem_union_right _ hx)
    · iexact H2

theorem any_split {B B' : Finset s.Idx} {q : PosShare TreeShare} (h : Disjoint B B') :
    (anyHold c M (B ∪ B') q : sProp 𝕄) ⊢ iprop(anyHold c M B q ∗ anyHold c M B' q) := by
  unfold anyHold
  rw [setOn_union]
  iintro ⟨%f, H⟩
  ihave H2 := (pointsTo_union (setOn_disjoint (M := M) h)).1 $$ H
  icases H2 with ⟨H1, H2⟩
  isplitl [H1]
  · iexists f; iexact H1
  · iexists f; iexact H2

/-- Joining along two disjoint sets, the contents forgotten. -/
theorem any_join {B B' : Finset s.Idx} {q : PosShare TreeShare} (h : Disjoint B B') :
    iprop(anyHold c M B q ∗ anyHold c M B' q) ⊢ (anyHold c M (B ∪ B') q : sProp 𝕄) := by
  unfold anyHold
  rw [setOn_union]
  iintro ⟨⟨%f, H⟩, ⟨%g, H'⟩⟩
  iexists _
  iapply (pointsTo_join (setOn_disjoint (M := M) h))
  isplitl [H]; · iexact H
  iexact H'

/-- Two half shares of one set are the whole share, and back. -/
theorem hold_share {B : Finset s.Idx} {Y : s.Idx → Val e} :
    (hold c M B fullShare Y : sProp 𝕄) ⊢ iprop(hold c M B fullShare.left Y ∗ hold c M B fullShare.right Y) := by
  unfold hold
  iintro ⟨%f, %hf, H⟩
  ihave H2 := (pointsTo_share (PosShare.mem_left_op_right fullShare)).1 $$ H
  icases H2 with ⟨H1, H2⟩
  isplitl [H1]
  · iexists f
    isplitr; · ipureintro; exact hf
    iexact H1
  · iexists f
    isplitr; · ipureintro; exact hf
    iexact H2

theorem hold_unshare {B : Finset s.Idx} {Y Y' : s.Idx → Val e} :
    iprop(hold c M B fullShare.left Y ∗ hold c M B fullShare.right Y') ⊢ (hold c M B fullShare Y : sProp 𝕄) := by
  unfold hold
  iintro ⟨⟨%f, %hf, H⟩, ⟨%g, %hg, H'⟩⟩
  ihave #Hag := (pointsTo_agree) $$ [H H']
  · isplitl [H]; · iexact H
    iexact H'
  icases Hag with %ha
  iexists f
  isplitr; · ipureintro; exact hf
  iapply (pointsTo_share (PosShare.mem_left_op_right fullShare)).2
  isplitl [H]; · iexact H
  rw [pointsTo_congr (f := f) (g := g) fun i hi => (ha i (Finset.mem_inter.mpr ⟨hi, hi⟩)).1]
  iexact H'

/-- A rectangle inside the held set reads the named contents. -/
theorem readAt_hold {B : Finset s.Idx} {Y : s.Idx → Val e} {f : Buf Val (M.view.loc (c : Thread nD τ))} (r : Rect s) (hr : r.set ⊆ B)
    (hf : ∀ x ∈ B, M.view.read Val f x = Y x) : M.view.readAt Val r.toLoadRect f = fun i => Y (r.emb i) :=
  funext fun i => by
    rw [View.readAt_rect]
    show M.view.read Val f (r.emb i) = _
    exact hf _ (hr (by rw [← Rect.map_emb_univ]; exact Finset.mem_map_of_mem _ (Finset.mem_univ i)))

/-- Writing a rectangle inside the held set. -/
theorem write_hold {B : Finset s.Idx} {Y Y' : s.Idx → Val e} {f : Buf Val (M.view.loc (c : Thread nD τ))} (r : Rect s)
    (w : r.shape.Idx → Val e) (hf : ∀ x ∈ B, M.view.read Val f x = Y x)
    (hin : ∀ i, w i = Y' (r.emb i)) (hout : ∀ x ∈ B, x ∉ r.set → Y x = Y' x) :
    ∀ x ∈ B, M.view.read Val ((M.view.slice r).write Val f w Finset.univ) x = Y' x := by
  intro x hx
  by_cases h : x ∈ r.set
  · rw [← Rect.map_emb_univ] at h
    obtain ⟨i, -, rfl⟩ := Finset.mem_map.mp h
    rw [View.read_slice_write_emb r f w (Finset.mem_univ i), hin]
  · rw [View.read_slice_write_of_not_mem _ _ _ _ (by rw [Rect.map_emb_univ]; exact h), hf x hx, hout x hx h]

/-- The elements of a rectangle's slice, those under the rectangle's indices. -/
theorem slice_set (r : Rect s) : (M.view.slice r).set = M.view.setOn r.set := View.set_slice _ r

/-- Every element under a memref of a whole buffer. -/
theorem setOn_univ_of_whole (b : Ref sig .tc) : (Memref.whole b : Memref sig .tc _ _ _).view.setOn Finset.univ = Finset.univ :=
  View.setOn_whole_univ b

/-- The whole of a buffer, contents open. -/
theorem any_whole (b : Ref sig .tc) (q : PosShare TreeShare) :
    (anyHold c (Memref.whole b) Finset.univ q : sProp 𝕄) = iprop(∃ f : Buf Val ((c : Thread nD τ).loc b), ((c : Thread nD τ).loc b) ↦{q} f) := by
  unfold anyHold
  rw [setOn_univ_of_whole]

end Basic

section Squeeze

variable {M : Memref sig .tc sp s e}

/-- A slice seen at another shape of as many elements. -/
abbrev part (M : Memref sig .tc sp s e) (r : Rect s) (h1 : ∀ a, r.stride a = 1) (s' : Shape) (hq : r.shape.Squeezes s') : Memref sig .tc sp s' e :=
  (M.slice r h1).squeeze s' hq

theorem part_set (r : Rect s) (h1 : ∀ a, r.stride a = 1) (hq : r.shape.Squeezes s') :
    (part M r h1 s' hq).view.set = M.view.setOn r.set := by
  show ((M.view.slice r).reshape s' _).set = _
  rw [View.set_reshape, View.set_slice]; rfl

/-- Copying one slice to another, both seen at one shape: the target slice reads as the source slice did. -/
theorem part_copy {sp₂ : Space} {t : Shape} {N : Memref sig .tc sp₂ t e} (r : Rect s) (h1 : ∀ a, r.stride a = 1) (hq : r.shape.Squeezes s')
    (r₂ : Rect t) (h1₂ : ∀ a, r₂.stride a = 1) (hq₂ : r₂.shape.Squeezes s') (fs : M.view.ty.Contents Val) (fd : N.view.ty.Contents Val)
    (i₂ : r₂.shape.Idx) (i : r.shape.Idx) (hi : Shape.reshapeEquiv hq₂.numel_eq.symm i₂ = Shape.reshapeEquiv hq.numel_eq.symm i) :
    N.view.read Val ((part N r₂ h1₂ s' hq₂).view.write Val fd ((part M r h1 s' hq).view.read Val fs) Finset.univ) (r₂.emb i₂)
      = M.view.read Val fs (r.emb i) := by
  have h := congrFun (View.read_write_univ (v := (part N r₂ h1₂ s' hq₂).view) fd ((part M r h1 s' hq).view.read Val fs))
    (Shape.reshapeEquiv hq₂.numel_eq.symm i₂)
  have e2 : ∀ f : N.view.ty.Contents Val, (part N r₂ h1₂ s' hq₂).view.read Val f (Shape.reshapeEquiv hq₂.numel_eq.symm i₂) = N.view.read Val f (r₂.emb i₂) := by
    intro f
    show N.view.read Val f (r₂.emb (Shape.reshapeEquiv _ (Shape.reshapeEquiv _ i₂))) = _
    rw [Shape.reshapeEquiv_reshapeEquiv, Shape.reshapeEquiv_self]
  have e1 : (part M r h1 s' hq).view.read Val fs (Shape.reshapeEquiv hq.numel_eq.symm i) = M.view.read Val fs (r.emb i) := by
    show M.view.read Val fs (r.emb (Shape.reshapeEquiv _ (Shape.reshapeEquiv _ i))) = _
    rw [Shape.reshapeEquiv_reshapeEquiv, Shape.reshapeEquiv_self]
  rw [e2] at h
  rw [h, hi, e1]

end Squeeze

end Cert.Hold
-- ==== Proof.KernelIdeal.Common.lean ====
/-
# The ring protocol of the kernel: cells, contents, schedule

Each device passes partial sums round the ring in both directions at once. A direction is a `Bool`: `true` to the right
neighbour, `false` to the left one. In each direction a device sends seven times (`e : Fin 7`): five whole slots, then the
two column halves of one slot. This module names the semaphore cells, the contents of every transfer, the schedule of who
pays which cell with what, and what each device still owes.
-/
module

public import proofs.«01_k».proof.Proof.Hold
public import proofs.«01_k».proof.Proof.Gen.KernelIdeal.Launch
public import Idealize.ShloMosaic.Lib.Pipeline.RegionTalk

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the protocol's, and the local transfers' counters -/

abbrev UB : Type := URounds (GSem nD τ sig) Bool
abbrev UU : Type := UR sig nD τ × (UB × Counters)

abbrev 𝒱₀ : Variants := Variants.none

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
abbrev EC : UEmb Counters (MT nD τ sig ℕ (Elt F) ℕ UU ℕ) := countersEmb (U := UU)

instance ER_landsIn : (ER : Emb UB 𝕄).LandsIn (upEmb : UEmb _ 𝕄) := by unfold ER; infer_instance

/-! ## The ring -/

/-- The device `n` places to the right. -/
def sh (c : Dev nD) (n : ℕ) : Dev nD := ⟨(c.val + n) % 4, Nat.mod_lt _ (by decide)⟩
/-- The neighbour a direction leads to, and the one it comes from. -/
abbrev dn : Bool → Dev nD → Dev nD | true, c => sh c 1 | false, c => sh c 3
abbrev fro : Bool → Dev nD → Dev nD | true, c => sh c 3 | false, c => sh c 1

theorem sh_sh (c : Dev nD) (a b : ℕ) : sh (sh c a) b = sh c (a + b) := by
  apply Fin.ext; simp only [sh]; omega
theorem dn_fro (d : Bool) (c : Dev nD) : dn d (fro d c) = c := by revert d c; decide
theorem fro_dn (d : Bool) (c : Dev nD) : fro d (dn d c) = c := by revert d c; decide

/-! ## Buffers -/

/-- The two-slot buffer of a direction, the buffer its own block is loaded to, the result's staging buffer, the partial
    product and the result. -/
abbrev commM : Bool → Memref sig .tc .vmem S2x1024x4096 .bf16 | true => Memref.whole cc1_scratch0 | false => Memref.whole cc1_scratch1
abbrev ownM : Bool → Memref sig .tc .vmem S1024x4096 .bf16 | true => Memref.whole cc1_scratch2 | false => Memref.whole cc1_scratch3
abbrev outbM : Memref sig .tc .vmem S1024x1024 .f32 := Memref.whole cc1_scratch4
abbrev pM : Memref sig .tc .hbm S4096x8192 .bf16 := Memref.whole main_v3
abbrev outM : Memref sig .tc .hbm S4096x8192 .f32 := Memref.whole main_v5

/-- Slot `a`, whole and by column halves, as the transfers name it. -/
abbrev slotM (d : Bool) : Fin 2 → Memref sig .tc .vmem S1024x4096 .bf16
  | 0 => part (commM d) (Rect.unit (s := S2x1024x4096) ![0, 0, 0] S1x1024x4096.size inb_S2x1024x4096_S1x1024x4096_0_0_0) (fun _ => rfl) S1024x4096 squeezes_S1x1024x4096_S1024x4096
  | 1 => part (commM d) (Rect.unit (s := S2x1024x4096) ![1, 0, 0] S1x1024x4096.size inb_S2x1024x4096_S1x1024x4096_1_0_0) (fun _ => rfl) S1024x4096 squeezes_S1x1024x4096_S1024x4096

/-- The elements of slot `a` in columns `[c0, c0 + w)`. -/
def box (a c0 w : ℕ) : Finset S2x1024x4096.Idx :=
  Finset.univ.filter fun x => (x 0).val = a ∧ c0 ≤ (x 2).val ∧ (x 2).val < c0 + w

theorem mem_box {a c0 w : ℕ} {x : S2x1024x4096.Idx} : x ∈ box a c0 w ↔ (x 0).val = a ∧ c0 ≤ (x 2).val ∧ (x 2).val < c0 + w := by
  unfold box; rw [Finset.mem_filter]; exact and_iff_right (Finset.mem_univ _)

/-- A slot's elements as a function of the block's row and column. -/
abbrev on {e : EltTy} (X : S1024x4096.Idx → Elt F e) : S2x1024x4096.Idx → Elt F e := fun x => X (ix2 (x 1) (x 2))

theorem rect_box (a c0 w : ℕ) (inb) (h : c0 + w ≤ 4096) :
    (Rect.unit (s := S2x1024x4096) ![a, 0, c0] ![1, 1024, w] inb).set = box a c0 w := by
  ext x
  rw [Rect.mem_set_unit, mem_box]
  constructor
  · intro hx
    have h0 : a ≤ (x 0).val ∧ (x 0).val < a + 1 := hx 0
    have h2 : c0 ≤ (x 2).val ∧ (x 2).val < c0 + w := hx 2
    exact ⟨by omega, h2⟩
  · rintro ⟨h0, h1, h2⟩ i
    match i with
    | ⟨0, _⟩ => exact ⟨le_of_eq h0.symm, (show (x 0).val < a + 1 by omega)⟩
    | ⟨1, _⟩ => exact ⟨Nat.zero_le _, (show (x 1).val < 0 + 1024 from by have := (x 1).isLt; rw [Nat.zero_add]; exact this)⟩
    | ⟨2, _⟩ => exact ⟨h1, h2⟩

theorem box_halves (a : ℕ) : box a 0 4096 = box a 0 2048 ∪ box a 2048 2048 := by
  ext x; rw [Finset.mem_union, mem_box, mem_box, mem_box]; omega
theorem box_disj (a : ℕ) : Disjoint (box a 0 2048) (box a 2048 2048) := by
  rw [Finset.disjoint_left]; intro x; rw [mem_box, mem_box]; omega
theorem box_slots : (Finset.univ : Finset S2x1024x4096.Idx) = box 0 0 4096 ∪ box 1 0 4096 := by
  ext x
  have h0 : (x 0).val < 2 := (x 0).isLt
  have h2 : (x 2).val < 4096 := (x 2).isLt
  rw [Finset.mem_union, mem_box, mem_box]; simp only [Finset.mem_univ, true_iff]; omega
theorem box_slots_disj : Disjoint (box 0 0 4096) (box 1 0 4096) := by
  rw [Finset.disjoint_left]; intro x; rw [mem_box, mem_box]; omega

/-! ## Semaphores -/

/-- What a cell is for: the send side of a direction (two, used in turn), the receive side (one per transfer), the credit of
    a direction, the barrier. -/
inductive CK | send (d : Bool) (a : Fin 2) | recv (d : Bool) (e : Fin 7) | cred (d : Bool) | bar | other
  deriving DecidableEq

def sendS (d : Bool) (a : Fin 2) : DmaSem sig := ⟨(if d then 5 else 7) + a.val, by revert d a; decide⟩
def recvS (d : Bool) (e : Fin 7) : DmaSem sig := ⟨(if d then 9 else 16) + e.val, by revert d e; decide⟩
def credS (d : Bool) : Sem sig := ⟨if d then 0 else 1, by revert d; decide⟩

def semOf : CK → SemLoc sig
  | .send d a => .dma (sendS d a) | .recv d e => .dma (recvS d e) | .cred d => .reg (credS d) | .bar => .reg barrier0 | .other => .dma 0

def kd : SemLoc sig → CK
  | .reg i => if i.val = 0 then .cred true else if i.val = 1 then .cred false else .bar
  | .dma i => if 5 ≤ i.val ∧ i.val < 7 then .send true ⟨(i.val - 5) % 2, Nat.mod_lt _ (by decide)⟩
    else if 7 ≤ i.val ∧ i.val < 9 then .send false ⟨(i.val - 7) % 2, Nat.mod_lt _ (by decide)⟩
    else if 9 ≤ i.val ∧ i.val < 16 then .recv true ⟨(i.val - 9) % 7, Nat.mod_lt _ (by decide)⟩
    else if 16 ≤ i.val ∧ i.val < 23 then .recv false ⟨(i.val - 16) % 7, Nat.mod_lt _ (by decide)⟩ else .other

theorem kd_send (d : Bool) (a : Fin 2) : kd (.dma (sendS d a)) = .send d a := by revert d a; decide
theorem kd_recv (d : Bool) (e : Fin 7) : kd (.dma (recvS d e)) = .recv d e := by revert d e; decide
theorem kd_cred (d : Bool) : kd (.reg (credS d)) = .cred d := by revert d; decide
theorem kd_bar : kd (.reg barrier0) = .bar := by decide

abbrev sendC (d : Bool) (a : Fin 2) (c : Dev nD) : GSem nD τ sig := ((c : Thread nD τ), .dma (sendS d a))
abbrev recvC (d : Bool) (e : Fin 7) (c : Dev nD) : GSem nD τ sig := ((c : Thread nD τ), .dma (recvS d e))
abbrev credC (d : Bool) (c : Dev nD) : GSem nD τ sig := ((c : Thread nD τ), .reg (credS d))
abbrev barC (c : Dev nD) : GSem nD τ sig := ((c : Thread nD τ), .reg barrier0)

/-! ## The transfers -/

/-- Of transfer `e`: the slot sent and its columns, the share of it lent, the slot it lands in, the ring step it belongs to,
    and the send cell and round it completes on. -/
abbrev slotE : Fin 7 → Fin 2 | 0 => 0 | 1 => 1 | 2 => 0 | 3 => 1 | 4 => 0 | 5 => 1 | 6 => 1
abbrev landE : Fin 7 → Fin 2 | 0 => 1 | 1 => 0 | 2 => 1 | 3 => 0 | 4 => 1 | 5 => 0 | 6 => 0
abbrev colE : Fin 7 → ℕ | 0 => 0 | 1 => 0 | 2 => 0 | 3 => 0 | 4 => 0 | 5 => 0 | 6 => 2048
abbrev widE : Fin 7 → ℕ | 0 => 4096 | 1 => 4096 | 2 => 4096 | 3 => 4096 | 4 => 4096 | 5 => 2048 | 6 => 2048
abbrev qE : Fin 7 → PosShare TreeShare
  | 0 => fullShare | 1 => fullShare | 2 => fullShare | 3 => fullShare.left | 4 => fullShare.left | 5 => fullShare.left | 6 => fullShare.left
abbrev tmE : Fin 7 → ℕ | 0 => 0 | 1 => 1 | 2 => 2 | 3 => 3 | 4 => 4 | 5 => 5 | 6 => 5
abbrev celE : Fin 7 → Fin 2 | 0 => 0 | 1 => 1 | 2 => 0 | 3 => 1 | 4 => 0 | 5 => 1 | 6 => 0
abbrev rndE : Fin 7 → ℕ | 0 => 0 | 1 => 0 | 2 => 1 | 3 => 1 | 4 => 2 | 5 => 2 | 6 => 3
/-- The transfer of a send cell's round. -/
def evOf (a : Fin 2) (r : ℕ) : Fin 7 := ⟨(2 * r + a.val) % 7, Nat.mod_lt _ (by decide)⟩
theorem evOf_eq (e : Fin 7) : evOf (celE e) (rndE e) = e := by revert e; decide

/-- What a transfer of a whole slot, and of half a slot, raises its cells by. -/
def NF : ℕ := (slotM true 0).view.dmaCredit
def NH : ℕ := (part (commM true) (Rect.unit (s := S2x1024x4096) ![0, 0, 0] S1x1024x2048.size inb_S2x1024x4096_S1x1024x2048_0_0_0) (fun _ => rfl) S1024x2048 squeezes_S1x1024x2048_S1024x2048).view.dmaCredit
abbrev NE : Fin 7 → ℕ | 0 => NF | 1 => NF | 2 => NF | 3 => NF | 4 => NF | 5 => NH | 6 => NH
theorem NF_pos : 0 < NF := View.dmaCredit_pos _ (by decide)
theorem NH_pos : 0 < NH := View.dmaCredit_pos _ (by decide)
theorem NE_pos (e : Fin 7) : 0 < NE e := by
  match e with
  | 0 | 1 | 2 | 3 | 4 => exact NF_pos
  | 5 | 6 => exact NH_pos

/-! ## The contents -/

/-- Row block `k` of a partial product, the columns of a direction. -/
def chunk (d : Bool) (p : S4096x8192.Idx → Elt F .bf16) (k : Dev nD) : S1024x4096.Idx → Elt F .bf16 :=
  fun x => p (ix2 ⟨1024 * k.val + (x 0).val, by have h := (x 0).isLt; have hk : k.val < 4 := k.isLt; simp only [Matrix.cons_val_zero] at h; omega⟩
    ⟨(if d then 0 else 4096) + (x 1).val, by have h : (x 1).val < 4096 := (x 1).isLt; cases d <;> simp <;> omega⟩)

/-- The block a device starts with, and the one it adds at step `t`. -/
abbrev k0 : Bool → Dev nD → Dev nD | true, c => sh c 3 | false, c => sh c 1
abbrev own : Bool → ℕ → Dev nD → Dev nD | true, t, c => sh c (2 - t) | false, t, c => sh c (2 + t)

variable (P : Dev nD → S4096x8192.Idx → Elt F .bf16) (sc : Dev nD → Elt F .f32)

/-- What device `c` sends at step `t`. -/
def X (d : Bool) : ℕ → Dev nD → (S1024x4096.Idx → Elt F .bf16)
  | 0, c => chunk d (P c) (k0 d c)
  | t + 1, c => if t < 3 then addf (φ := .bf16) (X d t (fro d c)) (chunk d (P c) (own d t c)) else X d t (fro d c)

theorem X_zero (d : Bool) (c : Dev nD) : X P d 0 c = chunk d (P c) (k0 d c) := rfl
theorem X_add (d : Bool) (t : ℕ) (ht : t < 3) (c : Dev nD) :
    X P d (t + 1) c = addf (φ := .bf16) (X P d t (fro d c)) (chunk d (P c) (own d t c)) := if_pos ht
theorem X_pass (d : Bool) (t : ℕ) (ht : 3 ≤ t) (c : Dev nD) : X P d (t + 1) c = X P d t (fro d c) := if_neg (Nat.not_lt.mpr ht)

/-! ## The schedule -/

/-- Paid to device `c`'s barrier by its neighbour in direction `d`: that neighbour's landing slot, and that its receive cells
    stand at round 0. -/
def barPay (d : Bool) (c : Dev nD) : sProp 𝕄 :=
  iprop(anyHold (dn d c) (commM d) (box 1 0 4096) fullShare ∗ bigSep Finset.univ fun e : Fin 7 => reached ER (recvC d e (dn d c)) 0)
/-- Back to the sender when transfer `e` is read. -/
def sendPay (d : Bool) (e : Fin 7) (c : Dev nD) : sProp 𝕄 :=
  hold c (commM d) (box (slotE e).val (colE e) (widE e)) (qE e) (on (X P d (tmE e) c))
/-- That device `c`'s credit cell stands at the round a whole-slot transfer `e` goes with. -/
def crE (d : Bool) (c : Dev nD) (e : Fin 7) : sProp 𝕄 := if e.val < 5 then reached ER (credC d c) e.val else iprop(emp)
instance crE_persistent (d : Bool) (c : Dev nD) (e : Fin 7) : Persistent (crE (F := F) d c e) := by
  unfold crE; split <;> infer_instance
theorem crE_lt {d : Bool} {c : Dev nD} {e : Fin 7} (h : e.val < 5) : crE (F := F) d c e = reached ER (credC d c) e.val := if_pos h
theorem crE_ge {d : Bool} {c : Dev nD} {e : Fin 7} (h : ¬ e.val < 5) : crE (F := F) d c e = iprop(emp) := if_neg h
/-- To the receiver when transfer `e` lands: the slot at what was sent, and where the sender's credit cell stands. -/
def recvPay (d : Bool) (e : Fin 7) (c : Dev nD) : sProp 𝕄 :=
  iprop(hold c (commM d) (box (landE e).val (colE e) (widE e)) fullShare (on (X P d (tmE e) (fro d c)))
    ∗ crE d (fro d c) e)
/-- A credit: the neighbour's slot is free again. -/
def credPay (d : Bool) (r : ℕ) (c : Dev nD) : sProp 𝕄 := anyHold (dn d c) (commM d) (box (r % 2) 0 4096) fullShare

def rd : Rounds.Schedule (GSem nD τ sig) Bool 𝕄 where
  duties g r := if g.1.2 = .tc then (match kd g.2 with
    | .bar => if r = 0 then Finset.univ else ∅
    | .send _ a => if 2 * r + a.val < 7 then {false} else ∅
    | .recv _ _ => if r = 0 then {false} else ∅
    | .cred _ => if r < 5 then {false} else ∅
    | .other => ∅) else ∅
  unitless _ := False
  amount g r _ := match kd g.2 with
    | .send _ a => NE (evOf a r) | .recv _ e => NE e | _ => 1
  payload g r d := match kd g.2 with
    | .bar => barPay d g.1.1
    | .send d' a => sendPay P d' (evOf a r) g.1.1
    | .recv d' e => recvPay P d' e g.1.1
    | .cred d' => credPay d' r g.1.1
    | .other => iprop(emp)
  amount_pos g r _ _ := by
    cases kd g.2 <;> first | exact NE_pos _ | exact Nat.one_pos

instance rd_storable (g : GSem nD τ sig) (r : ℕ) (d : Bool) : BI.Storable (upEmb : UEmb _ 𝕄) ((rd (F := F) P).payload g r d) := by
  show BI.Storable upEmb (match kd g.2 with
    | .bar => barPay d g.1.1 | .send d' a => sendPay P d' (evOf a r) g.1.1 | .recv d' e => recvPay P d' e g.1.1
    | .cred d' => credPay d' r g.1.1 | .other => iprop(emp))
  unfold barPay recvPay sendPay credPay crE
  (repeat' split) <;> infer_instance

section Sched
variable (c : Dev nD) (d : Bool)

theorem duties_bar : (rd (F := F) P).duties (barC c) 0 = Finset.univ := by
  dsimp only [rd]; rw [if_pos rfl, kd_bar]; rfl
theorem duties_send (e : Fin 7) : (rd (F := F) P).duties (sendC d (celE e) c) (rndE e) = {false} := by
  dsimp only [rd]; rw [if_pos rfl, kd_send]; exact if_pos (by revert e; decide)
theorem duties_recv (e : Fin 7) : (rd (F := F) P).duties (recvC d e c) 0 = {false} := by
  dsimp only [rd]; rw [if_pos rfl, kd_recv]; rfl
theorem duties_cred (t : ℕ) (ht : t < 5) : (rd (F := F) P).duties (credC d c) t = {false} := by
  dsimp only [rd]; rw [if_pos rfl, kd_cred]; exact if_pos ht

theorem later_bar : ∀ r, 1 ≤ r → (rd (F := F) P).duties (barC c) r = ∅ := fun r hr => by
  dsimp only [rd]; rw [if_pos rfl, kd_bar]; exact if_neg (by omega)
theorem later_send (a : Fin 2) : ∀ r, (4 - a.val) ≤ r → (rd (F := F) P).duties (sendC d a c) r = ∅ := fun r hr => by
  dsimp only [rd]; rw [if_pos rfl, kd_send]; exact if_neg (by have := a.isLt; omega)
theorem later_recv (e : Fin 7) : ∀ r, 1 ≤ r → (rd (F := F) P).duties (recvC d e c) r = ∅ := fun r hr => by
  dsimp only [rd]; rw [if_pos rfl, kd_recv]; exact if_neg (by omega)
theorem later_cred : ∀ r, 5 ≤ r → (rd (F := F) P).duties (credC d c) r = ∅ := fun r hr => by
  dsimp only [rd]; rw [if_pos rfl, kd_cred]; exact if_neg (by omega)

theorem amount_bar (u : Bool) : (rd (F := F) P).amount (barC c) 0 u = 1 := by dsimp only [rd]; rw [kd_bar]
theorem amount_send (e : Fin 7) (u : Bool) : (rd (F := F) P).amount (sendC d (celE e) c) (rndE e) u = NE e := by
  dsimp only [rd]; rw [kd_send]; show NE (evOf _ _) = _; rw [evOf_eq]
theorem amount_recv (e : Fin 7) (u : Bool) : (rd (F := F) P).amount (recvC d e c) 0 u = NE e := by dsimp only [rd]; rw [kd_recv]
theorem amount_cred (t : ℕ) (u : Bool) : (rd (F := F) P).amount (credC d c) t u = 1 := by dsimp only [rd]; rw [kd_cred]

theorem expect_bar : (rd (F := F) P).expect (barC c) 0 = 2 := by
  unfold Schedule.expect Schedule.amountOf; rw [duties_bar, Fintype.sum_bool, amount_bar, amount_bar]
theorem expect_send (e : Fin 7) : (rd (F := F) P).expect (sendC d (celE e) c) (rndE e) = NE e := by
  unfold Schedule.expect Schedule.amountOf; rw [duties_send, Finset.sum_singleton, amount_send]
theorem expect_recv (e : Fin 7) : (rd (F := F) P).expect (recvC d e c) 0 = NE e := by
  unfold Schedule.expect Schedule.amountOf; rw [duties_recv, Finset.sum_singleton, amount_recv]
theorem expect_cred (t : ℕ) (ht : t < 5) : (rd (F := F) P).expect (credC d c) t = 1 := by
  unfold Schedule.expect Schedule.amountOf; rw [duties_cred P c d t ht, Finset.sum_singleton, amount_cred]

theorem payload_bar (u : Bool) : (rd (F := F) P).payload (barC c) 0 u = barPay u c := by dsimp only [rd]; rw [kd_bar]
theorem payload_send (e : Fin 7) (u : Bool) : (rd (F := F) P).payload (sendC d (celE e) c) (rndE e) u = sendPay P d e c := by
  dsimp only [rd]; rw [kd_send]; show sendPay P d (evOf _ _) c = _; rw [evOf_eq]
theorem payload_recv (e : Fin 7) (u : Bool) : (rd (F := F) P).payload (recvC d e c) 0 u = recvPay P d e c := by dsimp only [rd]; rw [kd_recv]
theorem payload_cred (t : ℕ) (u : Bool) : (rd (F := F) P).payload (credC d c) t u = credPay d t c := by dsimp only [rd]; rw [kd_cred]

theorem rest_bar : bigSep ((rd (F := F) P).duties (barC c) 0 \ ∅) (fun u => (rd (F := F) P).payload (barC c) 0 u) = iprop(barPay true c ∗ barPay false c) := by
  rw [Finset.sdiff_empty, duties_bar, show (Finset.univ : Finset Bool) = {true, false} from rfl, bigSep_insert (by decide), bigSep_singleton, payload_bar, payload_bar]; rfl
theorem rest_send (e : Fin 7) : bigSep ((rd (F := F) P).duties (sendC d (celE e) c) (rndE e) \ ∅) (fun u => (rd (F := F) P).payload (sendC d (celE e) c) (rndE e) u) = sendPay P d e c := by
  rw [Finset.sdiff_empty, duties_send, bigSep_singleton, payload_send]
theorem rest_recv (e : Fin 7) : bigSep ((rd (F := F) P).duties (recvC d e c) 0 \ ∅) (fun u => (rd (F := F) P).payload (recvC d e c) 0 u) = recvPay P d e c := by
  rw [Finset.sdiff_empty, duties_recv, bigSep_singleton, payload_recv]
theorem rest_cred (t : ℕ) (ht : t < 5) : bigSep ((rd (F := F) P).duties (credC d c) t \ ∅) (fun u => (rd (F := F) P).payload (credC d c) t u) = credPay d t c := by
  rw [Finset.sdiff_empty, duties_cred P c d t ht, bigSep_singleton, payload_cred]

end Sched

/-! ## What is owed, and the levels -/

/-- A unit of work still owed to another device: a barrier signal, a transfer's arrival, a credit. -/
inductive Ow | bar (d : Bool) | recv (d : Bool) (e : Fin 7) | cred (d : Bool) (t : ℕ)

abbrev owC (c : Dev nD) : Ow → CellTallies nD τ sig ℕ
  | .bar d => tallyAt (barC (fro d c)) 0 1
  | .recv d e => tallyAt (recvC d e (dn d c)) 0 (NE e)
  | .cred d t => tallyAt (credC d (fro d c)) t 1
/-- All that is owed, the first of the list to be paid first. -/
def tl (c : Dev nD) : List Ow → CellTallies nD τ sig ℕ
  | [] => 0
  | o :: l => tl c l + owC c o

/-- What a device owes, in the order it pays. -/
abbrev ows : List Ow := [.bar true, .bar false, .recv true 0, .recv false 0,
  .cred true 0, .cred false 0, .recv true 1, .recv false 1, .cred true 1, .cred false 1, .recv true 2, .recv false 2,
  .cred true 2, .cred false 2, .recv true 3, .recv false 3, .cred true 3, .cred false 3, .recv true 4, .recv false 4,
  .cred true 4, .cred false 4, .recv true 5, .recv false 5, .recv true 6, .recv false 6]

def L (g : GSem nD τ sig) : Finset ℕ := if g.1.2 = .tc then Finset.range 5 else ∅
def lv (g : GSem nD τ sig) (i : ℕ) : ℕ := match kd g.2 with
  | .bar => 1 | .recv _ e => if e.val < 5 then 2 * e.val + 2 else 12 | .cred _ => 2 * i + 3 | _ => 0
abbrev lvO : Ow → ℕ | .bar _ => 1 | .recv _ e => if e.val < 5 then 2 * e.val + 2 else 12 | .cred _ t => 2 * t + 3

/-- An owed item's index is one of the five. -/
abbrev ixO : Ow → ℕ | .cred _ t => t | _ => 0
abbrev okO (o : Ow) : Prop := ixO o < 5

theorem L_of_ne (g : GSem nD τ sig) (h : g.1.2 ≠ .tc) : L g = ∅ := if_neg h
theorem mem_L (c : Dev nD) (sm : SemLoc sig) (i : ℕ) (hi : i < 5) : i ∈ L ((c : Thread nD τ), sm) := by
  unfold L; rw [if_pos rfl]; exact Finset.mem_range.mpr hi

theorem lv_recv (d : Bool) (e : Fin 7) (c : Dev nD) (i : ℕ) : lv (recvC d e c) i = if e.val < 5 then 2 * e.val + 2 else 12 := by
  unfold lv; rw [kd_recv]
theorem lv_cred (d : Bool) (c : Dev nD) (i : ℕ) : lv (credC d c) i = 2 * i + 3 := by unfold lv; rw [kd_cred]
theorem lv_bar (c : Dev nD) (i : ℕ) : lv (barC c) i = 1 := by unfold lv; rw [kd_bar]
theorem lv_send (d : Bool) (a : Fin 2) (c : Dev nD) (i : ℕ) : lv (sendC d a c) i = 0 := by unfold lv; rw [kd_send]

/-- An owed cell is one of the list's. -/
theorem tl_pos (c : Dev nD) : ∀ (l : List Ow) (g : GSem nD τ sig) (i : ℕ), (∀ o ∈ l, okO o) → 0 < (tl c l) g i →
    ∃ o ∈ l, lv g i = lvO o ∧ g.1.2 = .tc ∧ i < 5 := by
  intro l
  induction l with
  | nil => intro g i _ h; exact absurd h (Nat.lt_irrefl 0)
  | cons o l ih =>
    intro g i hok h
    have h' : 0 < (tl c l) g i + (owC c o) g i := h
    by_cases hl : 0 < (tl c l) g i
    · obtain ⟨o', ho', r⟩ := ih g i (fun o' ho' => hok o' (List.mem_cons_of_mem _ ho')) hl
      exact ⟨o', List.mem_cons_of_mem _ ho', r⟩
    · have ho : 0 < (owC c o) g i := by omega
      refine ⟨o, List.mem_cons_self .., ?_⟩
      have hk := hok o (List.mem_cons_self ..)
      cases o with
      | bar d =>
        simp only [owC] at ho; rw [tallyAt_apply] at ho
        by_cases e : g = barC (fro d c) ∧ i = 0
        · rw [e.1, e.2, lv_bar]; exact ⟨rfl, rfl, by decide⟩
        · rw [if_neg e] at ho; exact absurd ho (Nat.lt_irrefl 0)
      | recv d e' =>
        simp only [owC] at ho; rw [tallyAt_apply] at ho
        by_cases e : g = recvC d e' (dn d c) ∧ i = 0
        · rw [e.1, e.2, lv_recv]; exact ⟨rfl, rfl, by decide⟩
        · rw [if_neg e] at ho; exact absurd ho (Nat.lt_irrefl 0)
      | cred d t =>
        simp only [owC] at ho; rw [tallyAt_apply] at ho
        by_cases e : g = credC d (fro d c) ∧ i = t
        · rw [e.1, e.2, lv_cred]; exact ⟨rfl, rfl, hk⟩
        · rw [if_neg e] at ho; exact absurd ho (Nat.lt_irrefl 0)

/-- Waiting on a cell below everything still owed. -/
theorem mayWait (c : Dev nD) (sm : SemLoc sig) (i : ℕ) (hi : i < 5) (l : List Ow) (hok : ∀ o ∈ l, okO o)
    (hl : ∀ o ∈ l, lv ((c : Thread nD τ), sm) i < lvO o) :
    (levAts L lv : sProp 𝕄) ⊢ MayWait (c : Thread nD τ) sm i (tl c l) :=
  MayOwe.of_cut (L := L) (lev := lv) (lv ((c : Thread nD τ), sm) i)
    (fun p hp => by rw [Finset.mem_singleton.mp hp]; exact mem_L c sm i hi)
    (fun g u hg => by
      obtain ⟨o, ho, h1, h2, h3⟩ := tl_pos c l g u hok hg
      unfold L; rw [if_pos h2]; exact Finset.mem_range.mpr h3)
    (fun p hp => by rw [Finset.mem_singleton.mp hp])
    (fun g u hg => by
      obtain ⟨o, ho, h1, h2, h3⟩ := tl_pos c l g u hok hg
      rw [h1]; exact hl o ho)

/-! ## The cells of the protocol -/

/-- A direction's cells: two to send on, seven to receive on, one for credits. -/
def scS (d : Bool) (k : Fin 10) : SemLoc sig :=
  if k.val < 2 then .dma (sendS d ⟨k.val % 2, Nat.mod_lt _ (by decide)⟩)
  else if k.val < 9 then .dma (recvS d ⟨(k.val - 2) % 7, Nat.mod_lt _ (by decide)⟩) else .reg (credS d)

theorem scS_inj : ∀ (d : Bool) (k : Fin 10) (d' : Bool) (k' : Fin 10), scS d k = scS d' k' → d = d' ∧ k = k' := by decide

def barEmb : Dev nD ↪ GSem nD τ sig := ⟨barC, fun a b h => congrArg (fun g : GSem nD τ sig => g.1.1) h⟩
def scEmb : Dev nD × (Bool × Fin 10) ↪ GSem nD τ sig :=
  ⟨fun p => ((p.1 : Thread nD τ), scS p.2.1 p.2.2), fun p q h => by
    have h1 : p.1 = q.1 := congrArg (fun g : GSem nD τ sig => g.1.1) h
    have h2 := scS_inj p.2.1 p.2.2 q.2.1 q.2.2 (congrArg (fun g : GSem nD τ sig => g.2) h)
    exact Prod.ext h1 (Prod.ext h2.1 h2.2)⟩
def barCells : Finset (GSem nD τ sig) := Finset.univ.map barEmb
def scCells : Finset (GSem nD τ sig) := Finset.univ.map scEmb

theorem bar_mem (c : Dev nD) : barC c ∈ barCells := Finset.mem_map_of_mem barEmb (Finset.mem_univ c)
theorem sc_mem (c : Dev nD) (d : Bool) (k : Fin 10) : ((c : Thread nD τ), scS d k) ∈ scCells :=
  Finset.mem_map_of_mem scEmb (Finset.mem_univ (c, d, k))
theorem send_sc (d : Bool) (a : Fin 2) : SemLoc.dma (sendS d a) = scS d ⟨a.val, by omega⟩ := by revert d a; decide
theorem recv_sc (d : Bool) (e : Fin 7) : SemLoc.dma (recvS d e) = scS d ⟨2 + e.val, by omega⟩ := by revert d e; decide
theorem cred_sc (d : Bool) : SemLoc.reg (credS d) = scS d 9 := by revert d; decide

/-- What stands for the whole region: every cell's invariant, every barrier cell at round 0, and the levels. -/
def Ctx (K : GSem nD τ sig → ℕ) : sProp 𝕄 :=
  iprop((bigSep (barCells ∪ scCells) fun g => cellInv ER (rd P) (K g) g) ∗ (bigSep barCells fun g => reached ER g 0) ∗ levAts L lv)

instance Ctx_persistent (K : GSem nD τ sig → ℕ) : Persistent (Ctx (F := F) P K) := by unfold Ctx; infer_instance

theorem Ctx_bar (K : GSem nD τ sig → ℕ) (c : Dev nD) : Ctx (F := F) P K ⊢ cellInv ER (rd P) (K (barC c)) (barC c) := by
  unfold Ctx
  iintro ⟨H, -⟩
  iapply (show (bigSep (barCells ∪ scCells) fun g => cellInv ER (rd (F := F) P) (K g) g) ⊢ cellInv ER (rd P) (K (barC c)) (barC c) from
    bigSep_elim (Finset.mem_union_left _ (bar_mem c))) $$ H
theorem Ctx_sc (K : GSem nD τ sig → ℕ) (c : Dev nD) (d : Bool) (k : Fin 10) :
    Ctx (F := F) P K ⊢ cellInv ER (rd P) (K ((c : Thread nD τ), scS d k)) ((c : Thread nD τ), scS d k) := by
  unfold Ctx
  iintro ⟨H, -⟩
  iapply (show (bigSep (barCells ∪ scCells) fun g => cellInv ER (rd (F := F) P) (K g) g) ⊢ cellInv ER (rd P) (K ((c : Thread nD τ), scS d k)) ((c : Thread nD τ), scS d k) from
    bigSep_elim (Finset.mem_union_right _ (sc_mem c d k))) $$ H
theorem Ctx_send (K : GSem nD τ sig → ℕ) (c : Dev nD) (d : Bool) (a : Fin 2) : Ctx (F := F) P K ⊢ cellInv ER (rd P) (K (sendC d a c)) (sendC d a c) := by
  unfold sendC; rw [send_sc]; exact Ctx_sc P K c d _
theorem Ctx_recv (K : GSem nD τ sig → ℕ) (c : Dev nD) (d : Bool) (e : Fin 7) : Ctx (F := F) P K ⊢ cellInv ER (rd P) (K (recvC d e c)) (recvC d e c) := by
  unfold recvC; rw [recv_sc]; exact Ctx_sc P K c d _
theorem Ctx_cred (K : GSem nD τ sig → ℕ) (c : Dev nD) (d : Bool) : Ctx (F := F) P K ⊢ cellInv ER (rd P) (K (credC d c)) (credC d c) := by
  unfold credC; rw [cred_sc]; exact Ctx_sc P K c d _
theorem Ctx_reached (K : GSem nD τ sig → ℕ) (c : Dev nD) : Ctx (F := F) P K ⊢ reached ER (barC c) 0 := by
  unfold Ctx
  iintro ⟨-, H, -⟩
  iapply (show (bigSep barCells fun g => (reached ER g 0 : sProp 𝕄)) ⊢ reached ER (barC c) 0 from bigSep_elim (bar_mem c)) $$ H
theorem Ctx_lev (K : GSem nD τ sig → ℕ) : Ctx (F := F) P K ⊢ levAts L lv := by
  unfold Ctx
  iintro ⟨-, -, H⟩
  iexact H

/-- A part of the kernel at the kernel's own arrays and semaphores. -/
abbrev onRefs {β : Sort _} (f : (m0 : Memref sig .tc .hbm S4096x8192 .bf16) → m0.IsWhole → (m1 : Memref sig .tc .hbm S4096x8192 .f32) → m1.IsWhole → (m2 : Memref sig .tc .vmem S2x1024x4096 .bf16) → m2.IsWhole → (m3 : Memref sig .tc .vmem S2x1024x4096 .bf16) → m3.IsWhole → (m4 : Memref sig .tc .vmem S1024x4096 .bf16) → m4.IsWhole → (m5 : Memref sig .tc .vmem S1024x4096 .bf16) → m5.IsWhole → (m6 : Memref sig .tc .vmem S1024x1024 .f32) → m6.IsWhole →
    DmaSems sig S2 → DmaSems sig S2 → DmaSems sig S7 → DmaSems sig S7 → DmaSems sig S_ → DmaSems sig S_ → DmaSems sig S_ → Sems sig S_ → Sems sig S_ → β) : β :=
  f (Memref.whole main_v3) (Memref.isWhole_whole _) (Memref.whole main_v5) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scratch7 cc1_scratch8 cc1_scratch9 cc1_scratch10 cc1_scratch11 cc1_scratch12 cc1_scratch13

end Cert.KernelIdeal.Ring
-- ==== Proof.KernelIdeal.Talk.lean ====
/-
# The communication steps of the kernel, one lemma each

What a device holds of the protocol is kept in a few short predicates: the work it still owes (`ow`), the rights to send
(`sTok`), to signal credits (`pTok`), the receive cells it will wait on (`rPos`), its credit cell (`wCr`) and its send cells
(`sPos`, and `sFl` while a transfer is in flight). Each lemma runs one barrier, credit, send or wait operation over them.
-/
module

public import proofs.«01_k».proof.Proof.KernelIdeal.Common

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (K : GSem nD τ sig → ℕ) (c : Dev nD) (d : Bool)

/-! ## What a device holds of the protocol -/

/-- The work still owed. -/
def ow (l : List Ow) : sProp 𝕄 := iprop(∃ W, owes (c : Thread nD τ) (tl c l) W)
/-- The rights to the transfers still to be sent: each pays the own send cell and the neighbour's receive cell. -/
def sTok : List (Fin 7) → sProp 𝕄
  | [] => iprop(emp)
  | e :: l => iprop((dutyTok ER (sendC d (celE e) c) (rndE e) false ∗ dutyTok ER (recvC d e (dn d c)) 0 false) ∗ sTok l)
/-- The rights to the credits still to be given. -/
def pTok : List ℕ → sProp 𝕄
  | [] => iprop(emp)
  | t :: l => iprop(dutyTok ER (credC d (fro d c)) t false ∗ pTok l)
/-- The receive cells still to be waited on, with the tokens to do so. -/
def rPos : List (Fin 7) → sProp 𝕄
  | [] => iprop(emp)
  | e :: l => iprop((atPos ER (recvC d e c) 0 ∅ 0 ∗ cred (tallyAt (recvC d e c) 0 (NE e))) ∗ rPos l)
/-- The tokens to wait for the credits still to come. -/
def cCr : List ℕ → sProp 𝕄
  | [] => iprop(emp)
  | t :: l => iprop(cred (tallyAt (credC d c) t 1) ∗ cCr l)
/-- The own credit cell, before round `t`. -/
def wCr (t : ℕ) (l : List ℕ) : sProp 𝕄 := iprop(atPos ER (credC d c) t ∅ 0 ∗ reached ER (credC d c) t ∗ cCr c d l)
/-- A send cell, before its round `r`. -/
def sPos (a : Fin 2) (r : ℕ) : sProp 𝕄 := iprop(atPos ER (sendC d a c) r ∅ 0 ∗ reached ER (sendC d a c) r)
/-- A send cell while transfer `e` is in flight. -/
def sFl (e : Fin 7) : sProp 𝕄 := iprop(atPos ER (sendC d (celE e) c) (rndE e) ∅ 0 ∗ cred (tallyAt (sendC d (celE e) c) 0 (NE e)))
/-- The receive cells of device `c` are open at round 0. -/
def rR (c : Dev nD) : sProp 𝕄 := bigSep Finset.univ fun e : Fin 7 => reached ER (recvC d e c) 0
/-- A closed receive cell. -/
def rZ (e : Fin 7) : sProp 𝕄 := semVal (recvC d e c) 0

instance rR_persistent : Persistent (rR (F := F) d c) := by unfold rR; infer_instance

/-! ## The barrier -/

/-- Telling the neighbour that direction `d`'s data comes from that the landing slot is free. -/
theorem op_bar (n : Dev nD) (hn : n = fro d c) {l : List Ow} {α : Type} {Q : α → sProp 𝕄} {k : PUnit → Prog (TpuEff nD τ sig (Elt F) Λ₀ .tc) α} :
    iprop(Ctx P K ∗ ow c (.bar d :: l) ∗ dutyTok ER (barC (fro d c)) 0 d ∗ anyHold c (commM d) (box 1 0 4096) fullShare ∗ rR (F := F) d c)
      ⊢ iprop((ow c l -∗ wp frame (wpE defs₀ 𝒱₀ (c : Thread nD τ) none) Set.univ (k ⟨⟩) Q)
        -∗ wp frame (wpE defs₀ 𝒱₀ (c : Thread nD τ) none) Set.univ (.op (.semSignal (Dev.tc n) barrier0 1) k) Q) := by
  subst hn
  unfold ow
  iintro ⟨#HC, ⟨%W, HO⟩, Ht, Hs, #HR⟩ Hk
  ihave #HI := (Ctx_bar P K (fro d c)) $$ HC
  ihave #Hr := (Ctx_reached P K (fro d c)) $$ HC
  iapply (Rounds.wp_signal 𝒱₀ ER (rd P) (c : Thread nD τ) none (dst := (fro d c : Thread nD τ)) (sem := barrier0) (r := 0) (d := d)
      (κ := K (barC (fro d c))) (by rw [duties_bar]; exact Finset.mem_univ _) (amount_bar P (fro d c) d) 0 (tl c l) rfl) $$ [HO Ht Hs]
  · isplitr; · iexact HI
    isplitl [HO]; · iexact HO
    isplitl [Ht]; · iexact Ht
    isplitl [Hs]
    · rw [payload_bar]; unfold barPay; rw [dn_fro]
      isplitl [Hs]; · iexact Hs
      unfold rR; iexact HR
    · iexact Hr
  iintro HO
  iapply Hk
  iexists _; iexact HO

/-- Waiting for both neighbours. -/
theorem op_barwait {l : List Ow} (hok : ∀ o ∈ l, okO o) (hl : ∀ o ∈ l, 1 < lvO o) {α : Type} {Q : α → sProp 𝕄} {k : PUnit → Prog (TpuEff nD τ sig (Elt F) Λ₀ .tc) α} :
    iprop(Ctx P K ∗ ow c l ∗ atPos ER (barC c) 0 ∅ 0 ∗ cred (tallyAt (barC c) 0 2))
      ⊢ iprop(((ow c l ∗ semVal (barC c) 0
            ∗ (anyHold (dn true c) (commM true) (box 1 0 4096) fullShare ∗ rR true (dn true c))
            ∗ (anyHold (dn false c) (commM false) (box 1 0 4096) fullShare ∗ rR false (dn false c)))
          -∗ wp frame (wpE defs₀ 𝒱₀ (c : Thread nD τ) none) Set.univ (k ⟨⟩) Q)
        -∗ wp frame (wpE defs₀ 𝒱₀ (c : Thread nD τ) none) Set.univ (.op (.semWait barrier0 2) k) Q) := by
  unfold ow
  iintro ⟨#HC, ⟨%W, HO⟩, Hat, Hc⟩ Hk
  ihave #HI := (Ctx_bar P K c) $$ HC
  ihave #HL := (Ctx_lev P K) $$ HC
  iapply (Rounds.wp_wait_rest_token 𝒱₀ ER (rd P) (c : Thread nD τ) none (κ := K (barC c))
      (wpE_semWait_eq 𝒱₀ (c : Thread nD τ) none Set.univ) (Set.mem_univ _) 0 (O := tl c l) (W := W) (R := 0) (m := 0) (T := ∅)
      ((Nat.zero_add 2).trans (expect_bar P c).symm)) $$ [Hc HO Hat]
  · isplitr; · iexact HI
    isplitl [Hc]; · iexact Hc
    isplitl [HO]; · iexact HO
    isplitr; · iapply (mayWait c (.reg barrier0) 0 (by decide) l hok (fun o ho => by rw [lv_bar]; exact hl o ho)); iexact HL
    iexact Hat
  iintro ⟨HO, Hat, -, Hpay⟩
  ihave Hp := (Entails.of_eq (rest_bar P c)) $$ Hpay
  imod (Rounds.cell_close ER (rd P) (Set.mem_univ (K (barC c))) id (later_bar P c)) $$ [Hat] with Hz
  · isplitr; · iexact HI
    iexact Hat
  iapply Hk
  isplitl [HO]; · iexists _; iexact HO
  isplitl [Hz]; · iexact Hz
  unfold barPay rR
  icases Hp with ⟨H1, H2⟩
  isplitl [H1]; · iexact H1
  iexact H2

/-! ## Credits -/

/-- Giving credit `t`: the slot that step `t` read is free again. -/
theorem op_give (t : ℕ) (ht : t < 5) (n : Dev nD) (hn : n = fro d c) (sm : Sem sig) (hsm : sm = credS d) {l : List Ow} {ts : List ℕ}
    {α : Type} {Q : α → sProp 𝕄} {k : PUnit → Prog (TpuEff nD τ sig (Elt F) Λ₀ .tc) α} :
    iprop(Ctx P K ∗ ow c (.cred d t :: l) ∗ pTok c d (t :: ts) ∗ anyHold c (commM d) (box (t % 2) 0 4096) fullShare ∗ reached ER (credC d (fro d c)) t)
      ⊢ iprop(((ow c l ∗ pTok c d ts) -∗ wp frame (wpE defs₀ 𝒱₀ (c : Thread nD τ) none) Set.univ (k ⟨⟩) Q)
        -∗ wp frame (wpE defs₀ 𝒱₀ (c : Thread nD τ) none) Set.univ (.op (.semSignal (Dev.tc n) sm 1) k) Q) := by
  subst hn; subst hsm
  rw [pTok]
  unfold ow
  iintro ⟨#HC, ⟨%W, HO⟩, ⟨Ht, Hts⟩, Hs, #Hr⟩ Hk
  ihave #HI := (Ctx_cred P K (fro d c) d) $$ HC
  iapply (Rounds.wp_signal 𝒱₀ ER (rd P) (c : Thread nD τ) none (dst := (fro d c : Thread nD τ)) (sem := credS d) (r := t) (d := false)
      (κ := K (credC d (fro d c))) (by rw [duties_cred P _ d t ht]; exact Finset.mem_singleton_self _) (amount_cred P (fro d c) d t false) t (tl c l) rfl) $$ [HO Ht Hs]
  · isplitr; · iexact HI
    isplitl [HO]; · iexact HO
    isplitl [Ht]; · iexact Ht
    isplitl [Hs]
    · rw [payload_cred]; unfold credPay; rw [dn_fro]; iexact Hs
    · iexact Hr
  iintro HO
  iapply Hk
  isplitl [HO]; · iexists _; iexact HO
  iexact Hts

/-- Waiting for credit `t`: the neighbour's slot is free. -/
theorem op_take (t : ℕ) (ht : t < 5) (sm : Sem sig) (hsm : sm = credS d) {l : List Ow} {ts : List ℕ}
    (hok : ∀ o ∈ l, okO o) (hl : ∀ o ∈ l, 2 * t + 3 < lvO o) {α : Type} {Q : α → sProp 𝕄} {k : PUnit → Prog (TpuEff nD τ sig (Elt F) Λ₀ .tc) α} :
    iprop(Ctx P K ∗ ow c l ∗ wCr c d t (t :: ts))
      ⊢ iprop(((ow c l ∗ wCr c d (t + 1) ts ∗ anyHold (dn d c) (commM d) (box (t % 2) 0 4096) fullShare)
          -∗ wp frame (wpE defs₀ 𝒱₀ (c : Thread nD τ) none) Set.univ (k ⟨⟩) Q)
        -∗ wp frame (wpE defs₀ 𝒱₀ (c : Thread nD τ) none) Set.univ (.op (.semWait sm 1) k) Q) := by
  subst hsm
  unfold wCr
  rw [cCr]
  unfold ow
  iintro ⟨#HC, ⟨%W, HO⟩, Hat, -, Hc, Hcs⟩ Hk
  ihave #HI := (Ctx_cred P K c d) $$ HC
  ihave #HL := (Ctx_lev P K) $$ HC
  iapply (Rounds.wp_wait_rest_token 𝒱₀ ER (rd P) (c : Thread nD τ) none (κ := K (credC d c))
      (wpE_semWait_eq 𝒱₀ (c : Thread nD τ) none Set.univ) (Set.mem_univ _) t (O := tl c l) (W := W) (R := t) (m := 0) (T := ∅)
      ((Nat.zero_add 1).trans (expect_cred P c d t ht).symm)) $$ [Hc HO Hat]
  · isplitr; · iexact HI
    isplitl [Hc]; · iexact Hc
    isplitl [HO]; · iexact HO
    isplitr; · iapply (mayWait c (.reg (credS d)) t ht l hok (fun o ho => by rw [lv_cred]; exact hl o ho)); iexact HL
    iexact Hat
  iintro ⟨HO, Hat, #Hr, Hpay⟩
  ihave Hp := (Entails.of_eq (rest_cred P c d t ht)) $$ Hpay
  iapply Hk
  isplitl [HO]; · iexists _; iexact HO
  isplitl [Hat Hcs]
  · isplitl [Hat]; · iexact Hat
    isplitr; · iexact Hr
    iexact Hcs
  unfold credPay
  iexact Hp

/-! ## Transfers -/

/-- Waiting for a send to be read: the source comes back. -/
theorem op_sent (e : Fin 7) (sm : DmaSem sig) (hsm : sm = sendS d (celE e)) {l : List Ow} (hok : ∀ o ∈ l, okO o) (hl : ∀ o ∈ l, 0 < lvO o)
    {sp sp' : Space} {s s' : Shape} {e₁ e₂ : EltTy} {κ' : Kind} {srcw : Memref sig .tc sp' s' e₂} {dstw : Memref sig κ' sp s e₁}
    {hsrc : srcw.view.WordExact} {hdst : dstw.view.WordExact} (hN : dstw.view.dmaCredit = NE e)
    {α : Type} {Q : α → sProp 𝕄} {k : PUnit → Prog (TpuEff nD τ sig (Elt F) Λ₀ .tc) α} :
    iprop(Ctx P K ∗ ow c l ∗ sFl c d e)
      ⊢ iprop(((ow c l ∗ sPos c d (celE e) (rndE e + 1) ∗ hold c (commM d) (box (slotE e).val (colE e) (widE e)) (qE e) (on (X P d (tmE e) c)))
          -∗ wp frame (wpE defs₀ 𝒱₀ (c : Thread nD τ) none) Set.univ (k ⟨⟩) Q)
        -∗ wp frame (wpE defs₀ 𝒱₀ (c : Thread nD τ) none) Set.univ (.op (.waitDma2 sm srcw dstw hsrc hdst) k) Q) := by
  subst hsm
  unfold sFl ow
  rw [← hN]
  iintro ⟨#HC, ⟨%W, HO⟩, Hat, Hc⟩ Hk
  ihave #HI := (Ctx_send P K c d (celE e)) $$ HC
  ihave #HL := (Ctx_lev P K) $$ HC
  iapply (Rounds.wp_wait_rest_token 𝒱₀ ER (rd P) (c : Thread nD τ) none (κ := K (sendC d (celE e) c))
      (wpE_waitDma2_eq 𝒱₀ (c : Thread nD τ) none Set.univ) (Set.mem_univ _) 0 (O := tl c l) (W := W) (R := rndE e) (m := 0) (T := ∅)
      ((Nat.zero_add _).trans (hN.trans (expect_send P c d e).symm))) $$ [Hc HO Hat]
  · isplitr; · iexact HI
    isplitl [Hc]; · iexact Hc
    isplitl [HO]; · iexact HO
    isplitr; · iapply (mayWait c (.dma (sendS d (celE e))) 0 (by decide) l hok (fun o ho => by rw [lv_send]; exact hl o ho)); iexact HL
    iexact Hat
  iintro ⟨HO, Hat, #Hr, Hpay⟩
  ihave Hp := (Entails.of_eq (rest_send P c d e)) $$ Hpay
  iapply Hk
  isplitl [HO]; · iexists _; iexact HO
  isplitl [Hat]
  · unfold sPos
    isplitl [Hat]; · iexact Hat
    iexact Hr
  unfold sendPay
  iexact Hp

/-- Waiting for a transfer to land: the slot holds what the neighbour sent. -/
theorem op_recv (e : Fin 7) (sm : DmaSem sig) (hsm : sm = recvS d e) {l : List Ow} {es : List (Fin 7)} (hok : ∀ o ∈ l, okO o)
    (hl : ∀ o ∈ l, (if e.val < 5 then 2 * e.val + 2 else 12) < lvO o)
    {sp sp' : Space} {s s' : Shape} {e₁ e₂ : EltTy} {κ' : Kind} {srcw : Memref sig .tc sp' s' e₂} {dstw : Memref sig κ' sp s e₁}
    {hsrc : srcw.view.WordExact} {hdst : dstw.view.WordExact} (hN : dstw.view.dmaCredit = NE e)
    {α : Type} {Q : α → sProp 𝕄} {k : PUnit → Prog (TpuEff nD τ sig (Elt F) Λ₀ .tc) α} :
    iprop(Ctx P K ∗ ow c l ∗ rPos c d (e :: es))
      ⊢ iprop(((ow c l ∗ rPos c d es ∗ rZ c d e ∗ hold c (commM d) (box (landE e).val (colE e) (widE e)) fullShare (on (X P d (tmE e) (fro d c)))
            ∗ crE d (fro d c) e)
          -∗ wp frame (wpE defs₀ 𝒱₀ (c : Thread nD τ) none) Set.univ (k ⟨⟩) Q)
        -∗ wp frame (wpE defs₀ 𝒱₀ (c : Thread nD τ) none) Set.univ (.op (.waitDma2 sm srcw dstw hsrc hdst) k) Q) := by
  subst hsm
  rw [rPos]
  unfold ow
  rw [← hN]
  iintro ⟨#HC, ⟨%W, HO⟩, ⟨Hat, Hc⟩, Hrs⟩ Hk
  ihave #HI := (Ctx_recv P K c d e) $$ HC
  ihave #HL := (Ctx_lev P K) $$ HC
  iapply (Rounds.wp_wait_rest_token 𝒱₀ ER (rd P) (c : Thread nD τ) none (κ := K (recvC d e c))
      (wpE_waitDma2_eq 𝒱₀ (c : Thread nD τ) none Set.univ) (Set.mem_univ _) 0 (O := tl c l) (W := W) (R := 0) (m := 0) (T := ∅)
      ((Nat.zero_add _).trans (hN.trans (expect_recv P c d e).symm))) $$ [Hc HO Hat]
  · isplitr; · iexact HI
    isplitl [Hc]; · iexact Hc
    isplitl [HO]; · iexact HO
    isplitr; · iapply (mayWait c (.dma (recvS d e)) 0 (by decide) l hok (fun o ho => by rw [lv_recv]; exact hl o ho)); iexact HL
    iexact Hat
  iintro ⟨HO, Hat, -, Hpay⟩
  ihave Hp := (Entails.of_eq (rest_recv P c d e)) $$ Hpay
  imod (Rounds.cell_close ER (rd P) (Set.mem_univ (K (recvC d e c))) id (later_recv P c d e)) $$ [Hat] with Hz
  · isplitr; · iexact HI
    iexact Hat
  iapply Hk
  isplitl [HO]; · iexists _; iexact HO
  isplitl [Hrs]; · iexact Hrs
  isplitl [Hz]; · unfold rZ; iexact Hz
  unfold recvPay
  iexact Hp

/-- The slices a transfer reads and writes. -/
abbrev cut (a c0 w : ℕ) (inb : ∀ i, (![a, 0, c0] : Fin 3 → ℕ) i + (![1, 1024, w] : Fin 3 → ℕ) i ≤ S2x1024x4096.size i) (s' : Shape) (hq : (⟨3, ![1, 1024, w]⟩ : Shape).Squeezes s') : Memref sig .tc .vmem s' .bf16 :=
  part (commM d) (Rect.unit (s := S2x1024x4096) ![a, 0, c0] ![1, 1024, w] inb) (fun _ => rfl) s' hq

theorem cut_set {a c0 w : ℕ} {inb} {s' : Shape} {hq : (⟨3, ![1, 1024, w]⟩ : Shape).Squeezes s'} (hw : c0 + w ≤ 4096) :
    (cut d a c0 w inb s' hq).view.set = (commM d).view.setOn (box a c0 w) := by
  refine (part_set (M := commM d) _ _ _).trans ?_
  rw [rect_box a c0 w inb hw]

/-- Copying a slot's columns to another slot's: it then reads as the source did. -/
theorem cut_copy {a b c0 w : ℕ} {inb inb'} {s' : Shape} {hq : (⟨3, ![1, 1024, w]⟩ : Shape).Squeezes s'} (hw : c0 + w ≤ 4096)
    (Y : S1024x4096.Idx → Elt F .bf16) (fs fd : (commM d).view.ty.Contents (Elt F))
    (hf : ∀ x ∈ box a c0 w, (commM d).view.read (Elt F) fs x = on Y x) :
    ∀ x ∈ box b c0 w, (commM d).view.read (Elt F) ((cut d b c0 w inb' s' hq).view.write (Elt F) fd ((cut d a c0 w inb s' hq).view.read (Elt F) fs) Finset.univ) x = on Y x := by
  intro x hx
  have hx' := hx
  rw [← rect_box b c0 w inb' hw, ← Rect.map_emb_univ] at hx'
  obtain ⟨i, -, rfl⟩ := Finset.mem_map.mp hx'
  have h := part_copy (Val := Elt F) (M := commM d) (N := commM d) (Rect.unit (s := S2x1024x4096) ![a, 0, c0] ![1, 1024, w] inb) (fun _ => rfl) hq
    (Rect.unit (s := S2x1024x4096) ![b, 0, c0] ![1, 1024, w] inb') (fun _ => rfl) hq fs fd i i rfl
  refine h.trans ?_
  rw [hf _ (by rw [← rect_box a c0 w inb hw, ← Rect.map_emb_univ]; exact Finset.mem_map_of_mem _ (Finset.mem_univ i))]
  rfl

/-- Sending transfer `e` to the neighbour. -/
theorem op_send (e : Fin 7) (n : Dev nD) (hn : n = dn d c) {s' : Shape} (a b c0 w : ℕ) (hw : c0 + w ≤ 4096)
    (ha : (slotE e).val = a) (hb : (landE e).val = b) (hc0 : colE e = c0) (hwe : widE e = w) {inb inb'}
    {hq : (⟨3, ![1, 1024, w]⟩ : Shape).Squeezes s'} {hsc}
    (sS sR : DmaSem sig) (hsS : sS = sendS d (celE e)) (hsR : sR = recvS d e)
    {hsrc : (cut d a c0 w inb s' hq).view.WordExact} {hdst : (cut d b c0 w inb' s' hq).view.WordExact} {hsem}
    (hN : (cut d b c0 w inb' s' hq).view.dmaCredit = NE e)
    {l : List Ow} {es : List (Fin 7)} {α : Type} {Q : α → sProp 𝕄} {k : PUnit → Prog (TpuEff nD τ sig (Elt F) Λ₀ .tc) α} :
    iprop(Ctx P K ∗ ow c (.recv d e :: l) ∗ sTok c d (e :: es) ∗ sPos c d (celE e) (rndE e)
        ∗ hold c (commM d) (box a c0 w) (qE e) (on (X P d (tmE e) c)) ∗ anyHold (dn d c) (commM d) (box b c0 w) fullShare
        ∗ rR d (dn d c) ∗ crE d c e)
      ⊢ iprop(((ow c l ∗ sTok c d es ∗ sFl c d e) -∗ wp frame (wpE defs₀ 𝒱₀ (c : Thread nD τ) none) Set.univ (k ⟨⟩) Q)
        -∗ wp frame (wpE defs₀ 𝒱₀ (c : Thread nD τ) none) Set.univ
          (.op (.enqueueDma (cut d a c0 w inb s' hq) (.remote (Dev.tc n) (cut d b c0 w inb' s' hq) (.dma sS) hsc) (.dma sR) hsrc hdst hsem) k) Q) := by
  subst hn; subst ha; subst hb; subst hc0; subst hwe; subst hsS; subst hsR
  rw [sTok]
  unfold ow sPos hold anyHold
  iintro ⟨#HC, ⟨%W, HO⟩, ⟨⟨HtS, HtR⟩, Hts⟩, ⟨Hat, #HrS⟩, ⟨%f, %hf, Hf⟩, ⟨%g, Hg⟩, #HR, #Hcr⟩ Hk
  ihave #HIs := (Ctx_send P K c d (celE e)) $$ HC
  ihave #HIr := (Ctx_recv P K (dn d c) d e) $$ HC
  ihave #HrR := (show rR (F := F) d (dn d c) ⊢ reached ER (recvC d e (dn d c)) 0 from by
    unfold rR; exact bigSep_elim (Finset.mem_univ e)) $$ HR
  iapply (Rounds.wp_send_pointsTo_with 𝒱₀ ER (rd P) (c : Thread nD τ) none (c' := (dn d c : Thread nD τ))
      (src := cut d (slotE e).val (colE e) (widE e) inb s' hq) (dst := cut d (landE e).val (colE e) (widE e) inb' s' hq)
      (sS := .dma (sendS d (celE e))) (sem := .dma (recvS d e)) (q := qE e) (fs := f) (fd := g)
      (κ₁ := K (sendC d (celE e) c)) (κ₂ := K (recvC d e (dn d c))) (F := crE d c e)
      (r₁ := rndE e) (r₂ := 0) (d₁ := false) (d₂ := false)
      (by rw [duties_send]; exact Finset.mem_singleton_self _) (by rw [duties_recv]; exact Finset.mem_singleton_self _)
      0 0 (NE e) hN (amount_send P c d e false) (amount_recv P (dn d c) d e false) (tl c l) rfl (W := W)
      (by
        rw [payload_send, cut_set d hw]; unfold sendPay hold
        iintro H; iexists f
        isplitr; · ipureintro; exact hf
        iexact H)
      (by
        rw [payload_recv, cut_set d hw]; unfold recvPay hold; rw [fro_dn]
        iintro ⟨H, Hc⟩
        isplitl [H]
        · iexists ((cut d (landE e).val (colE e) (widE e) inb' s' hq).view.write (Elt F) g
            ((cut d (slotE e).val (colE e) (widE e) inb s' hq).view.read (Elt F) f) Finset.univ)
          isplitr
          · ipureintro
            exact cut_copy d hw (X P d (tmE e) c) f g hf
          iexact H
        iexact Hc)) $$ [HO HtS HtR Hf Hg]
  · isplitr; · iexact HIs
    isplitr; · iexact HIr
    isplitl [Hf]; · rw [cut_set d hw]; iexact Hf
    isplitl [Hg]
    · rw [cut_set d hw]
      isplitl [Hg]; · iexact Hg
      iexact Hcr
    isplitl [HO]; · iexact HO
    isplitl [HtS]; · iexact HtS
    isplitr; · iexact HrS
    isplitl [HtR]; · iexact HtR
    iexact HrR
  iintro ⟨Hc, HO⟩
  iapply Hk
  isplitl [HO]; · iexists _; iexact HO
  isplitl [Hts]; · iexact Hts
  unfold sFl
  isplitl [Hat]; · iexact Hat
  iexact Hc

end Cert.KernelIdeal.Ring
-- ==== Proof.KernelIdeal.Move.lean ====
/-
# The local steps of the kernel, one lemma each

Copying a block of the partial product into a buffer, adding a buffer's half to a slot's, and writing one 1024 × 1024 block
of the result from a slot.
-/
module

public import proofs.«01_k».proof.Proof.KernelIdeal.Talk

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD) (d : Bool)

/-! ## Reshaping between a 1 × a × b and an a × b index -/

theorem cast_up {α : Type} {a b : ℕ} (x : (⟨2, ![a, b]⟩ : Shape).Idx → α) (h : (⟨2, ![a, b]⟩ : Shape).ShapeCasts ⟨3, ![1, a, b]⟩)
    (i : (⟨3, ![1, a, b]⟩ : Shape).Idx) : shapeCast ⟨3, ![1, a, b]⟩ x h i = x (ix2 (i 1) (i 2)) := by
  refine shapeCast_apply x h i _ ?_
  rw [Shape.rowMajor_val_two, Shape.rowMajor_val_three]
  have h0 : (i 0).val < 1 := (i 0).isLt
  have h0' : (i 0).val = 0 := by omega
  rw [h0', Nat.zero_mul, Nat.zero_add]; rfl

theorem cast_down {α : Type} {a b : ℕ} (x : (⟨3, ![1, a, b]⟩ : Shape).Idx → α) (h : (⟨3, ![1, a, b]⟩ : Shape).ShapeCasts ⟨2, ![a, b]⟩)
    (j : (⟨2, ![a, b]⟩ : Shape).Idx) : shapeCast ⟨2, ![a, b]⟩ x h j = x (ix3 0 (j 0) (j 1)) := by
  refine shapeCast_apply x h j _ ?_
  rw [Shape.rowMajor_val_two, Shape.rowMajor_val_three]
  show (0 * a + (j 0).val) * b + (j 1).val = _
  rw [Nat.zero_mul, Nat.zero_add]; rfl

/-! ## Pending local copies -/

/-- A local copy on the way: once it is done, `T` holds. -/
def pend (sm : SemLoc sig) (N : ℕ) (T : sProp 𝕄) : sProp 𝕄 :=
  iprop(∃ D R : sProp 𝕄, ⌜iprop(D ∗ R) ⊢ T⌝ ∗ Transfers.Flight EC (c : Thread nD τ) sm 0 N D ∗ R)

variable {α : Type} {Q' : α → sProp 𝕄}

/-- Waiting for a local copy. -/
theorem op_arrived (sm : DmaSem sig) (hlv : lv ((c : Thread nD τ), .dma sm) 0 = 0) (N : ℕ) (T : sProp 𝕄) {l : List Ow} (hok : ∀ o ∈ l, okO o) (hl : ∀ o ∈ l, 0 < lvO o)
    {sp sp' : Space} {s s' : Shape} {e₁ e₂ : EltTy} {κ' : Kind} {srcw : Memref sig .tc sp' s' e₂} {dstw : Memref sig κ' sp s e₁}
    {hsrc : srcw.view.WordExact} {hdst : dstw.view.WordExact} (hN : dstw.view.dmaCredit = N)
    {α : Type} {Q : α → sProp 𝕄} {k : PUnit → Prog (TpuEff nD τ sig (Elt F) Λ₀ .tc) α} :
    iprop(Ctx P K ∗ ow c l ∗ pend c (.dma sm) N T)
      ⊢ iprop(((ow c l ∗ T ∗ semVal ((c : Thread nD τ), .dma sm) 0) -∗ wp frame (wpE defs₀ 𝒱₀ (c : Thread nD τ) none) Set.univ (k ⟨⟩) Q)
        -∗ wp frame (wpE defs₀ 𝒱₀ (c : Thread nD τ) none) Set.univ (.op (.waitDma2 sm srcw dstw hsrc hdst) k) Q) := by
  unfold ow pend
  iintro ⟨#HC, ⟨%W, HO⟩, ⟨%D, %R, %hT, HF, HR⟩⟩ Hk
  ihave #HL := (Ctx_lev P K) $$ HC
  iapply (Transfers.wp_waitLocalO EC 𝒱₀ (c : Thread nD τ) none 0 hN) $$ [HF HO]
  · isplitl [HF]; · iexact HF
    isplitl [HO]; · iexact HO
    iapply (mayWait c (.dma sm) 0 (by decide) l hok (fun o ho => by rw [hlv]; exact hl o ho)); iexact HL
  iintro ⟨HD, Hv, HO⟩
  iapply Hk
  isplitl [HO]; · iexists _; iexact HO
  isplitl [HD HR]
  · iapply hT
    isplitl [HD]; · iexact HD
    iexact HR
  iexact Hv

/-- The block of the partial product a copy reads. -/
abbrev pCut (off : Fin 2 → ℕ) (inb : ∀ i, off i + S1024x4096.size i ≤ S4096x8192.size i) : Memref sig .tc .hbm S1024x4096 .bf16 :=
  pM.slice (Rect.unit (s := S4096x8192) off S1024x4096.size inb) (fun _ => rfl)

theorem pCut_sub (off : Fin 2 → ℕ) (inb) : (pCut off inb).view.set ⊆ pM.view.setOn Finset.univ := by
  have h : (pCut off inb).view.set = pM.view.setOn (Rect.unit (s := S4096x8192) off S1024x4096.size inb).set := slice_set (M := pM) _
  rw [h]; exact setOn_mono (Finset.subset_univ _)

theorem pCut_read (k : Dev nD) (off : Fin 2 → ℕ) (inb) (hoff : off = ![1024 * k.val, if d then 0 else 4096])
    (f : pM.view.ty.Contents (Elt F)) (hf : ∀ x ∈ (Finset.univ : Finset S4096x8192.Idx), pM.view.read (Elt F) f x = P c x) :
    (pCut off inb).view.read (Elt F) f = chunk d (P c) k := by
  subst hoff
  funext i
  have h1 : (pCut ![1024 * k.val, if d then 0 else 4096] inb).view.read (Elt F) f i
      = pM.view.read (Elt F) f ((Rect.unit (s := S4096x8192) ![1024 * k.val, if d then 0 else 4096] S1024x4096.size inb).emb i) := rfl
  rw [h1, hf _ (Finset.mem_univ _)]
  unfold chunk
  refine congrArg (P c) ?_
  funext a
  apply Fin.ext
  rw [Rect.emb_apply]
  match a with
  | ⟨0, _⟩ => show 1024 * k.val + 1 * (i 0).val = 1024 * k.val + (i 0).val; omega
  | ⟨1, _⟩ => show (if d then 0 else 4096) + 1 * (i 1).val = (if d then 0 else 4096) + (i 1).val; omega

/-- Starting a copy of a block of the partial product to the buffer for it. -/
theorem op_load (k₀ : Dev nD) (q : PosShare TreeShare) (sm : DmaSem sig) {off : Fin 2 → ℕ} {inb} (hoff : off = ![1024 * k₀.val, if d then 0 else 4096])
    {hsrc : (pCut off inb).view.WordExact} {hdst : (ownM d).view.WordExact} {hsem} (N : ℕ) (hN : (ownM d).view.amount (.dma sm) = N) (hN0 : 0 < N)
    {α : Type} {Q : α → sProp 𝕄} {k : PUnit → Prog (TpuEff nD τ sig (Elt F) Λ₀ .tc) α} :
    iprop(hold c pM Finset.univ q (P c) ∗ anyHold c (ownM d) Finset.univ fullShare ∗ semVal ((c : Thread nD τ), .dma sm) 0)
      ⊢ iprop((pend c (.dma sm) N iprop(hold c (ownM d) Finset.univ fullShare (chunk d (P c) k₀) ∗ hold c pM Finset.univ q (P c))
          -∗ wp frame (wpE defs₀ 𝒱₀ (c : Thread nD τ) none) Set.univ (k ⟨⟩) Q)
        -∗ wp frame (wpE defs₀ 𝒱₀ (c : Thread nD τ) none) Set.univ (.op (.enqueueDma (pCut off inb) (.here (ownM d)) (.dma sm) hsrc hdst hsem) k) Q) := by
  unfold hold anyHold
  iintro ⟨⟨%f, %hf, Hf⟩, ⟨%g, Hg⟩, Hv⟩ Hk
  ihave Hf2 := (pointsTo_split_subset (pCut_sub off inb)).1 $$ Hf
  icases Hf2 with ⟨Hf, Hrest⟩
  iapply (Transfers.wp_dmaLocal EC 𝒱₀ (c : Thread nD τ) none (src := pCut off inb) (dst := ownM d) (Sd := (ownM d).view.setOn Finset.univ) (fs := f) (fd := g) 0 N hN hN0
    (Finset.Subset.refl _)) $$ [Hf Hg Hv]
  · isplitl [Hf]; · iexact Hf
    isplitl [Hg]; · iexact Hg
    iexact Hv
  iintro HF
  iapply Hk
  unfold pend
  iexists _, _
  isplitr
  rotate_left
  · isplitl [HF]; · iexact HF
    iexact Hrest
  ipureintro
  iintro ⟨⟨Hd, Hs⟩, Hr⟩
  isplitl [Hd]
  · iexists _
    isplitr
    rotate_left
    · iexact Hd
    ipureintro
    intro x _
    refine (congrFun (View.read_write_univ (v := (ownM d).view) g _) x).trans ?_
    exact congrFun (pCut_read P c d k₀ off inb hoff f hf) x
  · iexists f
    isplitr; · ipureintro; exact hf
    iapply (pointsTo_split_subset (pCut_sub off inb)).2
    isplitl [Hs]; · iexact Hs
    iexact Hr

/-- Starting a copy of a block of the partial product to slot 0. -/
theorem op_load0 (k₀ : Dev nD) (q : PosShare TreeShare) (sm : DmaSem sig) {off : Fin 2 → ℕ} {inb} (hoff : off = ![1024 * k₀.val, if d then 0 else 4096])
    {inb'} {hq : (⟨3, ![1, 1024, 4096]⟩ : Shape).Squeezes S1024x4096}
    {hsrc : (pCut off inb).view.WordExact} {hdst : (cut d 0 0 4096 inb' S1024x4096 hq).view.WordExact} {hsem} (N : ℕ)
    (hN : (cut d 0 0 4096 inb' S1024x4096 hq).view.amount (.dma sm) = N) (hN0 : 0 < N)
    {α : Type} {Q : α → sProp 𝕄} {k : PUnit → Prog (TpuEff nD τ sig (Elt F) Λ₀ .tc) α} :
    iprop(hold c pM Finset.univ q (P c) ∗ anyHold c (commM d) (box 0 0 4096) fullShare ∗ semVal ((c : Thread nD τ), .dma sm) 0)
      ⊢ iprop((pend c (.dma sm) N iprop(hold c (commM d) (box 0 0 4096) fullShare (on (chunk d (P c) k₀)) ∗ hold c pM Finset.univ q (P c))
          -∗ wp frame (wpE defs₀ 𝒱₀ (c : Thread nD τ) none) Set.univ (k ⟨⟩) Q)
        -∗ wp frame (wpE defs₀ 𝒱₀ (c : Thread nD τ) none) Set.univ
          (.op (.enqueueDma (pCut off inb) (.here (cut d 0 0 4096 inb' S1024x4096 hq)) (.dma sm) hsrc hdst hsem) k) Q) := by
  unfold hold anyHold
  iintro ⟨⟨%f, %hf, Hf⟩, ⟨%g, Hg⟩, Hv⟩ Hk
  ihave Hf2 := (pointsTo_split_subset (pCut_sub off inb)).1 $$ Hf
  icases Hf2 with ⟨Hf, Hrest⟩
  iapply (Transfers.wp_dmaLocal EC 𝒱₀ (c : Thread nD τ) none (src := pCut off inb) (dst := cut d 0 0 4096 inb' S1024x4096 hq) (Sd := (commM d).view.setOn (box 0 0 4096)) (fs := f) (fd := g) 0 N hN hN0
    (by rw [cut_set d (by decide)])) $$ [Hf Hg Hv]
  · isplitl [Hf]; · iexact Hf
    isplitl [Hg]; · iexact Hg
    iexact Hv
  iintro HF
  iapply Hk
  unfold pend
  iexists _, _
  isplitr
  rotate_left
  · isplitl [HF]; · iexact HF
    iexact Hrest
  ipureintro
  iintro ⟨⟨Hd, Hs⟩, Hr⟩
  isplitl [Hd]
  · iexists _
    isplitr
    rotate_left
    · iexact Hd
    ipureintro
    intro x hx
    have hx' := hx
    rw [← rect_box 0 0 4096 inb' (by decide), ← Rect.map_emb_univ] at hx'
    obtain ⟨i, -, rfl⟩ := Finset.mem_map.mp hx'
    have e2 : ∀ f : (commM d).view.ty.Contents (Elt F), (cut d 0 0 4096 inb' S1024x4096 hq).view.read (Elt F) f (Shape.reshapeEquiv hq.numel_eq.symm i)
        = (commM d).view.read (Elt F) f ((Rect.unit (s := S2x1024x4096) ![0, 0, 0] ![1, 1024, 4096] inb').emb i) := by
      intro f
      show (commM d).view.read (Elt F) f (Rect.emb _ (Shape.reshapeEquiv _ (Shape.reshapeEquiv _ i))) = _
      rw [Shape.reshapeEquiv_reshapeEquiv, Shape.reshapeEquiv_self]
    have h := congrFun (View.read_write_univ (v := (cut d 0 0 4096 inb' S1024x4096 hq).view) g ((pCut off inb).view.read (Elt F) f))
      (Shape.reshapeEquiv hq.numel_eq.symm i)
    rw [e2] at h
    refine h.trans ?_
    rw [pCut_read P c d k₀ off inb hoff f hf]
    have e3 : Shape.reshapeEquiv hq.numel_eq.symm i = (ix2 (i 1) (i 2) : S1024x4096.Idx) :=
      cast_up (fun j : S1024x4096.Idx => j) hq.numel_eq i
    rw [e3]
    refine congrArg (chunk d (P c) k₀) ?_
    funext a
    apply Fin.ext
    match a with
    | ⟨0, _⟩ => show (i 1).val = 0 + 1 * (i 1).val; omega
    | ⟨1, _⟩ => show (i 2).val = 0 + 1 * (i 2).val; omega
  · iexists f
    isplitr; · ipureintro; exact hf
    iapply (pointsTo_split_subset (pCut_sub off inb)).2
    isplitl [Hs]; · iexact Hs
    iexact Hr

/-! ## Adding -/

/-- The sum in the columns below `n`, the first summand beyond. -/
def half (n : ℕ) (X O : S1024x4096.Idx → Elt F .bf16) : S1024x4096.Idx → Elt F .bf16 :=
  fun x => if (x 1).val < n then FloatOps.addf (X x) (O x) else X x

theorem half_zero (X O : S1024x4096.Idx → Elt F .bf16) : half 0 X O = X := by
  funext x; exact if_neg (Nat.not_lt_zero _)
theorem half_all (X O : S1024x4096.Idx → Elt F .bf16) : half 4096 X O = addf (φ := .bf16) X O := by
  funext x; exact if_pos (x 1).isLt

/-- Adding columns `[n, n + 2048)` of the loaded block to a slot's. -/
theorem op_add (a n : ℕ) (hn : n + 2048 ≤ 4096) (X O : S1024x4096.Idx → Elt F .bf16) {inb inb₂}
    {hl : (commM d).view.LoadsAt (Rect.unit (s := S2x1024x4096) ![a, 0, n] ![1, 1024, 2048] inb).toLoadRect}
    {hl₂ : (ownM d).view.LoadsAt (Rect.unit (s := S1024x4096) ![0, n] ![1024, 2048] inb₂).toLoadRect}
    {hl₃ : (commM d).view.LoadsAt (Rect.unit (s := S2x1024x4096) ![a, 0, n] ![1, 1024, 2048] inb).toLoadRect}
    {hx} {hm} (pay : Vec F S1x1024x2048 .bf16 → Vec F S1024x2048 .bf16 → FVec F S1x1024x2048 .bf16)
    (hpay : ∀ v w, pay v w = shapeCast S1x1024x2048 (addf (shapeCast S1024x2048 v shapeCasts_S1x1024x2048_S1024x2048) w) shapeCasts_S1024x2048_S1x1024x2048)
    {α : Type} {Q : α → sProp 𝕄} {k : Prog (TpuEff nD τ sig (Elt F) Λ₀ .tc) α} :
    iprop(hold c (commM d) (box a 0 4096) fullShare (on (half n X O)) ∗ hold c (ownM d) Finset.univ fullShare O)
      ⊢ iprop(((hold c (commM d) (box a 0 4096) fullShare (on (half (n + 2048) X O)) ∗ hold c (ownM d) Finset.univ fullShare O)
          -∗ wp frame (wpE defs₀ 𝒱₀ (c : Thread nD τ) none) Set.univ k Q)
        -∗ wp frame (wpE defs₀ 𝒱₀ (c : Thread nD τ) none) Set.univ
          (.op (.load (commM d) (Rect.unit (s := S2x1024x4096) ![a, 0, n] ![1, 1024, 2048] inb).toLoadRect hl) fun v =>
            .op (.load (ownM d) (Rect.unit (s := S1024x4096) ![0, n] ![1024, 2048] inb₂).toLoadRect hl₂) fun w =>
            .op (.load (commM d) (Rect.unit (s := S2x1024x4096) ![a, 0, n] ![1, 1024, 2048] inb).toLoadRect hl₃) fun _ =>
            .op (.store (commM d) (Rect.unit (s := S2x1024x4096) ![a, 0, n] ![1, 1024, 2048] inb) (pay v w) Finset.univ hx hm) fun _ => k) Q) := by
  have hsub : (Rect.unit (s := S2x1024x4096) ![a, 0, n] ![1, 1024, 2048] inb).set ⊆ box a 0 4096 := by
    rw [rect_box a n 2048 inb hn]; intro x; rw [mem_box, mem_box]; omega
  unfold hold
  iintro ⟨⟨%f, %hf, Hf⟩, ⟨%g, %hg, Hg⟩⟩ Hk
  iapply (wp_load 𝒱₀ (c : Thread nD τ) none Set.univ (m := commM d) (setOn_mono hsub)) $$ Hf
  iintro Hf
  iapply (wp_load 𝒱₀ (c : Thread nD τ) none Set.univ (m := ownM d) (setOn_mono (Finset.subset_univ _))) $$ Hg
  iintro Hg
  iapply (wp_load 𝒱₀ (c : Thread nD τ) none Set.univ (m := commM d) (setOn_mono hsub)) $$ Hf
  iintro Hf
  iapply (wp_store 𝒱₀ (c : Thread nD τ) none Set.univ (m := commM d) (r := Rect.unit (s := S2x1024x4096) ![a, 0, n] ![1, 1024, 2048] inb) (f := f) (Mk := Finset.univ) (S := (commM d).view.setOn (box a 0 4096))
    (show _ ⊆ (commM d).view.setOn (box a 0 4096) from by
      rw [View.setOn_univ]; exact (slice_set (M := commM d) _).le.trans (setOn_mono hsub))) $$ Hf
  iintro Hf
  iapply Hk
  isplitl [Hf]
  · iexists _
    isplitr
    rotate_left
    · iexact Hf
    ipureintro
    rw [hpay, readAt_hold (c := c) (M := commM d) _ hsub hf, readAt_hold (c := c) (M := ownM d) _ (Finset.subset_univ _) hg]
    refine write_hold (c := c) (M := commM d) (Rect.unit (s := S2x1024x4096) ![a, 0, n] ![1, 1024, 2048] inb) _ hf ?_ ?_
    · intro i
      rw [cast_up]
      have e1 : (((Rect.unit (s := S2x1024x4096) ![a, 0, n] ![1, 1024, 2048] inb).emb i) 2).val = n + (i 2).val := by
        rw [Rect.emb_apply]; show n + 1 * (i 2).val = _; omega
      have h2 : (i 2).val < 2048 := (i 2).isLt
      refine Eq.trans ?_ (if_pos (show (((Rect.unit (s := S2x1024x4096) ![a, 0, n] ![1, 1024, 2048] inb).emb i) 2).val < n + 2048 by rw [e1]; omega)).symm
      refine congrArg₂ FloatOps.addf ?_ (congrArg O ?_)
      · refine (cast_down _ _ _).trans ?_
        refine (if_neg ?_).trans (congrArg X ?_)
        · show ¬(n + 1 * (i 2).val < n); omega
        · funext t; apply Fin.ext
          match t with
          | ⟨0, _⟩ => show 0 + 1 * (i 1).val = 0 + 1 * (i 1).val; rfl
          | ⟨1, _⟩ => show n + 1 * (i 2).val = n + 1 * (i 2).val; rfl
      · funext t; apply Fin.ext
        match t with
        | ⟨0, _⟩ => show 0 + 1 * (i 1).val = 0 + 1 * (i 1).val; rfl
        | ⟨1, _⟩ => show n + 1 * (i 2).val = n + 1 * (i 2).val; rfl
    · intro x hx hxr
      rw [rect_box a n 2048 inb hn, mem_box] at hxr
      rw [mem_box] at hx
      show half n X O _ = half (n + 2048) X O _
      unfold half
      by_cases h : (x 2).val < n
      · rw [if_pos (show ((ix2 (x 1) (x 2) : S1024x4096.Idx) 1).val < n from h), if_pos (show ((ix2 (x 1) (x 2) : S1024x4096.Idx) 1).val < n + 2048 by show (x 2).val < _; omega)]
      · rw [if_neg (show ¬((ix2 (x 1) (x 2) : S1024x4096.Idx) 1).val < n from h), if_neg (show ¬((ix2 (x 1) (x 2) : S1024x4096.Idx) 1).val < n + 2048 by show ¬(x 2).val < _; omega)]
  · iexists g
    isplitr; · ipureintro; exact hg
    iexact Hg

/-! ## Writing the result -/

/-- What the kernel makes of one summed element, at scale `s`. -/
def epi1 (s : Elt F .f32) (x : Elt F .bf16) : Elt F .f32 :=
  let y := FloatOps.mulf (φ := .f32) (FloatOps.extf .f32 (by decide) x) s
  FloatOps.mulf y (FloatOps.divf (Scalar.ofBits .f32 0x3F800000#32)
    (FloatOps.addf (Scalar.ofBits .f32 0x3F800000#32) (FloatOps.exp (FloatOps.subf (Scalar.ofBits .f32 0x00000000#32) y))))

/-- The kernel's epilogue on a loaded block. -/
def epi (s : Elt F .f32) (v : Vec F S1x1024x1024 .bf16) : FVec F S1024x1024 .f32 :=
  shapeCast S1024x1024 (fun i : S1024x1024.Idx => epi1 s (shapeCast S1024x1024 v shapeCasts_S1x1024x1024_S1024x1024 i)) (by decide)

/-- The result, by rows: the row's device, its half of the columns, its place there. -/
def outv (s : Elt F .f32) (x : S4096x8192.Idx) : Elt F .f32 :=
  epi1 s (X P (decide ((x 1).val < 4096)) 3
    ⟨(x 0).val / 1024, by have h : (x 0).val < 4096 := (x 0).isLt; show _ < 4; omega⟩
    (ix2 ⟨(x 0).val % 1024, Nat.mod_lt _ (by decide)⟩ ⟨(x 1).val % 4096, Nat.mod_lt _ (by decide)⟩))

/-- The 1024 × 1024 block an index lies in. -/
def blkOf (x : S4096x8192.Idx) : ℕ := (x 0).val / 1024 * 8 + (x 1).val / 1024

/-- The result buffer, the blocks of `D` done. -/
def oD (D : List ℕ) : sProp 𝕄 :=
  iprop(∃ f : Buf (Elt F) (outM.view.loc (c : Thread nD τ)), ⌜∀ x, blkOf x ∈ D → outM.view.read (Elt F) f x = outv P (sc c) x⌝
    ∗ (outM.view.loc (c : Thread nD τ) ↦[outM.view.setOn Finset.univ]{fullShare} f))

abbrev oCut (off : Fin 2 → ℕ) (inb : ∀ i, off i + S1024x1024.size i ≤ S4096x8192.size i) : Memref sig .tc .hbm S1024x1024 .f32 :=
  outM.slice (Rect.unit (s := S4096x8192) off S1024x1024.size inb) (fun _ => rfl)

theorem oCut_pos (off : Fin 2 → ℕ) (inb) : 0 < (oCut off inb).view.dmaCredit := View.dmaCredit_pos _ (by decide)

theorem oCut_sub (off : Fin 2 → ℕ) (inb) : (oCut off inb).view.set ⊆ outM.view.setOn Finset.univ := by
  have h : (oCut off inb).view.set = outM.view.setOn (Rect.unit (s := S4096x8192) off S1024x1024.size inb).set := slice_set (M := outM) _
  rw [h]; exact setOn_mono (Finset.subset_univ _)

theorem blk_val (s : Elt F .f32) (a j : ℕ) (hj : j < 4) (k₀ : Dev nD) (inb)
    (inbo : ∀ i, ![1024 * k₀.val, (if d then 0 else 4096) + 1024 * j] i + S1024x1024.size i ≤ S4096x8192.size i) (i : S1024x1024.Idx) :
    epi s (fun i => on (X P d 3 k₀) ((Rect.unit (s := S2x1024x4096) ![a, 0, 1024 * j] ![1, 1024, 1024] inb).emb i)) i
      = outv P s ((Rect.unit (s := S4096x8192) ![1024 * k₀.val, (if d then 0 else 4096) + 1024 * j] S1024x1024.size inbo).emb i) := by
  have h0 : (i 0).val < 1024 := (i 0).isLt
  have h1 : (i 1).val < 1024 := (i 1).isLt
  have hk : k₀.val < 4 := k₀.isLt
  have e0 : (((Rect.unit (s := S4096x8192) ![1024 * k₀.val, (if d then 0 else 4096) + 1024 * j] S1024x1024.size inbo).emb i) 0).val
      = 1024 * k₀.val + (i 0).val := by rw [Rect.emb_apply]; show 1024 * k₀.val + 1 * (i 0).val = _; omega
  have e1 : (((Rect.unit (s := S4096x8192) ![1024 * k₀.val, (if d then 0 else 4096) + 1024 * j] S1024x1024.size inbo).emb i) 1).val
      = (if d then 0 else 4096) + 1024 * j + (i 1).val := by
    rw [Rect.emb_apply]; show (if d then 0 else 4096) + 1024 * j + 1 * (i 1).val = _; omega
  generalize (Rect.unit (s := S4096x8192) ![1024 * k₀.val, (if d then 0 else 4096) + 1024 * j] S1024x1024.size inbo).emb i = z at e0 e1
  have hd : decide ((z 1).val < 4096) = d := by
    rw [e1]; cases d <;> simp only [if_true, if_false, Bool.false_eq_true, decide_eq_true_eq, decide_eq_false_iff_not] <;> omega
  have hkd : (⟨(z 0).val / 1024, by have h : (z 0).val < 4096 := (z 0).isLt; show _ < 4; omega⟩ : Dev nD) = k₀ := by
    apply Fin.ext; show (z 0).val / 1024 = k₀.val; rw [e0]; omega
  unfold epi outv
  rw [hd, hkd]
  refine (shapeCast_apply _ _ i i rfl).trans ?_
  refine congrArg (epi1 s) ?_
  refine (cast_down _ _ i).trans ?_
  refine congrArg (X P d 3 k₀) ?_
  funext t; apply Fin.ext
  match t with
  | ⟨0, _⟩ => show 0 + 1 * (i 0).val = (z 0).val % 1024; rw [e0]; omega
  | ⟨1, _⟩ => show 1024 * j + 1 * (i 1).val = (z 1).val % 4096; rw [e1]; cases d <;> simp only [if_true, if_false, Bool.false_eq_true] <;> omega

/-- One block of the result: load it from the slot, apply the epilogue, copy it out. -/
theorem op_blk (a j : ℕ) (hj : j < 4) (k₀ : Dev nD) (B : Finset S2x1024x4096.Idx) (hB : box a (1024 * j) 1024 ⊆ B) (q : PosShare TreeShare)
    {Z : S1024x4096.Idx → Elt F .bf16} (hZ : Z = X P d 3 k₀) {off : Fin 2 → ℕ} {inbo} (hoff : off = ![1024 * k₀.val, (if d then 0 else 4096) + 1024 * j]) (cj : ℕ) (hcj : cj = 1024 * j)
    (sm : DmaSem sig) (hsm : lv ((c : Thread nD τ), .dma sm) 0 = 0) {inb inb₂ inb₃}
    {hl : (commM d).view.LoadsAt (Rect.unit (s := S2x1024x4096) ![a, 0, cj] ![1, 1024, 1024] inb).toLoadRect}
    {hl₂ : outbM.view.LoadsAt (Rect.unit (s := S1024x1024) ![0, 0] ![1024, 1024] inb₂).toLoadRect}
    {hx} {hm} (pay : Vec F S1x1024x1024 .bf16 → FVec F S1024x1024 .f32) (hpay : ∀ v, pay v = epi (sc c) v)
    {hsrc : outbM.view.WordExact} {hdst : (oCut off inbo).view.WordExact} {hsem} {hsrc' : outbM.view.WordExact} {hdst' : (oCut off inbo).view.WordExact}
    {l : List Ow} (hok : ∀ o ∈ l, okO o) (hlv : ∀ o ∈ l, 0 < lvO o) (D : List ℕ)
    {α : Type} {Q : α → sProp 𝕄} {k : Prog (TpuEff nD τ sig (Elt F) Λ₀ .tc) α} :
    iprop(Ctx P K ∗ ow c l ∗ hold c (commM d) B q (on Z) ∗ anyHold c outbM Finset.univ fullShare ∗ semVal ((c : Thread nD τ), .dma sm) 0 ∗ oD P sc c D)
      ⊢ iprop(((ow c l ∗ hold c (commM d) B q (on Z) ∗ anyHold c outbM Finset.univ fullShare ∗ semVal ((c : Thread nD τ), .dma sm) 0
            ∗ oD P sc c ((k₀.val * 8 + (if d then 0 else 4) + j) :: D))
          -∗ wp frame (wpE defs₀ 𝒱₀ (c : Thread nD τ) none) Set.univ k Q)
        -∗ wp frame (wpE defs₀ 𝒱₀ (c : Thread nD τ) none) Set.univ
          (.op (.load (commM d) (Rect.unit (s := S2x1024x4096) ![a, 0, cj] ![1, 1024, 1024] inb).toLoadRect hl) fun v =>
            .op (.load outbM (Rect.unit (s := S1024x1024) ![0, 0] ![1024, 1024] inb₂).toLoadRect hl₂) fun _ =>
            .op (.store outbM (Rect.unit (s := S1024x1024) ![0, 0] ![1024, 1024] inb₃) (pay v) Finset.univ hx hm) fun _ =>
            .op (.enqueueDma outbM (.here (oCut off inbo)) (.dma sm) hsrc hdst hsem) fun _ =>
            .op (.waitDma2 sm outbM (oCut off inbo) hsrc' hdst') fun _ => k) Q) := by
  subst hcj
  subst hZ
  have hsub : (Rect.unit (s := S2x1024x4096) ![a, 0, 1024 * j] ![1, 1024, 1024] inb).set ⊆ B := by
    rw [rect_box a (1024 * j) 1024 inb (by omega)]; exact hB
  unfold hold anyHold oD
  iintro ⟨#HC, HO, ⟨%f, %hf, Hf⟩, ⟨%g, Hg⟩, Hv, ⟨%o, %ho, Ho⟩⟩ Hk
  iapply (wp_load 𝒱₀ (c : Thread nD τ) none Set.univ (m := commM d) (setOn_mono hsub)) $$ Hf
  iintro Hf
  iapply (wp_load 𝒱₀ (c : Thread nD τ) none Set.univ (m := outbM) (setOn_mono (Finset.subset_univ _))) $$ Hg
  iintro Hg
  iapply (wp_store 𝒱₀ (c : Thread nD τ) none Set.univ (m := outbM) (r := Rect.unit (s := S1024x1024) ![0, 0] ![1024, 1024] inb₃) (f := g) (Mk := Finset.univ)
    (S := outbM.view.setOn Finset.univ)
    (by rw [View.setOn_univ]; exact (slice_set (M := outbM) _).le.trans (setOn_mono (Finset.subset_univ _)))) $$ Hg
  iintro Hg
  iapply (Transfers.wp_dmaLocal EC 𝒱₀ (c : Thread nD τ) none (src := outbM) (dst := oCut off inbo) (Sd := outM.view.setOn Finset.univ) (fd := o) 0
    ((oCut off inbo).view.amount (.dma sm)) rfl (oCut_pos off inbo) (oCut_sub off inbo)) $$ [Hg Ho Hv]
  · isplitl [Hg]; · iexact Hg
    isplitl [Ho]; · iexact Ho
    iexact Hv
  iintro HF
  unfold ow
  icases HO with ⟨%W, HO⟩
  ihave #HL := (Ctx_lev P K) $$ HC
  iapply (Transfers.wp_waitLocalO EC 𝒱₀ (c : Thread nD τ) none 0 rfl) $$ [HF HO]
  · isplitl [HF]; · iexact HF
    isplitl [HO]; · iexact HO
    iapply (mayWait c (.dma sm) 0 (by decide) l hok (fun o ho => by rw [hsm]; exact hlv o ho)); iexact HL
  iintro ⟨⟨Ho, Hg⟩, Hv, HO⟩
  iapply Hk
  isplitl [HO]; · iexists _; iexact HO
  isplitl [Hf]
  · iexists f; isplitr; · ipureintro; exact hf
    iexact Hf
  isplitl [Hg]; · iexists _; iexact Hg
  isplitl [Hv]; · iexact Hv
  iexists _
  isplitr
  rotate_left
  · iexact Ho
  ipureintro
  intro x hx
  subst hoff
  have hY := write_hold (c := c) (M := outM) (B := Finset.univ) (Y := outM.view.read (Elt F) o)
    (Y' := fun x => if x ∈ (Rect.unit (s := S4096x8192) ![1024 * k₀.val, (if d then 0 else 4096) + 1024 * j] S1024x1024.size inbo).set then outv P (sc c) x else outM.view.read (Elt F) o x)
    (Rect.unit (s := S4096x8192) ![1024 * k₀.val, (if d then 0 else 4096) + 1024 * j] S1024x1024.size inbo)
    (outbM.view.read (Elt F) ((outbM.access (Rect.unit (s := S1024x1024) ![0, 0] ![1024, 1024] inb₃)).write (Elt F) g
      (pay ((commM d).view.readAt (Elt F) (Rect.unit (s := S2x1024x4096) ![a, 0, 1024 * j] ![1, 1024, 1024] inb).toLoadRect f)) Finset.univ)) (fun _ _ => rfl)
    (by
      intro i
      rw [if_pos (by rw [← Rect.map_emb_univ]; exact Finset.mem_map_of_mem _ (Finset.mem_univ i))]
      have ei : (Rect.unit (s := S1024x1024) ![0, 0] ![1024, 1024] inb₃).emb i = i := by
        funext t; apply Fin.ext; rw [Rect.emb_apply]
        match t with
        | ⟨0, _⟩ => show 0 + 1 * (i 0).val = (i 0).val; omega
        | ⟨1, _⟩ => show 0 + 1 * (i 1).val = (i 1).val; omega
      have ew := View.read_slice_write_emb (Val := Elt F) (v := outbM.view) (Rect.unit (s := S1024x1024) ![0, 0] ![1024, 1024] inb₃) g
        (pay ((commM d).view.readAt (Elt F) (Rect.unit (s := S2x1024x4096) ![a, 0, 1024 * j] ![1, 1024, 1024] inb).toLoadRect f)) (Finset.mem_univ i)
      rw [ei] at ew
      refine ew.trans ?_
      rw [hpay, readAt_hold (c := c) (M := commM d) _ hsub hf]
      exact blk_val P d (sc c) a j hj k₀ inb inbo i)
    (fun x _ hxr => (if_neg hxr).symm)
    x (Finset.mem_univ x)
  refine hY.trans ?_
  by_cases hxr : x ∈ (Rect.unit (s := S4096x8192) ![1024 * k₀.val, (if d then 0 else 4096) + 1024 * j] S1024x1024.size inbo).set
  · exact if_pos hxr
  · rw [if_neg hxr]
    refine ho x ?_
    rcases List.mem_cons.mp hx with h | h
    · exfalso
      apply hxr
      rw [Rect.mem_set_unit]
      have h0 : (x 0).val < 4096 := (x 0).isLt
      have h1 : (x 1).val < 8192 := (x 1).isLt
      have hk : k₀.val < 4 := k₀.isLt
      have h2 : (x 0).val / 1024 * 8 + (x 1).val / 1024 = k₀.val * 8 + (if d then 0 else 4) + j := h
      intro t
      match t with
      | ⟨0, _⟩ =>
        show 1024 * k₀.val ≤ (x 0).val ∧ (x 0).val < 1024 * k₀.val + 1024
        cases d <;> simp only [if_true, if_false, Bool.false_eq_true] at h2 <;> omega
      | ⟨1, _⟩ =>
        show (if d then 0 else 4096) + 1024 * j ≤ (x 1).val ∧ (x 1).val < (if d then 0 else 4096) + 1024 * j + 1024
        cases d <;> simp only [if_true, if_false, Bool.false_eq_true] at h2 ⊢ <;> omega
    · exact h

end Cert.KernelIdeal.Ring
-- ==== Proof.KernelIdeal.State.lean ====
/-
# What a device holds between the stages of the kernel
-/
module

public import proofs.«01_k».proof.Proof.KernelIdeal.Move

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD) (d : Bool)

/-! ## Variants of the steps -/

/-- Sending one of the first five transfers; the slot's contents named otherwise. -/
theorem op_send5 (e : Fin 7) (he : e.val < 5) (t : ℕ) (het : e.val = t) (n : Dev nD) (hn : n = dn d c) {s' : Shape} (a b : ℕ)
    (ha : (slotE e).val = a) (hb : (landE e).val = b) (hc0 : colE e = 0) (hwe : widE e = 4096) (q : PosShare TreeShare) (hq' : q = qE e)
    {Y : S1024x4096.Idx → Elt F .bf16} (hY : Y = X P d (tmE e) c) {inb inb'}
    {hq : (⟨3, ![1, 1024, 4096]⟩ : Shape).Squeezes s'} {hsc}
    (sS sR : DmaSem sig) (hsS : sS = sendS d (celE e)) (hsR : sR = recvS d e) (a' : Fin 2) (ha' : a' = celE e) (r' : ℕ) (hr' : r' = rndE e)
    {hsrc : (cut d a 0 4096 inb s' hq).view.WordExact} {hdst : (cut d b 0 4096 inb' s' hq).view.WordExact} {hsem}
    (hN : (cut d b 0 4096 inb' s' hq).view.dmaCredit = NE e)
    {l : List Ow} {es : List (Fin 7)} {ws : List ℕ} {α : Type} {Q : α → sProp 𝕄} {k : PUnit → Prog (TpuEff nD τ sig (Elt F) Λ₀ .tc) α} :
    iprop(Ctx P K ∗ ow c (.recv d e :: l) ∗ sTok c d (e :: es) ∗ sPos c d a' r'
        ∗ hold c (commM d) (box a 0 4096) q (on Y) ∗ anyHold (dn d c) (commM d) (box b 0 4096) fullShare
        ∗ rR d (dn d c) ∗ wCr c d t ws)
      ⊢ iprop(((ow c l ∗ sTok c d es ∗ sFl c d e ∗ wCr c d t ws) -∗ wp frame (wpE defs₀ 𝒱₀ (c : Thread nD τ) none) Set.univ (k ⟨⟩) Q)
        -∗ wp frame (wpE defs₀ 𝒱₀ (c : Thread nD τ) none) Set.univ
          (.op (.enqueueDma (cut d a 0 4096 inb s' hq) (.remote (Dev.tc n) (cut d b 0 4096 inb' s' hq) (.dma sS) hsc) (.dma sR) hsrc hdst hsem) k) Q) := by
  subst hY; subst ha'; subst hr'; subst hq'; subst het
  unfold wCr
  iintro ⟨#HC, HO, Hs, Hp, Hh, Hn, #HR, Hat, #Hr, Hcs⟩ Hk
  iapply (op_send P K c d e n hn a b 0 4096 (by decide) ha hb hc0 hwe sS sR hsS hsR hN) $$ [HO Hs Hp Hh Hn]
  · isplitr; · iexact HC
    isplitl [HO]; · iexact HO
    isplitl [Hs]; · iexact Hs
    isplitl [Hp]; · iexact Hp
    isplitl [Hh]; · iexact Hh
    isplitl [Hn]; · iexact Hn
    isplitr; · iexact HR
    rw [crE_lt he]; iexact Hr
  iintro ⟨HO, Hs, Hf⟩
  iapply Hk
  isplitl [HO]; · iexact HO
  isplitl [Hs]; · iexact Hs
  isplitl [Hf]; · iexact Hf
  isplitl [Hat]; · iexact Hat
  isplitr; · iexact Hr
  iexact Hcs

/-- Sending one of the two last transfers. -/
theorem op_sendH (e : Fin 7) (he : 5 ≤ e.val) (n : Dev nD) (hn : n = dn d c) {s' : Shape} (a b c0 w : ℕ) (hw : c0 + w ≤ 4096)
    (ha : (slotE e).val = a) (hb : (landE e).val = b) (hc0 : colE e = c0) (hwe : widE e = w) (q : PosShare TreeShare) (hq' : q = qE e)
    {Y : S1024x4096.Idx → Elt F .bf16} (hY : Y = X P d (tmE e) c) {inb inb'}
    {hq : (⟨3, ![1, 1024, w]⟩ : Shape).Squeezes s'} {hsc}
    (sS sR : DmaSem sig) (hsS : sS = sendS d (celE e)) (hsR : sR = recvS d e) (a' : Fin 2) (ha' : a' = celE e) (r' : ℕ) (hr' : r' = rndE e)
    {hsrc : (cut d a c0 w inb s' hq).view.WordExact} {hdst : (cut d b c0 w inb' s' hq).view.WordExact} {hsem}
    (hN : (cut d b c0 w inb' s' hq).view.dmaCredit = NE e)
    {l : List Ow} {es : List (Fin 7)} {α : Type} {Q : α → sProp 𝕄} {k : PUnit → Prog (TpuEff nD τ sig (Elt F) Λ₀ .tc) α} :
    iprop(Ctx P K ∗ ow c (.recv d e :: l) ∗ sTok c d (e :: es) ∗ sPos c d a' r'
        ∗ hold c (commM d) (box a c0 w) q (on Y) ∗ anyHold (dn d c) (commM d) (box b c0 w) fullShare
        ∗ rR d (dn d c))
      ⊢ iprop(((ow c l ∗ sTok c d es ∗ sFl c d e) -∗ wp frame (wpE defs₀ 𝒱₀ (c : Thread nD τ) none) Set.univ (k ⟨⟩) Q)
        -∗ wp frame (wpE defs₀ 𝒱₀ (c : Thread nD τ) none) Set.univ
          (.op (.enqueueDma (cut d a c0 w inb s' hq) (.remote (Dev.tc n) (cut d b c0 w inb' s' hq) (.dma sS) hsc) (.dma sR) hsrc hdst hsem) k) Q) := by
  subst hY; subst ha'; subst hr'; subst hq'
  iintro ⟨#HC, HO, Hs, Hp, Hh, Hn, #HR⟩ Hk
  iapply (op_send P K c d e n hn a b c0 w hw ha hb hc0 hwe sS sR hsS hsR hN) $$ [HO Hs Hp Hh Hn]
  · isplitr; · iexact HC
    isplitl [HO]; · iexact HO
    isplitl [Hs]; · iexact Hs
    isplitl [Hp]; · iexact Hp
    isplitl [Hh]; · iexact Hh
    isplitl [Hn]; · iexact Hn
    isplitr; · iexact HR
    rw [crE_ge (Nat.not_lt.mpr he)]; iempintro
  iintro ⟨HO, Hs, Hf⟩
  iapply Hk
  isplitl [HO]; · iexact HO
  isplitl [Hs]; · iexact Hs
  iexact Hf

/-- The end of a send, its slot named otherwise. -/
theorem op_sent5 (e : Fin 7) (sm : DmaSem sig) (hsm : sm = sendS d (celE e)) {l : List Ow} (hok : ∀ o ∈ l, okO o) (hl : ∀ o ∈ l, 0 < lvO o)
    (a' : Fin 2) (ha' : a' = celE e) (r' : ℕ) (hr' : r' = rndE e + 1) (a c0 w : ℕ) (ha : a = (slotE e).val) (hc0 : c0 = colE e) (hwe : w = widE e)
    (q : PosShare TreeShare) (hq : q = qE e) (Y : S1024x4096.Idx → Elt F .bf16) (hY : Y = X P d (tmE e) c)
    {sp sp' : Space} {s s' : Shape} {e₁ e₂ : EltTy} {κ' : Kind} {srcw : Memref sig .tc sp' s' e₂} {dstw : Memref sig κ' sp s e₁}
    {hsrc : srcw.view.WordExact} {hdst : dstw.view.WordExact} (hN : dstw.view.dmaCredit = NE e)
    {α : Type} {Q : α → sProp 𝕄} {k : PUnit → Prog (TpuEff nD τ sig (Elt F) Λ₀ .tc) α} :
    iprop(Ctx P K ∗ ow c l ∗ sFl c d e)
      ⊢ iprop(((ow c l ∗ sPos c d a' r' ∗ hold c (commM d) (box a c0 w) q (on Y))
          -∗ wp frame (wpE defs₀ 𝒱₀ (c : Thread nD τ) none) Set.univ (k ⟨⟩) Q)
        -∗ wp frame (wpE defs₀ 𝒱₀ (c : Thread nD τ) none) Set.univ (.op (.waitDma2 sm srcw dstw hsrc hdst) k) Q) := by
  subst ha'; subst hr'; subst ha; subst hc0; subst hwe; subst hq; subst hY
  exact op_sent P K c d e sm hsm hok hl hN

/-- A transfer's arrival, its slot named otherwise. -/
theorem op_recv5 (e : Fin 7) (sm : DmaSem sig) (hsm : sm = recvS d e) {l : List Ow} {es : List (Fin 7)} (hok : ∀ o ∈ l, okO o)
    (hl : ∀ o ∈ l, (if e.val < 5 then 2 * e.val + 2 else 12) < lvO o) (a c0 w : ℕ) (ha : a = (landE e).val) (hc0 : c0 = colE e) (hwe : w = widE e)
    (Y : S1024x4096.Idx → Elt F .bf16) (hY : Y = X P d (tmE e) (fro d c))
    {sp sp' : Space} {s s' : Shape} {e₁ e₂ : EltTy} {κ' : Kind} {srcw : Memref sig .tc sp' s' e₂} {dstw : Memref sig κ' sp s e₁}
    {hsrc : srcw.view.WordExact} {hdst : dstw.view.WordExact} (hN : dstw.view.dmaCredit = NE e)
    {α : Type} {Q : α → sProp 𝕄} {k : PUnit → Prog (TpuEff nD τ sig (Elt F) Λ₀ .tc) α} :
    iprop(Ctx P K ∗ ow c l ∗ rPos c d (e :: es))
      ⊢ iprop(((ow c l ∗ rPos c d es ∗ rZ c d e ∗ hold c (commM d) (box a c0 w) fullShare (on Y) ∗ crE d (fro d c) e)
          -∗ wp frame (wpE defs₀ 𝒱₀ (c : Thread nD τ) none) Set.univ (k ⟨⟩) Q)
        -∗ wp frame (wpE defs₀ 𝒱₀ (c : Thread nD τ) none) Set.univ (.op (.waitDma2 sm srcw dstw hsrc hdst) k) Q) := by
  subst ha; subst hc0; subst hwe; subst hY
  exact op_recv P K c d e sm hsm hok hl hN

/-- Giving a credit, by what the transfer read brought along. -/
theorem op_give5 (e : Fin 7) (he : e.val < 5) (t : ℕ) (het : e.val = t) (a : ℕ) (ha : a = t % 2) (n : Dev nD) (hn : n = fro d c) (sm : Sem sig) (hsm : sm = credS d) {l : List Ow} {ts : List ℕ}
    {α : Type} {Q : α → sProp 𝕄} {k : PUnit → Prog (TpuEff nD τ sig (Elt F) Λ₀ .tc) α} :
    iprop(Ctx P K ∗ ow c (.cred d t :: l) ∗ pTok c d (t :: ts) ∗ anyHold c (commM d) (box a 0 4096) fullShare ∗ crE d (fro d c) e)
      ⊢ iprop(((ow c l ∗ pTok c d ts) -∗ wp frame (wpE defs₀ 𝒱₀ (c : Thread nD τ) none) Set.univ (k ⟨⟩) Q)
        -∗ wp frame (wpE defs₀ 𝒱₀ (c : Thread nD τ) none) Set.univ (.op (.semSignal (Dev.tc n) sm 1) k) Q) := by
  subst ha; subst het
  rw [crE_lt he]
  exact op_give P K c d e.val he n hn sm hsm

/-- Both shares of a slot back: the slot is free. -/
theorem free_slot {B : Finset S2x1024x4096.Idx} {Y Y' : S2x1024x4096.Idx → Elt F .bf16} :
    iprop(hold c (commM d) B fullShare.left Y ∗ hold c (commM d) B fullShare.right Y') ⊢ (anyHold c (commM d) B fullShare : sProp 𝕄) :=
  hold_unshare.trans hold_any

/-- A slot's two halves. -/
theorem slot_halves (a : ℕ) (q : PosShare TreeShare) (Y : S2x1024x4096.Idx → Elt F .bf16) :
    (hold c (commM d) (box a 0 4096) q Y : sProp 𝕄) ⊢ iprop(hold c (commM d) (box a 0 2048) q Y ∗ hold c (commM d) (box a 2048 2048) q Y) := by
  rw [box_halves]; exact hold_split (box_disj a)
theorem slot_any_halves (a : ℕ) (q : PosShare TreeShare) (n : Dev nD) :
    (anyHold n (commM d) (box a 0 4096) q : sProp 𝕄) ⊢ iprop(anyHold n (commM d) (box a 0 2048) q ∗ anyHold n (commM d) (box a 2048 2048) q) := by
  rw [box_halves]; exact any_split (box_disj a)
theorem slot_any_join (a : ℕ) (q : PosShare TreeShare) :
    iprop(anyHold c (commM d) (box a 0 2048) q ∗ anyHold c (commM d) (box a 2048 2048) q) ⊢ (anyHold c (commM d) (box a 0 4096) q : sProp 𝕄) := by
  rw [box_halves]; exact any_join (box_disj a)

/-- Both halves of a slot added: the next partial sum. -/
theorem add_done (t : ℕ) (ht : t < 3) (a : ℕ) (q : PosShare TreeShare) :
    (hold c (commM d) (box a 0 4096) q (on (half 4096 (X P d t (fro d c)) (chunk d (P c) (own d t c)))) : sProp 𝕄)
      ⊢ hold c (commM d) (box a 0 4096) q (on (X P d (t + 1) c)) := by
  rw [half_all, X_add P d t ht c]
theorem add_start (a : ℕ) (q : PosShare TreeShare) (Y O : S1024x4096.Idx → Elt F .bf16) :
    (hold c (commM d) (box a 0 4096) q (on Y) : sProp 𝕄) ⊢ hold c (commM d) (box a 0 4096) q (on (half 0 Y O)) := by
  rw [half_zero]

theorem box_sub (a : ℕ) {c₁ w₁ c₂ w₂ : ℕ} (h : c₂ ≤ c₁) (h' : c₁ + w₁ ≤ c₂ + w₂) : box a c₁ w₁ ⊆ box a c₂ w₂ := by
  intro x; rw [mem_box, mem_box]; omega

/-- The block of the result at rows of device `k`, half `d`, place `j`. -/
abbrev bk (k : Dev nD) (d : Bool) (j : ℕ) : ℕ := k.val * 8 + (if d then 0 else 4) + j
/-- A half row of blocks. -/
abbrev bks (k : Dev nD) (d : Bool) (D : List ℕ) : List ℕ := bk k d 3 :: bk k d 2 :: bk k d 1 :: bk k d 0 :: D

theorem fro2_true : ∀ c : Dev nD, (c.val + 3 - 1) % 4 = (fro true (fro true c)).val := by decide
theorem fro2_false : ∀ c : Dev nD, (c.val + 1 + 1) % 4 = (fro false (fro false c)).val := by decide
theorem fro3_true : ∀ c : Dev nD, (c.val + 1) % 4 = (fro true (fro true (fro true c))).val := by decide
theorem fro3_false : ∀ c : Dev nD, (c.val + 3) % 4 = (fro false (fro false (fro false c))).val := by decide

/-! ## The bundles -/

/-- Closed receive cells. -/
def rZs : List (Fin 7) → sProp 𝕄
  | [] => iprop(emp)
  | e :: l => iprop(rZ c d e ∗ rZs l)

/-- A read of the scalar memory, continued. -/
theorem smem_bind (a0 : Memref sig .tc .smem S1 .f32) (r : Rect S1) (h : (a0.access r).Loads) (x : r.shape.Idx) {α β : Type}
    (k : Elt F .f32 → Prog (TpuEff nD τ sig (Elt F) Λ₀ .tc) α) (g : α → Prog (TpuEff nD τ sig (Elt F) Λ₀ .tc) β) :
    (smemLoadElt a0 r h x k >>= g) = smemLoadElt a0 r h x fun v => k v >>= g := rfl

/-- The scale is read from the scalar memory. -/
theorem op_smem (a0 : Memref sig .tc .smem S1 .f32) (q : PosShare TreeShare) {hw} {x} {α : Type} {Q : α → sProp 𝕄}
    {k : Elt F .f32 → Prog (TpuEff nD τ sig (Elt F) Λ₀ .tc) α} :
    (hold c a0 Finset.univ q (fun _ => sc c) : sProp 𝕄)
      ⊢ iprop((hold c a0 Finset.univ q (fun _ => sc c) -∗ wp frame (wpE defs₀ 𝒱₀ (c : Thread nD τ) none) Set.univ (k (sc c)) Q)
        -∗ wp frame (wpE defs₀ 𝒱₀ (c : Thread nD τ) none) Set.univ
          (smemLoadElt a0 (Rect.unit (s := S1) ![0] S1.size inb_S1_S1_0) hw x k) Q) := by
  unfold hold
  iintro ⟨%f, %hf, Hf⟩ Hk
  iapply (wp_smemLoadElt 𝒱₀ (c : Thread nD τ) none Set.univ (m := a0) (r := Rect.unit (s := S1) ![0] S1.size inb_S1_S1_0) (x := x)
    (S := a0.view.setOn Finset.univ) (by rw [show (a0.access _).set = _ from slice_set (M := a0) _]; exact Hold.setOn_mono (Finset.subset_univ _))) $$ Hf
  iintro Hf
  rw [show (a0.access (Rect.unit (s := S1) ![0] S1.size inb_S1_S1_0)).read (Elt F) f x = sc c from
    hf ((Rect.unit (s := S1) ![0] S1.size inb_S1_S1_0).emb x) (Finset.mem_univ _)]
  iapply Hk
  iexists f
  isplitr
  · ipureintro; exact hf
  iexact Hf

theorem rZs_cons (e : Fin 7) (l : List (Fin 7)) : iprop(rZ c d e ∗ rZs c d l) ⊢ (rZs c d (e :: l) : sProp 𝕄) := by
  rw [rZs]

/-- A direction's tokens: transfers to send, credits to give, transfers to wait for, credits to wait for, cells closed. -/
def tk (es : List (Fin 7)) (ts : List ℕ) (rs : List (Fin 7)) (w : ℕ) (ws : List ℕ) (zs : List (Fin 7)) : sProp 𝕄 :=
  iprop(sTok c d es ∗ pTok c d ts ∗ rPos c d rs ∗ wCr c d w ws ∗ rZs c d zs)

abbrev ldR : DmaSem sig := (cc1_scratch9 : DmaSems sig S_).sem
abbrev ldL : DmaSem sig := (cc1_scratch10 : DmaSems sig S_).sem
abbrev ouS : DmaSem sig := (cc1_scratch11 : DmaSems sig S_).sem

/-- What is used by both directions: the partial product in two shares, the local cells, the result's buffers. -/
def loc (D : List ℕ) : sProp 𝕄 :=
  iprop(hold c pM Finset.univ fullShare.left (P c) ∗ hold c pM Finset.univ fullShare.right (P c) ∗ semVal ((c : Thread nD τ), .dma ldR) 0
    ∗ semVal ((c : Thread nD τ), .dma ldL) 0 ∗ anyHold c outbM Finset.univ fullShare ∗ semVal ((c : Thread nD τ), .dma ouS) 0 ∗ oD P sc c D)

/-- The rest of the owed list, from place `n`. -/
abbrev owed (n : ℕ) : List Ow := ows.drop n

/-- Before the first stage. -/
def A0 : sProp 𝕄 :=
  iprop(tk c d [0, 1, 2, 3, 4, 5, 6] [0, 1, 2, 3, 4] [0, 1, 2, 3, 4, 5, 6] 0 [0, 1, 2, 3, 4] [] ∗ sPos c d 0 0 ∗ sPos c d 1 0
    ∗ anyHold c (commM d) (box 0 0 4096) fullShare ∗ anyHold c (commM d) (box 1 0 4096) fullShare ∗ anyHold c (ownM d) Finset.univ fullShare
    ∗ dutyTok ER (barC (fro d c)) 0 d ∗ rR d c)

/-- After the barrier, the first transfer on the way. -/
def A2 : sProp 𝕄 :=
  iprop(tk c d [1, 2, 3, 4, 5, 6] [0, 1, 2, 3, 4] [0, 1, 2, 3, 4, 5, 6] 0 [0, 1, 2, 3, 4] [] ∗ sFl c d 0 ∗ sPos c d 1 0
    ∗ anyHold c (ownM d) Finset.univ fullShare ∗ rR d (dn d c))

/-- After step 0. -/
def A3 : sProp 𝕄 :=
  iprop(tk c d [1, 2, 3, 4, 5, 6] [1, 2, 3, 4] [1, 2, 3, 4, 5, 6] 1 [1, 2, 3, 4] [0] ∗ sPos c d 0 1 ∗ sPos c d 1 0
    ∗ hold c (commM d) (box 1 0 4096) fullShare (on (X P d 1 c)) ∗ anyHold (dn d c) (commM d) (box 0 0 4096) fullShare
    ∗ anyHold c (ownM d) Finset.univ fullShare ∗ rR d (dn d c))

/-- After step 1. -/
def A4 : sProp 𝕄 :=
  iprop(tk c d [2, 3, 4, 5, 6] [2, 3, 4] [2, 3, 4, 5, 6] 2 [2, 3, 4] [1, 0] ∗ sPos c d 0 1 ∗ sPos c d 1 1
    ∗ hold c (commM d) (box 0 0 4096) fullShare (on (X P d 2 c)) ∗ anyHold (dn d c) (commM d) (box 1 0 4096) fullShare
    ∗ anyHold c (ownM d) Finset.univ fullShare ∗ rR d (dn d c))

/-- In step 2, its transfer on the way. -/
def A4f : sProp 𝕄 :=
  iprop(tk c d [3, 4, 5, 6] [2, 3, 4] [2, 3, 4, 5, 6] 2 [2, 3, 4] [1, 0] ∗ sFl c d 2 ∗ sPos c d 1 1
    ∗ anyHold c (ownM d) Finset.univ fullShare ∗ rR d (dn d c))

/-- In step 3, its transfer on the way: the sum is complete and read at the other share. -/
def A5 : sProp 𝕄 :=
  iprop(tk c d [4, 5, 6] [3, 4] [3, 4, 5, 6] 3 [3, 4] [2, 1, 0] ∗ sPos c d 0 2 ∗ sFl c d 3
    ∗ hold c (commM d) (box 1 0 4096) fullShare.right (on (X P d 3 c))
    ∗ anyHold c (ownM d) Finset.univ fullShare ∗ rR d (dn d c))

/-- After step 3. -/
def A6 : sProp 𝕄 :=
  iprop(tk c d [4, 5, 6] [4] [4, 5, 6] 4 [4] [3, 2, 1, 0] ∗ sPos c d 0 2 ∗ sPos c d 1 2
    ∗ hold c (commM d) (box 0 0 4096) fullShare (on (X P d 3 (fro d c))) ∗ anyHold (dn d c) (commM d) (box 1 0 4096) fullShare
    ∗ anyHold c (ownM d) Finset.univ fullShare ∗ rR d (dn d c))

/-- After step 4. -/
def A7 : sProp 𝕄 :=
  iprop(tk c d [5, 6] [] [5, 6] 5 [] [4, 3, 2, 1, 0] ∗ sPos c d 0 3 ∗ sPos c d 1 2
    ∗ hold c (commM d) (box 1 0 4096) fullShare (on (X P d 3 (fro d (fro d c)))) ∗ anyHold (dn d c) (commM d) (box 0 0 4096) fullShare
    ∗ anyHold c (ownM d) Finset.univ fullShare ∗ rR d (dn d c))

/-- In the last step, its first half on the way. -/
def A7f : sProp 𝕄 :=
  iprop(tk c d [6] [] [5, 6] 5 [] [4, 3, 2, 1, 0] ∗ sPos c d 0 3 ∗ sFl c d 5
    ∗ hold c (commM d) (box 1 0 2048) fullShare.right (on (X P d 3 (fro d (fro d c))))
    ∗ hold c (commM d) (box 1 2048 2048) fullShare (on (X P d 3 (fro d (fro d c)))) ∗ anyHold (dn d c) (commM d) (box 0 2048 2048) fullShare
    ∗ anyHold c (ownM d) Finset.univ fullShare ∗ rR d (dn d c))

/-- In the last step, both halves on the way. -/
def A8 : sProp 𝕄 :=
  iprop(tk c d [] [] [5, 6] 5 [] [4, 3, 2, 1, 0] ∗ sFl c d 6 ∗ sFl c d 5
    ∗ hold c (commM d) (box 1 0 2048) fullShare.right (on (X P d 3 (fro d (fro d c))))
    ∗ hold c (commM d) (box 1 2048 2048) fullShare.right (on (X P d 3 (fro d (fro d c))))
    ∗ anyHold c (ownM d) Finset.univ fullShare)

/-- After the last step, a half of the last slot still to be read. -/
def A9h : sProp 𝕄 :=
  iprop(tk c d [] [] [] 5 [] [6, 5, 4, 3, 2, 1, 0] ∗ sPos c d 0 4 ∗ sPos c d 1 3
    ∗ anyHold c (commM d) (box 0 0 2048) fullShare ∗ hold c (commM d) (box 0 2048 2048) fullShare (on (X P d 3 (fro d (fro d (fro d c)))))
    ∗ anyHold c (commM d) (box 1 0 4096) fullShare
    ∗ anyHold c (ownM d) Finset.univ fullShare)

/-- After the last step. -/
def A9 : sProp 𝕄 :=
  iprop(tk c d [] [] [] 5 [] [6, 5, 4, 3, 2, 1, 0] ∗ sPos c d 0 4 ∗ sPos c d 1 3
    ∗ anyHold c (commM d) (box 0 0 4096) fullShare ∗ anyHold c (commM d) (box 1 0 4096) fullShare
    ∗ anyHold c (ownM d) Finset.univ fullShare)

end Cert.KernelIdeal.Ring
-- ==== Proof.KernelIdeal.Deal.lean ====
/-
# Who holds what at the start and at the end
-/
module

public import proofs.«01_k».proof.Proof.KernelIdeal.State

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

/-! ## The right to every payment, dealt to whoever makes it -/

/-- Of a direction's twenty rights: one for the barrier, seven and seven for the transfers' two ends, five for credits. -/
def tkS (d : Bool) (k : Fin 20) : SemLoc sig :=
  if k.val = 0 then .reg barrier0 else if k.val < 8 then .dma (sendS d (celE ⟨(k.val - 1) % 7, Nat.mod_lt _ (by decide)⟩))
    else if k.val < 15 then .dma (recvS d ⟨(k.val - 8) % 7, Nat.mod_lt _ (by decide)⟩) else .reg (credS d)
def tkR (k : Fin 20) : ℕ :=
  if k.val = 0 then 0 else if k.val < 8 then rndE ⟨(k.val - 1) % 7, Nat.mod_lt _ (by decide)⟩ else if k.val < 15 then 0 else k.val - 15
def tkD (d : Bool) (k : Fin 20) : Bool := if k.val = 0 then d else false
/-- How far to the right of the payer the cell stands. -/
def tkN (d : Bool) (k : Fin 20) : Fin 4 :=
  if k.val = 0 ∨ 15 ≤ k.val then (if d then 3 else 1) else if k.val < 8 then 0 else (if d then 1 else 3)

set_option maxRecDepth 20000 in
theorem tk_inj : ∀ (d : Bool) (k : Fin 20) (d' : Bool) (k' : Fin 20), tkS d k = tkS d' k' ∧ tkR k = tkR k' ∧ tkD d k = tkD d' k' → d = d' ∧ k = k' := by
  decide +kernel

def tkEmb : Dev nD × (Bool × Fin 20) ↪ GSem nD τ sig × ℕ × Bool :=
  ⟨fun p => (((p.1 : Thread nD τ), tkS p.2.1 p.2.2), tkR p.2.2, tkD p.2.1 p.2.2), fun p q h => by
    have h1 : p.1 = q.1 := congrArg (fun t : GSem nD τ sig × ℕ × Bool => t.1.1.1) h
    have h2 := tk_inj p.2.1 p.2.2 q.2.1 q.2.2 ⟨congrArg (fun t : GSem nD τ sig × ℕ × Bool => t.1.2) h,
      congrArg (fun t : GSem nD τ sig × ℕ × Bool => t.2.1) h, congrArg (fun t : GSem nD τ sig × ℕ × Bool => t.2.2) h⟩
    exact Prod.ext h1 (Prod.ext h2.1 h2.2)⟩
def allToks : Finset (GSem nD τ sig × ℕ × Bool) := Finset.univ.map tkEmb

theorem sh_back : ∀ (n : Fin 4) (c : Dev nD), sh (sh c n.val) (4 - n.val) = c := by decide
theorem sh_forth : ∀ (n : Fin 4) (c : Dev nD), sh (sh c (4 - n.val)) n.val = c := by decide

/-- From the payer to the cell. -/
def tkShift : Dev nD × (Bool × Fin 20) ≃ Dev nD × (Bool × Fin 20) where
  toFun p := (sh p.1 (tkN p.2.1 p.2.2).val, p.2)
  invFun p := (sh p.1 (4 - (tkN p.2.1 p.2.2).val), p.2)
  left_inv p := Prod.ext (sh_back (tkN p.2.1 p.2.2) p.1) rfl
  right_inv p := Prod.ext (sh_forth (tkN p.2.1 p.2.2) p.1) rfl

/-- What device `c` may pay in a direction. -/
def dirTok (d : Bool) (c : Dev nD) : sProp 𝕄 :=
  iprop(dutyTok ER (barC (fro d c)) 0 d ∗ sTok c d [0, 1, 2, 3, 4, 5, 6] ∗ pTok c d [0, 1, 2, 3, 4])

theorem bigSep_two {M : Type} [URA M] (Φ : Bool → sProp M) : bigSep Finset.univ Φ = iprop(Φ true ∗ Φ false) :=
  bigSep_univ_eq_bigSepL [true, false] (by decide) (by decide) Φ

theorem bigSep_twenty {M : Type} [URA M] (Φ : Fin 20 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem bigSep_ten {M : Type} [URA M] (Φ : Fin 10 → sProp M) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem bigSep_seven {M : Type} [URA M] (Φ : Fin 7 → sProp M) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- One right, at its payer. -/
def tok1 (c : Dev nD) (d : Bool) (k : Fin 20) : sProp 𝕄 :=
  dutyTok ER (((sh c (tkN d k).val : Dev nD) : Thread nD τ), tkS d k) (tkR k) (tkD d k)

theorem tok1_bar (c : Dev nD) (d : Bool) : (tok1 c d 0 : sProp 𝕄) = dutyTok ER (barC (fro d c)) 0 d := by cases d <;> rfl
theorem tok1_send (c : Dev nD) (d : Bool) (e : Fin 7) : (tok1 c d ⟨1 + e.val, by omega⟩ : sProp 𝕄) = dutyTok ER (sendC d (celE e) c) (rndE e) false := by
  have h0 : sh c 0 = c := by revert c; decide
  unfold tok1
  rw [show tkN d ⟨1 + e.val, by omega⟩ = 0 by revert d e; decide, show tkS d ⟨1 + e.val, by omega⟩ = .dma (sendS d (celE e)) by revert d e; decide,
    show tkR ⟨1 + e.val, by omega⟩ = rndE e by revert e; decide, show tkD d ⟨1 + e.val, by omega⟩ = false by revert d e; decide]
  show dutyTok ER (((sh c 0 : Dev nD) : Thread nD τ), _) _ _ = _
  rw [h0]
theorem tok1_recv (c : Dev nD) (d : Bool) (e : Fin 7) : (tok1 c d ⟨8 + e.val, by omega⟩ : sProp 𝕄) = dutyTok ER (recvC d e (dn d c)) 0 false := by
  unfold tok1
  rw [show tkS d ⟨8 + e.val, by omega⟩ = .dma (recvS d e) by revert d e; decide,
    show tkR ⟨8 + e.val, by omega⟩ = 0 by revert e; decide, show tkD d ⟨8 + e.val, by omega⟩ = false by revert d e; decide,
    show sh c (tkN d ⟨8 + e.val, by omega⟩).val = dn d c by revert d e c; decide]
theorem tok1_cred (c : Dev nD) (d : Bool) (t : Fin 5) : (tok1 c d ⟨15 + t.val, by omega⟩ : sProp 𝕄) = dutyTok ER (credC d (fro d c)) t.val false := by
  unfold tok1
  rw [show tkS d ⟨15 + t.val, by omega⟩ = .reg (credS d) by revert d t; decide,
    show tkR ⟨15 + t.val, by omega⟩ = t.val by revert t; decide, show tkD d ⟨15 + t.val, by omega⟩ = false by revert d t; decide,
    show sh c (tkN d ⟨15 + t.val, by omega⟩).val = fro d c by revert d t c; decide]

theorem tok1_cred0 (c : Dev nD) (d : Bool) : (tok1 c d 15 : sProp 𝕄) = dutyTok ER (credC d (fro d c)) 0 false := tok1_cred c d 0
theorem tok1_cred1 (c : Dev nD) (d : Bool) : (tok1 c d 16 : sProp 𝕄) = dutyTok ER (credC d (fro d c)) 1 false := tok1_cred c d 1
theorem tok1_cred2 (c : Dev nD) (d : Bool) : (tok1 c d 17 : sProp 𝕄) = dutyTok ER (credC d (fro d c)) 2 false := tok1_cred c d 2
theorem tok1_cred3 (c : Dev nD) (d : Bool) : (tok1 c d 18 : sProp 𝕄) = dutyTok ER (credC d (fro d c)) 3 false := tok1_cred c d 3
theorem tok1_cred4 (c : Dev nD) (d : Bool) : (tok1 c d 19 : sProp 𝕄) = dutyTok ER (credC d (fro d c)) 4 false := tok1_cred c d 4
theorem deal_dir (d : Bool) (c : Dev nD) : (bigSep Finset.univ fun k : Fin 20 => tok1 c d k) ⊢ (dirTok d c : sProp 𝕄) := by
  rw [bigSep_twenty]
  unfold dirTok
  simp only [sTok, pTok]
  rw [← tok1_bar, ← tok1_send c d 0, ← tok1_send c d 1, ← tok1_send c d 2, ← tok1_send c d 3, ← tok1_send c d 4, ← tok1_send c d 5, ← tok1_send c d 6, ← tok1_recv c d 0, ← tok1_recv c d 1, ← tok1_recv c d 2, ← tok1_recv c d 3, ← tok1_recv c d 4, ← tok1_recv c d 5, ← tok1_recv c d 6, ← tok1_cred0 c d, ← tok1_cred1 c d, ← tok1_cred2 c d, ← tok1_cred3 c d, ← tok1_cred4 c d]
  iintro ⟨H0, H1, H2, H3, H4, H5, H6, H7, H8, H9, H10, H11, H12, H13, H14, H15, H16, H17, H18, H19⟩
  isplitl [H0]; · iexact H0
  isplitl [H1 H2 H3 H4 H5 H6 H7 H8 H9 H10 H11 H12 H13 H14]
  · skip
    isplitl [H1 H8]
    · isplitl [H1]
      · iexact H1
      · iexact H8
    isplitl [H2 H9]
    · isplitl [H2]
      · iexact H2
      · iexact H9
    isplitl [H3 H10]
    · isplitl [H3]
      · iexact H3
      · iexact H10
    isplitl [H4 H11]
    · isplitl [H4]
      · iexact H4
      · iexact H11
    isplitl [H5 H12]
    · isplitl [H5]
      · iexact H5
      · iexact H12
    isplitl [H6 H13]
    · isplitl [H6]
      · iexact H6
      · iexact H13
    isplitl [H7 H14]
    · isplitl [H7]
      · iexact H7
      · iexact H14
    iempintro
  isplitl [H15]; · iexact H15
  isplitl [H16]; · iexact H16
  isplitl [H17]; · iexact H17
  isplitl [H18]; · iexact H18
  isplitl [H19]; · iexact H19
  iempintro

/-- Every right, with the device that pays by it. -/
theorem deal_toks : bigSep allToks (fun x => (dutyTok ER x.1 x.2.1 x.2.2 : sProp 𝕄)) ⊢ bigSep Finset.univ fun c : Dev nD => iprop(dirTok true c ∗ dirTok false c) := by
  unfold allToks
  rw [bigSep_map, bigSep_univ_equiv tkShift, bigSep_univ_prod]
  refine bigSep_mono fun c _ => ?_
  rw [bigSep_univ_prod, bigSep_two]
  exact BIClass.sep_mono (deal_dir true c) (deal_dir false c)

/-! ## The cells, opened and closed -/

def opens (c : Dev nD) : sProp 𝕄 := bigSep Finset.univ fun p : Bool × Fin 10 => openTok ER ((c : Thread nD τ), scS p.1 p.2)

theorem deal_opens : bigSep scCells (fun g => (openTok ER g : sProp 𝕄)) ⊢ bigSep Finset.univ fun c : Dev nD => opens c := by
  unfold scCells opens
  rw [bigSep_map, bigSep_univ_prod]
  exact BI.Entails.refl _

/-- A cell at its start. -/
def start1 (c : Dev nD) (d : Bool) (k : Fin 10) : sProp 𝕄 :=
  iprop(atPos ER ((c : Thread nD τ), scS d k) 0 ∅ 0 ∗ reached ER ((c : Thread nD τ), scS d k) 0)

/-- Opening every scoped cell of a device. -/
theorem open_all (c : Dev nD) :
    iprop(Ctx P K ∗ opens c ∗ bigSep Finset.univ fun p : Bool × Fin 10 => semVal ((c : Thread nD τ), scS p.1 p.2) 0)
      ⊢ (|={Set.univ}=> iprop((bigSep Finset.univ fun k => start1 c true k) ∗ (bigSep Finset.univ fun k => start1 c false k)) : sProp 𝕄) := by
  unfold opens
  refine (sep_mono_right (Entails.of_eq (bigSep_sep' _ _ _).symm)).trans ?_
  refine (bigSep_with_persistent (R := Ctx P K) (Ψ := fun p : Bool × Fin 10 => (iprop(|={Set.univ}=> start1 c p.1 p.2) : sProp 𝕄)) fun p _ => ?_).trans ?_
  · unfold start1
    iintro ⟨#HC, Ho, Hs⟩
    iapply (Rounds.cell_open ER (rd P) (g := ((c : Thread nD τ), scS p.1 p.2)) (Set.mem_univ (K ((c : Thread nD τ), scS p.1 p.2))))
    isplitr; · iapply (Ctx_sc P K c p.1 p.2); iexact HC
    isplitl [Ho] <;> iassumption
  · refine (bigSep_fupd _ _).trans (Entails.of_eq ?_)
    rw [bigSep_univ_prod, bigSep_two]

/-- What a device waits with in a direction. -/
def dirCred (d : Bool) (c : Dev nD) : sProp 𝕄 :=
  iprop((bigSep Finset.univ fun e : Fin 7 => cred (tallyAt (recvC d e c) 0 (NE e))) ∗ cCr c d [0, 1, 2, 3, 4])

theorem send_sc0 (d : Bool) : SemLoc.dma (sendS d 0) = scS d 0 := send_sc d 0
theorem send_sc1 (d : Bool) : SemLoc.dma (sendS d 1) = scS d 1 := send_sc d 1
theorem recv_sc0 (d : Bool) : SemLoc.dma (recvS d 0) = scS d 2 := recv_sc d 0
theorem recv_sc1 (d : Bool) : SemLoc.dma (recvS d 1) = scS d 3 := recv_sc d 1
theorem recv_sc2 (d : Bool) : SemLoc.dma (recvS d 2) = scS d 4 := recv_sc d 2
theorem recv_sc3 (d : Bool) : SemLoc.dma (recvS d 3) = scS d 5 := recv_sc d 3
theorem recv_sc4 (d : Bool) : SemLoc.dma (recvS d 4) = scS d 6 := recv_sc d 4
theorem recv_sc5 (d : Bool) : SemLoc.dma (recvS d 5) = scS d 7 := recv_sc d 5
theorem recv_sc6 (d : Bool) : SemLoc.dma (recvS d 6) = scS d 8 := recv_sc d 6
theorem slots_split (d : Bool) (c : Dev nD) : (anyHold c (commM d) Finset.univ fullShare : sProp 𝕄) ⊢ iprop(anyHold c (commM d) (box 0 0 4096) fullShare ∗ anyHold c (commM d) (box 1 0 4096) fullShare) := by
  rw [box_slots]; exact any_split box_slots_disj
theorem slots_join (d : Bool) (c : Dev nD) : iprop(anyHold c (commM d) (box 0 0 4096) fullShare ∗ anyHold c (commM d) (box 1 0 4096) fullShare) ⊢ (anyHold c (commM d) Finset.univ fullShare : sProp 𝕄) := by
  rw [box_slots]; exact any_join box_slots_disj

set_option maxHeartbeats 1000000 in
/-- A direction before the first stage. -/
theorem start_dir (d : Bool) (c : Dev nD) :
    iprop((bigSep Finset.univ fun k => start1 c d k) ∗ dirTok d c ∗ dirCred d c ∗ anyHold c (commM d) Finset.univ fullShare ∗ anyHold c (ownM d) Finset.univ fullShare)
      ⊢ (A0 c d : sProp 𝕄) := by
  unfold dirTok dirCred A0 tk sPos wCr rR
  rw [bigSep_ten, bigSep_seven, bigSep_seven]
  unfold start1
  simp only [rPos, rZs]
  rw [← send_sc0 d, ← send_sc1 d, ← cred_sc d, ← recv_sc0 d, ← recv_sc1 d, ← recv_sc2 d, ← recv_sc3 d, ← recv_sc4 d, ← recv_sc5 d, ← recv_sc6 d]
  iintro ⟨⟨⟨P0, #R0⟩, ⟨P1, #R1⟩, ⟨P2, #R2⟩, ⟨P3, #R3⟩, ⟨P4, #R4⟩, ⟨P5, #R5⟩, ⟨P6, #R6⟩, ⟨P7, #R7⟩, ⟨P8, #R8⟩, ⟨P9, #R9⟩⟩, ⟨HB, HS, HP⟩, ⟨⟨C0, C1, C2, C3, C4, C5, C6⟩, HC⟩, Hc, Ho⟩
  ihave Hc := (slots_split d c) $$ Hc
  icases Hc with ⟨Hc0, Hc1⟩
  isplitl [HS HP HC P9 P2 C0 P3 C1 P4 C2 P5 C3 P6 C4 P7 C5 P8 C6]
  · isplitl [HS]; · iexact HS
    isplitl [HP]; · iexact HP
    isplitl [P2 C0 P3 C1 P4 C2 P5 C3 P6 C4 P7 C5 P8 C6]
    · skip
      isplitl [P2 C0]; · isplitl [P2] <;> iassumption
      isplitl [P3 C1]; · isplitl [P3] <;> iassumption
      isplitl [P4 C2]; · isplitl [P4] <;> iassumption
      isplitl [P5 C3]; · isplitl [P5] <;> iassumption
      isplitl [P6 C4]; · isplitl [P6] <;> iassumption
      isplitl [P7 C5]; · isplitl [P7] <;> iassumption
      isplitl [P8 C6]; · isplitl [P8] <;> iassumption
      iempintro
    isplitl [P9 HC]
    · isplitl [P9]; · iexact P9
      isplitr; · iexact R9
      iexact HC
    iempintro
  isplitl [P0]
  · isplitl [P0]; · iexact P0
    iexact R0
  isplitl [P1]
  · isplitl [P1]; · iexact P1
    iexact R1
  isplitl [Hc0]; · iexact Hc0
  isplitl [Hc1]; · iexact Hc1
  isplitl [Ho]; · iexact Ho
  isplitl [HB]; · iexact HB
  isplitr; · iexact R2
  isplitr; · iexact R3
  isplitr; · iexact R4
  isplitr; · iexact R5
  isplitr; · iexact R6
  isplitr; · iexact R7
  iexact R8

set_option maxHeartbeats 1000000 in
/-- A direction after the last stage: its cells closed, every counter at zero. -/
theorem close_dir (d : Bool) (c : Dev nD) :
    iprop(Ctx P K ∗ A9 c d) ⊢ (|={Set.univ}=> iprop((bigSep Finset.univ fun k : Fin 10 => semVal ((c : Thread nD τ), scS d k) 0)
      ∗ anyHold c (commM d) Finset.univ fullShare ∗ anyHold c (ownM d) Finset.univ fullShare) : sProp 𝕄) := by
  unfold A9 tk sPos wCr
  rw [bigSep_ten]
  simp only [rZs, rZ]
  rw [← send_sc0 d, ← send_sc1 d, ← cred_sc d, ← recv_sc0 d, ← recv_sc1 d, ← recv_sc2 d, ← recv_sc3 d, ← recv_sc4 d, ← recv_sc5 d, ← recv_sc6 d]
  iintro ⟨#HC, ⟨HS, HP, HR, ⟨HW, -, -⟩, ⟨Z6, Z5, Z4, Z3, Z2, Z1, Z0, -⟩⟩, ⟨HA, -⟩, ⟨HB, -⟩, H0, H1, Ho⟩
  imod (Rounds.cell_close ER (rd P) (Set.mem_univ (K (sendC d 0 c))) id (later_send P c d 0)) $$ [HA] with S0
  · isplitr; · iapply (Ctx_send P K c d 0); iexact HC
    iexact HA
  imod (Rounds.cell_close ER (rd P) (Set.mem_univ (K (sendC d 1 c))) id (later_send P c d 1)) $$ [HB] with S1
  · isplitr; · iapply (Ctx_send P K c d 1); iexact HC
    iexact HB
  imod (Rounds.cell_close ER (rd P) (Set.mem_univ (K (credC d c))) id (later_cred P c d)) $$ [HW] with S9
  · isplitr; · iapply (Ctx_cred P K c d); iexact HC
    iexact HW
  imodintro
  isplitr [H0 H1 Ho]
  · isplitl [S0]; · iexact S0
    isplitl [S1]; · iexact S1
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    iexact S9
  isplitl [H0 H1]
  · iapply (slots_join d c)
    isplitl [H0] <;> iassumption
  iexact Ho

/-! ## The credit a device starts with -/

abbrev semO : Ow → SemLoc sig | .bar _ => .reg barrier0 | .recv d e => .dma (recvS d e) | .cred d _ => .reg (credS d)
abbrev amtO : Ow → ℕ | .recv _ e => NE e | _ => 1

theorem fro_iff : ∀ (d : Bool) (a c : Dev nD), c = fro d a ↔ a = dn d c := by decide
theorem dn_iff : ∀ (d : Bool) (a c : Dev nD), c = dn d a ↔ a = fro d c := by decide

/-- One item of everyone's dues, at one device's cell. -/
theorem sum_owC (o : Ow) (c : Dev nD) (sm : SemLoc sig) (i : ℕ) :
    (∑ a : Dev nD, owC a o ((c : Thread nD τ), sm) i) = if semO o = sm ∧ ixO o = i then amtO o else 0 := by
  have key (f : Dev nD → Dev nD) (b : Dev nD) (hf : ∀ a, c = f a ↔ a = b) (s' : SemLoc sig) (j n : ℕ) :
      (∑ a : Dev nD, (tallyAt (((f a : Dev nD) : Thread nD τ), s') j n : CellTallies nD τ sig ℕ) ((c : Thread nD τ), sm) i)
        = if s' = sm ∧ j = i then n else 0 := by
    rw [Finset.sum_eq_single b]
    · rw [tallyAt_apply]
      rw [← (hf b).mpr rfl]
      by_cases h : s' = sm ∧ j = i
      · rw [if_pos h, if_pos ⟨by rw [h.1], h.2.symm⟩]
      · rw [if_neg h, if_neg]; rintro ⟨h1, h2⟩; exact h ⟨(congrArg Prod.snd h1).symm, h2.symm⟩
    · intro a _ ha
      rw [tallyAt_apply, if_neg]
      rintro ⟨h1, -⟩
      exact ha ((hf a).mp (congrArg (fun g : GSem nD τ sig => g.1.1) h1))
    · intro h; exact absurd (Finset.mem_univ b) h
  cases o with
  | bar d => exact key (fro d) (dn d c) (fun a => fro_iff d a c) _ _ _
  | recv d e => exact key (dn d) (fro d c) (fun a => dn_iff d a c) _ _ _
  | cred d t => exact key (fro d) (dn d c) (fun a => fro_iff d a c) _ _ _

theorem sum_tl (c : Dev nD) (sm : SemLoc sig) (i : ℕ) : ∀ l : List Ow,
    (∑ a : Dev nD, tl a l ((c : Thread nD τ), sm) i) = ((l.filter fun o => decide (semO o = sm ∧ ixO o = i)).map amtO).sum
  | [] => Finset.sum_const_zero
  | o :: l => by
    have : (∑ a : Dev nD, tl a (o :: l) ((c : Thread nD τ), sm) i) = (∑ a : Dev nD, tl a l ((c : Thread nD τ), sm) i) + ∑ a : Dev nD, owC a o ((c : Thread nD τ), sm) i := by
      rw [← Finset.sum_add_distrib]; rfl
    rw [this, sum_tl c sm i l, sum_owC, List.filter_cons]
    by_cases h : semO o = sm ∧ ixO o = i
    · rw [if_pos h, if_pos (decide_eq_true h), List.map_cons, List.sum_cons, Nat.add_comm]
    · rw [if_neg h, if_neg (by rw [decide_eq_false h]; exact Bool.false_ne_true), Nat.add_zero]

/-- What a device owes at launch. -/
def O₀ (c : Dev nD) : CellTallies nD τ sig ℕ := tl c ows

theorem credit_at (c : Dev nD) (sm : SemLoc sig) (i : ℕ) :
    launchCredit (Pipeline.owing O₀) 0 ((c : Thread nD τ), sm) i = ((ows.filter fun o => decide (semO o = sm ∧ ixO o = i)).map amtO).sum := by
  rw [Pipeline.launchCredit_owing]; exact sum_tl c sm i ows

theorem ix_lt : ∀ o ∈ ows, ixO o < 5 := by decide

theorem credit_big (c : Dev nD) (sm : SemLoc sig) (i : ℕ) (hi : 5 ≤ i) : launchCredit (Pipeline.owing O₀) 0 ((c : Thread nD τ), sm) i = 0 := by
  rw [credit_at, List.filter_eq_nil_iff.mpr]
  · rfl
  · intro o ho h
    have := (of_decide_eq_true h).2
    have := ix_lt o ho
    omega

theorem credit_bar (c : Dev nD) : tallyOn (barC c) (launchCredit (Pipeline.owing O₀) 0 (barC c)) = (tallyAt (barC c) 0 2 : CellTallies nD τ sig ℕ) := by
  unfold tallyAt; refine congrArg _ (Finsupp.ext fun i => ?_)
  match i with
  | 0 | 1 | 2 | 3 | 4 => rw [credit_at, Finsupp.single_apply]; rfl
  | i + 5 => rw [credit_big c _ _ (by omega), Finsupp.single_apply, if_neg (by omega)]

theorem credit_recv (c : Dev nD) (d : Bool) (e : Fin 7) :
    tallyOn (recvC d e c) (launchCredit (Pipeline.owing O₀) 0 (recvC d e c)) = (tallyAt (recvC d e c) 0 (NE e) : CellTallies nD τ sig ℕ) := by
  have h0 : (ows.filter fun o => decide (semO o = .dma (recvS d e) ∧ ixO o = 0)) = [.recv d e] := by
    cases d <;> (match e with | 0 | 1 | 2 | 3 | 4 | 5 | 6 => rfl)
  have hs (i : ℕ) : ∀ o ∈ ows, ixO o = i + 1 → semO o ≠ .dma (recvS d e) := by
    intro o _ ho; cases o with
    | bar d => exact absurd ho (by simp)
    | recv d e => exact absurd ho (by simp)
    | cred d t => simp
  unfold tallyAt; refine congrArg _ (Finsupp.ext fun i => ?_)
  match i with
  | 0 => rw [credit_at, h0, Finsupp.single_apply, if_pos rfl]; exact Nat.add_zero _
  | i + 1 =>
    rw [credit_at, List.filter_eq_nil_iff.mpr, Finsupp.single_apply, if_neg (by omega)]
    · rfl
    · intro o ho h
      exact hs i o ho (of_decide_eq_true h).2 (of_decide_eq_true h).1

theorem credit_cred (c : Dev nD) (d : Bool) :
    tallyOn (credC d c) (launchCredit (Pipeline.owing O₀) 0 (credC d c))
      = (tallyAt (credC d c) 0 1 + (tallyAt (credC d c) 1 1 + (tallyAt (credC d c) 2 1 + (tallyAt (credC d c) 3 1 + tallyAt (credC d c) 4 1))) : CellTallies nD τ sig ℕ) := by
  have h : ∀ t, t < 5 → (ows.filter fun o => decide (semO o = .reg (credS d) ∧ ixO o = t)) = [.cred d t] := by
    intro t ht
    cases d <;> (match t, ht with | 0, _ | 1, _ | 2, _ | 3, _ | 4, _ => rfl)
  funext g
  by_cases hg : g = credC d c
  · subst hg
    refine Finsupp.ext fun i => ?_
    rw [show tallyOn (credC d c) (launchCredit (Pipeline.owing O₀) 0 (credC d c)) (credC d c) = launchCredit (Pipeline.owing O₀) 0 (credC d c) from tallyOn_self _ _]
    simp only [Pi.add_apply, Finsupp.add_apply, tallyAt_apply]
    by_cases hi : i < 5
    · rw [credit_at, h i hi]
      match i, hi with
      | 0, _ | 1, _ | 2, _ | 3, _ | 4, _ => simp
    · rw [credit_big c _ _ (by omega)]
      simp only [true_and]
      rw [if_neg (by omega), if_neg (by omega), if_neg (by omega), if_neg (by omega), if_neg (by omega)]; rfl
  · refine Finsupp.ext fun i => ?_
    simp only [Pi.add_apply, Finsupp.add_apply, tallyAt_apply]
    rw [tallyOn_ne hg]
    simp [hg]

def scSEmb : Bool × Fin 10 ↪ SemLoc sig := ⟨fun p => scS p.1 p.2, fun p q h => by
  have h2 := scS_inj p.1 p.2 q.1 q.2 h
  exact Prod.ext h2.1 h2.2⟩
theorem scS_ne_bar : ∀ (d : Bool) (k : Fin 10), scS d k ≠ .reg barrier0 := by decide

theorem creds_dir (d : Bool) (c : Dev nD) :
    (bigSep Finset.univ fun k : Fin 10 => cred (tallyOn ((c : Thread nD τ), scS d k) (launchCredit (Pipeline.owing O₀) 0 ((c : Thread nD τ), scS d k)))) ⊢ (dirCred d c : sProp 𝕄) := by
  unfold dirCred
  rw [bigSep_ten, bigSep_seven, ← send_sc0 d, ← send_sc1 d, ← cred_sc d, ← recv_sc0 d, ← recv_sc1 d, ← recv_sc2 d, ← recv_sc3 d, ← recv_sc4 d, ← recv_sc5 d, ← recv_sc6 d]
  rw [credit_cred, credit_recv c d 0, credit_recv c d 1, credit_recv c d 2, credit_recv c d 3, credit_recv c d 4, credit_recv c d 5, credit_recv c d 6]
  simp only [cCr]
  iintro ⟨-, -, C0, C1, C2, C3, C4, C5, C6, ⟨T0, T1, T2, T3, T4⟩⟩
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [T0]; · iexact T0
  isplitl [T1]; · iexact T1
  isplitl [T2]; · iexact T2
  isplitl [T3]; · iexact T3
  isplitl [T4]; · iexact T4
  iempintro

/-- The launch credit of a device is all it waits with. -/
theorem creds (c : Dev nD) :
    (Pipeline.launchCred O₀ c : sProp 𝕄) ⊢ iprop(cred (tallyAt (barC c) 0 2) ∗ dirCred true c ∗ dirCred false c) := by
  unfold Pipeline.launchCred
  rw [bigSep_univ_at _ (SemLoc.reg barrier0), credit_bar]
  refine sep_mono_right ?_
  refine (bigSep_subset (t := Finset.univ.map scSEmb) fun sm h => ?_).trans ?_
  · obtain ⟨p, -, rfl⟩ := Finset.mem_map.mp h
    exact Finset.mem_erase.mpr ⟨scS_ne_bar p.1 p.2, Finset.mem_univ _⟩
  · rw [bigSep_map, bigSep_univ_prod, bigSep_two]
    exact BIClass.sep_mono (creds_dir true c) (creds_dir false c)

end Cert.KernelIdeal.Ring
-- ==== Proof.KernelIdeal.Widen.lean ====
/-
# The widening kernel: the first region's data and what its body leaves

Both operands are copied in, widened element by element, and copied out.
-/
module

public import proofs.«01_k».proof.Proof.KernelIdeal.Deal
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.ValueKit.Geometry

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

/-- A memref that reads as `X`, as a hold of all of it; and back. -/
theorem owns_hold {sp : Space} {s : Shape} {e : EltTy} (c : Dev nD) (M : Memref sig .tc sp s e) (q : PosShare TreeShare) (X : s.Idx → Elt F e) :
    (owns (c : Thread nD τ) M q X : sProp 𝕄) ⊢ hold c M Finset.univ q X := by
  unfold owns hold
  iintro ⟨%f, %hf, H⟩
  iexists f
  isplitr; · ipureintro; intro x _; rw [← hf]
  rw [View.setOn_univ]; iexact H
theorem hold_owns {sp : Space} {s : Shape} {e : EltTy} (c : Dev nD) (M : Memref sig .tc sp s e) (q : PosShare TreeShare) (X : s.Idx → Elt F e) :
    (hold c M Finset.univ q X : sProp 𝕄) ⊢ owns (c : Thread nD τ) M q X := by
  unfold owns hold
  iintro ⟨%f, %hf, H⟩
  iexists f
  isplitr; · ipureintro; funext x; exact hf x (Finset.mem_univ x)
  rw [← View.setOn_univ]; iexact H

/-- The whole rectangle of a two-axis shape leaves every index alone. -/
theorem full_emb {a b : ℕ} (inb) (i : (⟨2, ![a, b]⟩ : Shape).Idx) :
    (Rect.unit (s := (⟨2, ![a, b]⟩ : Shape)) ![0, 0] ![a, b] inb).emb i = i := by
  funext t; apply Fin.ext
  match t with
  | ⟨0, _⟩ => show 0 + 1 * (i 0).val = (i 0).val; omega
  | ⟨1, _⟩ => show 0 + 1 * (i 1).val = (i 1).val; omega

/-- Reading a whole buffer, reading (and ignoring) another, and overwriting it with a function of the first. -/
theorem op_map {a b : ℕ} {e e' : EltTy} (c : Dev nD) (M : Memref sig .tc .vmem ⟨2, ![a, b]⟩ e) (N : Memref sig .tc .vmem ⟨2, ![a, b]⟩ e')
    (X : (⟨2, ![a, b]⟩ : Shape).Idx → Elt F e) (pay : ((⟨2, ![a, b]⟩ : Shape).Idx → Elt F e) → (⟨2, ![a, b]⟩ : Shape).Idx → Elt F e')
    (inb : ∀ t, (![0, 0] : Fin 2 → ℕ) t + (![a, b] : Fin 2 → ℕ) t ≤ (⟨2, ![a, b]⟩ : Shape).size t) {hl hl' hx hm} {k : Prog (TpuEff nD τ sig (Elt F) Λ₀ .tc) PUnit} {Q : PUnit → sProp 𝕄} :
    iprop(hold c M Finset.univ fullShare X ∗ anyHold c N Finset.univ fullShare)
      ⊢ iprop((iprop(hold c M Finset.univ fullShare X ∗ hold c N Finset.univ fullShare (pay X)) -∗ wp frame (wpE (defs₀ (F := F)) 𝒱₀ c none) Set.univ k Q)
        -∗ wp frame (wpE (defs₀ (F := F)) 𝒱₀ c none) Set.univ
          (.op (.load M (Rect.unit (s := ⟨2, ![a, b]⟩) ![0, 0] ![a, b] inb).toLoadRect hl) fun v =>
            .op (.load N (Rect.unit (s := ⟨2, ![a, b]⟩) ![0, 0] ![a, b] inb).toLoadRect hl') fun _ =>
            .op (.store N (Rect.unit (s := ⟨2, ![a, b]⟩) ![0, 0] ![a, b] inb) (pay v) Finset.univ hx hm) fun _ => k) Q) := by
  have hsub : (Rect.unit (s := (⟨2, ![a, b]⟩ : Shape)) ![0, 0] ![a, b] inb).set ⊆ Finset.univ := Finset.subset_univ _
  unfold hold anyHold
  iintro ⟨⟨%f, %hf, Hf⟩, ⟨%g, Hg⟩⟩ Hk
  iapply (wp_load 𝒱₀ (c : Thread nD τ) none Set.univ (m := M) (setOn_mono hsub)) $$ Hf
  iintro Hf
  iapply (wp_load 𝒱₀ (c : Thread nD τ) none Set.univ (m := N) (setOn_mono hsub)) $$ Hg
  iintro Hg
  iapply (wp_store 𝒱₀ (c : Thread nD τ) none Set.univ (m := N) (r := Rect.unit (s := ⟨2, ![a, b]⟩) ![0, 0] ![a, b] inb) (f := g) (Mk := Finset.univ) (S := N.view.setOn Finset.univ)
    (show _ ⊆ N.view.setOn Finset.univ from by
      rw [View.setOn_univ]; exact (slice_set (M := N) _).le.trans (setOn_mono hsub))) $$ Hg
  iintro Hg
  iapply Hk
  isplitl [Hf]
  · iexists f
    isplitr; · ipureintro; exact hf
    iexact Hf
  · iexists _
    isplitr
    rotate_left
    · iexact Hg
    ipureintro
    rw [readAt_hold (c := c) (M := M) _ hsub hf]
    refine write_hold (c := c) (M := N) (Y := N.view.read (Elt F) g) (Rect.unit (s := ⟨2, ![a, b]⟩) ![0, 0] ![a, b] inb) _ (fun _ _ => rfl) ?_ ?_
    · intro i
      rw [full_emb]
      exact congrArg (fun Z => pay Z i) (funext fun j => by rw [full_emb])
    · intro x _ hx
      exact absurd (by rw [← Rect.map_emb_univ]; exact Finset.mem_map.mpr ⟨x, Finset.mem_univ _, full_emb inb x⟩) hx

/-- The widening body: both outputs end as the widened inputs. -/
theorem widen_run (c : Dev nD) (a0 : Memref sig .tc .vmem S4096x1024 .fp8e4m3) (h0 : a0.IsWhole) (a1 : Memref sig .tc .vmem S1024x8192 .fp8e4m3) (h1 : a1.IsWhole)
    (a2 : Memref sig .tc .vmem S4096x1024 .bf16) (h2 : a2.IsWhole) (a3 : Memref sig .tc .vmem S1024x8192 .bf16) (h3 : a3.IsWhole)
    (x0 : S4096x1024.Idx → Elt F .fp8e4m3) (x1 : S1024x8192.Idx → Elt F .fp8e4m3) {Q : PUnit → sProp 𝕄} :
    iprop(hold c a0 Finset.univ fullShare x0 ∗ anyHold c a2 Finset.univ fullShare ∗ hold c a1 Finset.univ fullShare x1 ∗ anyHold c a3 Finset.univ fullShare)
      ⊢ iprop((iprop(hold c a0 Finset.univ fullShare x0 ∗ hold c a2 Finset.univ fullShare (k0_pay1 x0) ∗ hold c a1 Finset.univ fullShare x1 ∗ hold c a3 Finset.univ fullShare (k0_pay2 x1)) -∗ Q ⟨⟩)
        -∗ wp frame (wpE (defs₀ (F := F)) 𝒱₀ c none) Set.univ (cc0_body a0 h0 a1 h1 a2 h2 a3 h3) Q) := by
  rw [cc0_body_eq_skeleton]
  unfold cc0_body_skel
  iintro ⟨H0, H2, H1, H3⟩ Hk
  iapply (op_map c a0 a2 x0 k0_pay1 inb_S4096x1024_S4096x1024_0_0) $$ [H0 H2]
  · isplitl [H0] <;> iassumption
  iintro ⟨H0, H2⟩
  iapply (op_map c a1 a3 x1 k0_pay2 inb_S1024x8192_S1024x8192_0_0) $$ [H1 H3]
  · isplitl [H1] <;> iassumption
  iintro ⟨H1, H3⟩
  rw [wp_ret]
  imodintro
  iapply Hk
  isplitl [H0]; · iexact H0
  isplitl [H2]; · iexact H2
  isplitl [H1] <;> iassumption

end Cert.KernelIdeal.Ring
-- ==== Proof.KernelIdeal.Body1.lean ====
/-
# The kernel, up to the end of step 0
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- The first blocks are loaded, the neighbours met, the first transfers sent. -/
theorem ph1 {a0 : Memref sig .tc .smem S1 .f32} {h0 : a0.IsWhole} {q : PosShare TreeShare} {α : Type} {Q : α → sProp 𝕄} {k : Dev nD → BitVec 32 → BitVec 32 → BitVec 32 → Elt F .f32 → BitVec 32 → Prog (TpuEff nD τ sig (Elt F) Λ₀ .tc) α} :
    iprop(Ctx P K ∗ ow c [.bar true, .bar false, .recv true 0, .recv false 0, .cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6] ∗ A0 c true ∗ A0 c false ∗ (atPos ER (barC c) 0 ∅ 0 ∗ cred (tallyAt (barC c) 0 2) ∗ hold c a0 Finset.univ q (fun _ => sc c)) ∗ loc P sc c [])
      ⊢ iprop(((ow c [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6] ∗ A2 c true ∗ A2 c false ∗ (semVal (barC c) 0 ∗ hold c a0 Finset.univ q (fun _ => sc c)) ∗ loc P sc c []) -∗ wp frame (wpE defs₀ 𝒱₀ (c : Thread nD τ) none) Set.univ (k c (Scalar.remsi (Scalar.divsi (Dev.word c) 1#32) 4#32) (Scalar.remsi (Scalar.addi (Scalar.remsi (Scalar.divsi (Dev.word c) 1#32) 4#32) 1#32) 4#32) (Scalar.remsi (Scalar.addi (Scalar.remsi (Scalar.divsi (Dev.word c) 1#32) 4#32) 3#32) 4#32) (sc c) (Scalar.addi (Scalar.remsi (Scalar.divsi (Dev.word c) 1#32) 4#32) 2#32)) Q)
        -∗ wp frame (wpE defs₀ 𝒱₀ (c : Thread nD τ) none) Set.univ ((onRefs (k1_part1 (F := F) a0 h0)) >>= fun ⟨d0, v2, v4, v6, v7⟩ => (onRefs (k1_part2 (F := F) a0 h0) d0 v2 v4 v6) >>= fun v51 => k d0 v2 v4 v6 v7 v51) Q) := by
  unfold A0 A2 tk loc
  iintro ⟨#HC, HO, ⟨⟨HsR, HpR, HrR, HwR, HzR⟩, H0R, H1R, HaR, HbR, HoR, HqR, #HRR⟩, ⟨⟨HsL, HpL, HrL, HwL, HzL⟩, H0L, H1L, HaL, HbL, HoL, HqL, #HRL⟩, ⟨HbP, HbC, Hsm⟩, ⟨HM, HN, Hd, He, Hu, Hv, HD⟩⟩ Hk
  simp only [onRefs]
  rw [k1_part1_eq_skeleton, k1_part2_eq_skeleton]
  unfold k1_part1_skel k1_part2_skel
  simp only [semSignalWord, semWaitWord, smemLoad, Prog.lift, Prog.bind_op, Prog.bind_ret, Prog.pure_eq_ret, Prog.bind_assoc, wp_deviceId, smem_bind]
  iapply (op_smem sc c a0 q) $$ Hsm
  iintro Hsm
  iapply (op_load0 (hq := squeezes_S1x1024x4096_S1024x4096) P c true (sh c 3) fullShare.left ldR (k1_off1_eq c 3) _ rfl (View.dmaCredit_pos _ (by decide))) $$ [HM HaR Hd]
  · isplitl [HM]; · iexact HM
    isplitl [HaR]; · iexact HaR
    iexact Hd
  iintro HgR
  iapply (op_load0 (hq := squeezes_S1x1024x4096_S1024x4096) P c false (sh c 1) fullShare.right ldL (k1_off2_eq c) _ rfl (View.dmaCredit_pos _ (by decide))) $$ [HN HaL He]
  · isplitl [HN]; · iexact HN
    isplitl [HaL]; · iexact HaL
    iexact He
  iintro HgL
  iapply (op_arrived P K c ldR rfl _ _ (l := [.bar true, .bar false, .recv true 0, .recv false 0, .cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgR]
  · isplitr; · iexact HC
    isplitl [HO]; · iexact HO
    iexact HgR
  iintro ⟨HO, ⟨HaR, HM⟩, Hd⟩
  iapply (op_arrived P K c ldL rfl _ _ (l := [.bar true, .bar false, .recv true 0, .recv false 0, .cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgL]
  · isplitr; · iexact HC
    isplitl [HO]; · iexact HO
    iexact HgL
  iintro ⟨HO, ⟨HaL, HN⟩, He⟩
  iapply (op_bar P K c true _ (Fin.ext (k1_dev1_eq c))) $$ [HO HqR HbR]
  · isplitr; · iexact HC
    isplitl [HO]; · iexact HO
    isplitl [HqR]; · iexact HqR
    isplitl [HbR]; · iexact HbR
    iexact HRR
  iintro HO
  iapply (op_bar P K c false _ (Fin.ext (k1_dev2_eq c))) $$ [HO HqL HbL]
  · isplitr; · iexact HC
    isplitl [HO]; · iexact HO
    isplitl [HqL]; · iexact HqL
    isplitl [HbL]; · iexact HbL
    iexact HRL
  iintro HO
  iclear HRR HRL
  iapply (op_barwait P K c (l := [.recv true 0, .recv false 0, .cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide)) $$ [HO HbP HbC]
  · isplitr; · iexact HC
    isplitl [HO]; · iexact HO
    isplitl [HbP]; · iexact HbP
    iexact HbC
  iintro ⟨HO, HbP, ⟨HnR, #HRR⟩, ⟨HnL, #HRL⟩⟩
  iapply (op_send5 (hq := squeezes_S1x1024x4096_S1024x4096) P K c true 0 (by decide) 0 rfl _ (Fin.ext (k1_dev3_eq c)) 0 1 rfl rfl rfl rfl fullShare rfl (X_zero P true c).symm _ _ rfl rfl 0 rfl 0 rfl rfl) $$ [HO HsR H0R HaR HnR HwR]
  · isplitr; · iexact HC
    isplitl [HO]; · iexact HO
    isplitl [HsR]; · iexact HsR
    isplitl [H0R]; · iexact H0R
    isplitl [HaR]; · iexact HaR
    isplitl [HnR]; · iexact HnR
    isplitr; · iexact HRR
    iexact HwR
  iintro ⟨HO, HsR, H0R, HwR⟩
  iapply (op_send5 (hq := squeezes_S1x1024x4096_S1024x4096) P K c false 0 (by decide) 0 rfl _ (Fin.ext (k1_dev4_eq c)) 0 1 rfl rfl rfl rfl fullShare rfl (X_zero P false c).symm _ _ rfl rfl 0 rfl 0 rfl rfl) $$ [HO HsL H0L HaL HnL HwL]
  · isplitr; · iexact HC
    isplitl [HO]; · iexact HO
    isplitl [HsL]; · iexact HsL
    isplitl [H0L]; · iexact H0L
    isplitl [HaL]; · iexact HaL
    isplitl [HnL]; · iexact HnL
    isplitr; · iexact HRL
    iexact HwL
  iintro ⟨HO, HsL, H0L, HwL⟩
  iapply Hk
  isplitl [HO]; · iexact HO
  isplitl [HsR HpR HrR HwR HzR H0R H1R HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HoR]; · iexact HoR
    iexact HRR
  isplitl [HsL HpL HrL HwL HzL H0L H1L HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HoL]; · iexact HoL
    iexact HRL
  isplitl [HbP Hsm]
  · skip
    isplitl [HbP]; · iexact HbP
    iexact Hsm
  isplitl [HM]; · iexact HM
  isplitl [HN]; · iexact HN
  isplitl [Hd]; · iexact Hd
  isplitl [He]; · iexact He
  isplitl [Hu]; · iexact Hu
  isplitl [Hv]; · iexact Hv
  iexact HD

set_option maxRecDepth 20000 in
set_option maxHeartbeats 4000000 in
/-- Step 0: the first transfer arrives and the own block is added. -/
theorem ph2 {a0 : Memref sig .tc .smem S1 .f32} {h0 : a0.IsWhole} (v2 v4 v6 v51 : BitVec 32) {α : Type} {Q : α → sProp 𝕄} {k : PUnit → Prog (TpuEff nD τ sig (Elt F) Λ₀ .tc) α} :
    iprop(Ctx P K ∗ ow c [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6] ∗ A2 c true ∗ A2 c false ∗ loc P sc c [])
      ⊢ iprop(((ow c [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6] ∗ A3 P c true ∗ A3 P c false ∗ loc P sc c []) -∗ wp frame (wpE defs₀ 𝒱₀ (c : Thread nD τ) none) Set.univ (k PUnit.unit) Q)
        -∗ wp frame (wpE defs₀ 𝒱₀ (c : Thread nD τ) none) Set.univ ((onRefs (k1_part3 (F := F) a0 h0) c v2 v4 v51) >>= fun _ => (onRefs (k1_part4 (F := F) a0 h0) c v4 v6) >>= fun v97 => (onRefs (k1_part5 (F := F) a0 h0) v97) >>= k) Q) := by
  unfold A2 A3 tk loc
  iintro ⟨#HC, HO, ⟨⟨HsR, HpR, HrR, HwR, HzR⟩, H0R, H1R, HoR, #HRR⟩, ⟨⟨HsL, HpL, HrL, HwL, HzL⟩, H0L, H1L, HoL, #HRL⟩, ⟨HM, HN, Hd, He, Hu, Hv, HD⟩⟩ Hk
  simp only [onRefs]
  rw [k1_part3_eq_skeleton, k1_part4_eq_skeleton, k1_part5_eq_skeleton]
  unfold k1_part3_skel k1_part4_skel k1_part5_skel
  simp only [semSignalWord, semWaitWord, smemLoad, Prog.lift, Prog.bind_op, Prog.bind_ret, Prog.pure_eq_ret, Prog.bind_assoc, wp_deviceId]
  iapply (op_load P c true (own true 0 c) fullShare.left ldR (k1_off1_eq c 2) _ rfl (View.dmaCredit_pos _ (by decide))) $$ [HM HoR Hd]
  · isplitl [HM]; · iexact HM
    isplitl [HoR]; · iexact HoR
    iexact Hd
  iintro HgR
  iapply (op_load P c false (own false 0 c) fullShare.right ldL (k1_off3_eq c 0) _ rfl (View.dmaCredit_pos _ (by decide))) $$ [HN HoL He]
  · isplitl [HN]; · iexact HN
    isplitl [HoL]; · iexact HoL
    iexact He
  iintro HgL
  iapply (op_sent5 P K c true 0 _ rfl (l := [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 0 rfl 1 rfl 0 0 4096 rfl rfl rfl fullShare rfl _ rfl (dstw := cut true 0 0 4096 inb_S2x1024x4096_S1x1024x4096_0_0_0 S1024x4096 squeezes_S1x1024x4096_S1024x4096) rfl) $$ [HO H0R]
  · isplitr; · iexact HC
    isplitl [HO]; · iexact HO
    iexact H0R
  iintro ⟨HO, H0R, HaR⟩
  iapply (op_recv5 P K c true 0 _ rfl (l := [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 1 0 4096 rfl rfl rfl _ rfl (dstw := cut true 1 0 4096 inb_S2x1024x4096_S1x1024x4096_1_0_0 S1024x4096 squeezes_S1x1024x4096_S1024x4096) rfl) $$ [HO HrR]
  · isplitr; · iexact HC
    isplitl [HO]; · iexact HO
    iexact HrR
  iintro ⟨HO, HrR, Hy, HbR, #HkR⟩
  ihave Hx := (rZs_cons c true 0 []) $$ [Hy HzR]
  · isplitl [Hy]; · iexact Hy
    iexact HzR
  irename Hx => HzR
  iapply (op_sent5 P K c false 0 _ rfl (l := [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 0 rfl 1 rfl 0 0 4096 rfl rfl rfl fullShare rfl _ rfl (dstw := cut false 0 0 4096 inb_S2x1024x4096_S1x1024x4096_0_0_0 S1024x4096 squeezes_S1x1024x4096_S1024x4096) rfl) $$ [HO H0L]
  · isplitr; · iexact HC
    isplitl [HO]; · iexact HO
    iexact H0L
  iintro ⟨HO, H0L, HaL⟩
  iapply (op_recv5 P K c false 0 _ rfl (l := [.cred true 0, .cred false 0, .recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 1 0 4096 rfl rfl rfl _ rfl (dstw := cut false 1 0 4096 inb_S2x1024x4096_S1x1024x4096_1_0_0 S1024x4096 squeezes_S1x1024x4096_S1024x4096) rfl) $$ [HO HrL]
  · isplitr; · iexact HC
    isplitl [HO]; · iexact HO
    iexact HrL
  iintro ⟨HO, HrL, Hy, HbL, #HkL⟩
  ihave Hx := (rZs_cons c false 0 []) $$ [Hy HzL]
  · isplitl [Hy]; · iexact Hy
    iexact HzL
  irename Hx => HzL
  ihave Hf := (hold_any) $$ HaR
  iapply (op_give5 P K c true 0 (by decide) 0 rfl 0 rfl _ (Fin.ext (k1_dev5_eq c)) _ rfl) $$ [HO HpR Hf]
  · isplitr; · iexact HC
    isplitl [HO]; · iexact HO
    isplitl [HpR]; · iexact HpR
    isplitl [Hf]; · iexact Hf
    iexact HkR
  iintro ⟨HO, HpR⟩
  ihave Hf := (hold_any) $$ HaL
  iapply (op_give5 P K c false 0 (by decide) 0 rfl 0 rfl _ (Fin.ext (k1_dev6_eq c)) _ rfl) $$ [HO HpL Hf]
  · isplitr; · iexact HC
    isplitl [HO]; · iexact HO
    isplitl [HpL]; · iexact HpL
    isplitl [Hf]; · iexact Hf
    iexact HkL
  iintro ⟨HO, HpL⟩
  iapply (op_arrived P K c ldR rfl _ _ (l := [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgR]
  · isplitr; · iexact HC
    isplitl [HO]; · iexact HO
    iexact HgR
  iintro ⟨HO, ⟨HoR, HM⟩, Hd⟩
  iapply (op_arrived P K c ldL rfl _ _ (l := [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgL]
  · isplitr; · iexact HC
    isplitl [HO]; · iexact HO
    iexact HgL
  iintro ⟨HO, ⟨HoL, HN⟩, He⟩
  ihave Hx := (add_start c true 1 fullShare _ (chunk true (P c) (own true 0 c))) $$ HbR
  irename Hx => HbR
  iapply (op_add c true 1 0 (by decide) (X P true 0 (fro true c)) (chunk true (P c) (own true 0 c)) _ (fun _ _ => rfl)) $$ [HbR HoR]
  · isplitl [HbR]; · iexact HbR
    iexact HoR
  iintro ⟨HbR, HoR⟩
  iapply (op_add c true 1 2048 (by decide) (X P true 0 (fro true c)) (chunk true (P c) (own true 0 c)) _ (fun _ _ => rfl)) $$ [HbR HoR]
  · isplitl [HbR]; · iexact HbR
    iexact HoR
  iintro ⟨HbR, HoR⟩
  ihave Hx := (add_done P c true 0 (by decide) 1 fullShare) $$ HbR
  irename Hx => HbR
  ihave Hx := (hold_any) $$ HoR
  irename Hx => HoR
  ihave Hx := (add_start c false 1 fullShare _ (chunk false (P c) (own false 0 c))) $$ HbL
  irename Hx => HbL
  iapply (op_add c false 1 0 (by decide) (X P false 0 (fro false c)) (chunk false (P c) (own false 0 c)) _ (fun _ _ => rfl)) $$ [HbL HoL]
  · isplitl [HbL]; · iexact HbL
    iexact HoL
  iintro ⟨HbL, HoL⟩
  iapply (op_add c false 1 2048 (by decide) (X P false 0 (fro false c)) (chunk false (P c) (own false 0 c)) _ (fun _ _ => rfl)) $$ [HbL HoL]
  · isplitl [HbL]; · iexact HbL
    iexact HoL
  iintro ⟨HbL, HoL⟩
  ihave Hx := (add_done P c false 0 (by decide) 1 fullShare) $$ HbL
  irename Hx => HbL
  ihave Hx := (hold_any) $$ HoL
  irename Hx => HoL
  iapply (op_take P K c true 0 (by decide) _ rfl (l := [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide)) $$ [HO HwR]
  · isplitr; · iexact HC
    isplitl [HO]; · iexact HO
    iexact HwR
  iintro ⟨HO, HwR, HnR⟩
  iapply (op_take P K c false 0 (by decide) _ rfl (l := [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide)) $$ [HO HwL]
  · isplitr; · iexact HC
    isplitl [HO]; · iexact HO
    iexact HwL
  iintro ⟨HO, HwL, HnL⟩
  iapply Hk
  isplitl [HO]; · iexact HO
  isplitl [HsR HpR HrR HwR HzR H0R H1R HbR HnR HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HbR]; · iexact HbR
    isplitl [HnR]; · iexact HnR
    isplitl [HoR]; · iexact HoR
    iexact HRR
  isplitl [HsL HpL HrL HwL HzL H0L H1L HbL HnL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HbL]; · iexact HbL
    isplitl [HnL]; · iexact HnL
    isplitl [HoL]; · iexact HoL
    iexact HRL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Body2.lean ====
/-
# The kernel, steps 1 and 2
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- Step 1, and the first of step 2's transfers. -/
theorem ph3 {a0 : Memref sig .tc .smem S1 .f32} {h0 : a0.IsWhole} (v2 v4 v6 : BitVec 32) {α : Type} {Q : α → sProp 𝕄} {k : PUnit → Prog (TpuEff nD τ sig (Elt F) Λ₀ .tc) α} :
    iprop(Ctx P K ∗ ow c [.recv true 1, .recv false 1, .cred true 1, .cred false 1, .recv true 2, .recv false 2, .cred true 2, .cred false 2, .recv true 3, .recv false 3, .cred true 3, .cred false 3, .recv true 4, .recv false 4, .cred true 4, .cred false 4, .recv true 5, .recv false 5, .recv true 6, .recv false 6] ∗ A3 P c true ∗ A3 P c false ∗ loc P sc c [])
      ⊢ iprop(((ow c [.recv false 2, .cred true 2, .cred false 2, .recv true 3, .recv false 3, .cred true 3, .cred false 3, .recv true 4, .recv false 4, .cred true 4, .cred false 4, .recv true 5, .recv false 5, .recv true 6, .recv false 6] ∗ A4f c true ∗ A4 P c false ∗ loc P sc c []) -∗ wp frame (wpE defs₀ 𝒱₀ (c : Thread nD τ) none) Set.univ (k PUnit.unit) Q)
        -∗ wp frame (wpE defs₀ 𝒱₀ (c : Thread nD τ) none) Set.univ ((onRefs (k1_part6 (F := F) a0 h0) c v2 v4 v6) >>= fun _ => (onRefs (k1_part7 (F := F) a0 h0) v4 v6) >>= fun _ => (onRefs (k1_part8 (F := F) a0 h0) c v4 v6) >>= fun _ => (onRefs (k1_part9 (F := F) a0 h0) c v4) >>= k) Q) := by
  unfold A3 A4 A4f tk loc
  iintro ⟨#HC, HO, ⟨⟨HsR, HpR, HrR, HwR, HzR⟩, H0R, H1R, HbR, HnR, HoR, #HRR⟩, ⟨⟨HsL, HpL, HrL, HwL, HzL⟩, H0L, H1L, HbL, HnL, HoL, #HRL⟩, ⟨HM, HN, Hd, He, Hu, Hv, HD⟩⟩ Hk
  simp only [onRefs]
  rw [k1_part6_eq_skeleton, k1_part7_eq_skeleton, k1_part8_eq_skeleton, k1_part9_eq_skeleton]
  unfold k1_part6_skel k1_part7_skel k1_part8_skel k1_part9_skel
  simp only [semSignalWord, semWaitWord, smemLoad, Prog.lift, Prog.bind_op, Prog.bind_ret, Prog.pure_eq_ret, Prog.bind_assoc, wp_deviceId]
  iapply (op_send5 (hq := squeezes_S1x1024x4096_S1024x4096) P K c true 1 (by decide) 1 rfl _ (Fin.ext (k1_dev7_eq c)) 1 0 rfl rfl rfl rfl fullShare rfl rfl _ _ rfl rfl 1 rfl 0 rfl rfl) $$ [HO HsR H1R HbR HnR HwR]
  · isplitr; · iexact HC
    isplitl [HO]; · iexact HO
    isplitl [HsR]; · iexact HsR
    isplitl [H1R]; · iexact H1R
    isplitl [HbR]; · iexact HbR
    isplitl [HnR]; · iexact HnR
    isplitr; · iexact HRR
    iexact HwR
  iintro ⟨HO, HsR, H1R, HwR⟩
  iapply (op_send5 (hq := squeezes_S1x1024x4096_S1024x4096) P K c false 1 (by decide) 1 rfl _ (Fin.ext (k1_dev8_eq c)) 1 0 rfl rfl rfl rfl fullShare rfl rfl _ _ rfl rfl 1 rfl 0 rfl rfl) $$ [HO HsL H1L HbL HnL HwL]
  · isplitr; · iexact HC
    isplitl [HO]; · iexact HO
    isplitl [HsL]; · iexact HsL
    isplitl [H1L]; · iexact H1L
    isplitl [HbL]; · iexact HbL
    isplitl [HnL]; · iexact HnL
    isplitr; · iexact HRL
    iexact HwL
  iintro ⟨HO, HsL, H1L, HwL⟩
  iapply (op_load P c true (own true 1 c) fullShare.left ldR (k1_off1_eq c 1) _ rfl (View.dmaCredit_pos _ (by decide))) $$ [HM HoR Hd]
  · isplitl [HM]; · iexact HM
    isplitl [HoR]; · iexact HoR
    iexact Hd
  iintro HgR
  iapply (op_load P c false (own false 1 c) fullShare.right ldL (k1_off3_eq c 1) _ rfl (View.dmaCredit_pos _ (by decide))) $$ [HN HoL He]
  · isplitl [HN]; · iexact HN
    isplitl [HoL]; · iexact HoL
    iexact He
  iintro HgL
  iapply (op_sent5 P K c true 1 _ rfl (l := [.cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 1 rfl 1 rfl 1 0 4096 rfl rfl rfl fullShare rfl _ rfl (dstw := cut true 1 0 4096 inb_S2x1024x4096_S1x1024x4096_1_0_0 S1024x4096 squeezes_S1x1024x4096_S1024x4096) rfl) $$ [HO H1R]
  · isplitr; · iexact HC
    isplitl [HO]; · iexact HO
    iexact H1R
  iintro ⟨HO, H1R, HbR⟩
  iapply (op_recv5 P K c true 1 _ rfl (l := [.cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 0 0 4096 rfl rfl rfl _ rfl (dstw := cut true 0 0 4096 inb_S2x1024x4096_S1x1024x4096_0_0_0 S1024x4096 squeezes_S1x1024x4096_S1024x4096) rfl) $$ [HO HrR]
  · isplitr; · iexact HC
    isplitl [HO]; · iexact HO
    iexact HrR
  iintro ⟨HO, HrR, Hy, HaR, #HkR⟩
  ihave Hx := (rZs_cons c true 1 [0]) $$ [Hy HzR]
  · isplitl [Hy]; · iexact Hy
    iexact HzR
  irename Hx => HzR
  iapply (op_sent5 P K c false 1 _ rfl (l := [.cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 1 rfl 1 rfl 1 0 4096 rfl rfl rfl fullShare rfl _ rfl (dstw := cut false 1 0 4096 inb_S2x1024x4096_S1x1024x4096_1_0_0 S1024x4096 squeezes_S1x1024x4096_S1024x4096) rfl) $$ [HO H1L]
  · isplitr; · iexact HC
    isplitl [HO]; · iexact HO
    iexact H1L
  iintro ⟨HO, H1L, HbL⟩
  iapply (op_recv5 P K c false 1 _ rfl (l := [.cred true 1, .cred false 1, .recv true 2, .recv false 2, .cred true 2, .cred false 2, .recv true 3, .recv false 3, .cred true 3, .cred false 3, .recv true 4, .recv false 4, .cred true 4, .cred false 4, .recv true 5, .recv false 5, .recv true 6, .recv false 6]) (by decide) (by decide) 0 0 4096 rfl rfl rfl _ rfl (dstw := cut false 0 0 4096 inb_S2x1024x4096_S1x1024x4096_0_0_0 S1024x4096 squeezes_S1x1024x4096_S1024x4096) rfl) $$ [HO HrL]
  · isplitr; · iexact HC
    isplitl [HO]; · iexact HO
    iexact HrL
  iintro ⟨HO, HrL, Hy, HaL, #HkL⟩
  ihave Hx := (rZs_cons c false 1 [0]) $$ [Hy HzL]
  · isplitl [Hy]; · iexact Hy
    iexact HzL
  irename Hx => HzL
  ihave Hf := (hold_any) $$ HbR
  iapply (op_give5 P K c true 1 (by decide) 1 rfl 1 rfl _ (Fin.ext (k1_dev9_eq c)) _ rfl) $$ [HO HpR Hf]
  · isplitr; · iexact HC
    isplitl [HO]; · iexact HO
    isplitl [HpR]; · iexact HpR
    isplitl [Hf]; · iexact Hf
    iexact HkR
  iintro ⟨HO, HpR⟩
  ihave Hf := (hold_any) $$ HbL
  iapply (op_give5 P K c false 1 (by decide) 1 rfl 1 rfl _ (Fin.ext (k1_dev10_eq c)) _ rfl) $$ [HO HpL Hf]
  · isplitr; · iexact HC
    isplitl [HO]; · iexact HO
    isplitl [HpL]; · iexact HpL
    isplitl [Hf]; · iexact Hf
    iexact HkL
  iintro ⟨HO, HpL⟩
  iapply (op_arrived P K c ldR rfl _ _ (l := [.recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgR]
  · isplitr; · iexact HC
    isplitl [HO]; · iexact HO
    iexact HgR
  iintro ⟨HO, ⟨HoR, HM⟩, Hd⟩
  iapply (op_arrived P K c ldL rfl _ _ (l := [.recv true 2, .recv false 2, .cred true 2, .cred false 2, .recv true 3, .recv false 3, .cred true 3, .cred false 3, .recv true 4, .recv false 4, .cred true 4, .cred false 4, .recv true 5, .recv false 5, .recv true 6, .recv false 6]) (by decide) (by decide) rfl) $$ [HO HgL]
  · isplitr; · iexact HC
    isplitl [HO]; · iexact HO
    iexact HgL
  iintro ⟨HO, ⟨HoL, HN⟩, He⟩
  ihave Hx := (add_start c true 0 fullShare _ (chunk true (P c) (own true 1 c))) $$ HaR
  irename Hx => HaR
  iapply (op_add c true 0 0 (by decide) (X P true 1 (fro true c)) (chunk true (P c) (own true 1 c)) _ (fun _ _ => rfl)) $$ [HaR HoR]
  · isplitl [HaR]; · iexact HaR
    iexact HoR
  iintro ⟨HaR, HoR⟩
  iapply (op_add c true 0 2048 (by decide) (X P true 1 (fro true c)) (chunk true (P c) (own true 1 c)) _ (fun _ _ => rfl)) $$ [HaR HoR]
  · isplitl [HaR]; · iexact HaR
    iexact HoR
  iintro ⟨HaR, HoR⟩
  ihave Hx := (add_done P c true 1 (by decide) 0 fullShare) $$ HaR
  irename Hx => HaR
  ihave Hx := (hold_any) $$ HoR
  irename Hx => HoR
  ihave Hx := (add_start c false 0 fullShare _ (chunk false (P c) (own false 1 c))) $$ HaL
  irename Hx => HaL
  iapply (op_add c false 0 0 (by decide) (X P false 1 (fro false c)) (chunk false (P c) (own false 1 c)) _ (fun _ _ => rfl)) $$ [HaL HoL]
  · isplitl [HaL]; · iexact HaL
    iexact HoL
  iintro ⟨HaL, HoL⟩
  iapply (op_add c false 0 2048 (by decide) (X P false 1 (fro false c)) (chunk false (P c) (own false 1 c)) _ (fun _ _ => rfl)) $$ [HaL HoL]
  · isplitl [HaL]; · iexact HaL
    iexact HoL
  iintro ⟨HaL, HoL⟩
  ihave Hx := (add_done P c false 1 (by decide) 0 fullShare) $$ HaL
  irename Hx => HaL
  ihave Hx := (hold_any) $$ HoL
  irename Hx => HoL
  iapply (op_take P K c true 1 (by decide) _ rfl (l := [.recv true 2, .recv false 2, .cred true 2, .cred false 2, .recv true 3, .recv false 3, .cred true 3, .cred false 3, .recv true 4, .recv false 4, .cred true 4, .cred false 4, .recv true 5, .recv false 5, .recv true 6, .recv false 6]) (by decide) (by decide)) $$ [HO HwR]
  · isplitr; · iexact HC
    isplitl [HO]; · iexact HO
    iexact HwR
  iintro ⟨HO, HwR, HnR⟩
  iapply (op_take P K c false 1 (by decide) _ rfl (l := [.recv true 2, .recv false 2, .cred true 2, .cred false 2, .recv true 3, .recv false 3, .cred true 3, .cred false 3, .recv true 4, .recv false 4, .cred true 4, .cred false 4, .recv true 5, .recv false 5, .recv true 6, .recv false 6]) (by decide) (by decide)) $$ [HO HwL]
  · isplitr; · iexact HC
    isplitl [HO]; · iexact HO
    iexact HwL
  iintro ⟨HO, HwL, HnL⟩
  iapply (op_send5 (hq := squeezes_S1x1024x4096_S1024x4096) P K c true 2 (by decide) 2 rfl _ (Fin.ext (k1_dev11_eq c)) 0 1 rfl rfl rfl rfl fullShare rfl rfl _ _ rfl rfl 0 rfl 1 rfl rfl) $$ [HO HsR H0R HaR HnR HwR]
  · isplitr; · iexact HC
    isplitl [HO]; · iexact HO
    isplitl [HsR]; · iexact HsR
    isplitl [H0R]; · iexact H0R
    isplitl [HaR]; · iexact HaR
    isplitl [HnR]; · iexact HnR
    isplitr; · iexact HRR
    iexact HwR
  iintro ⟨HO, HsR, H0R, HwR⟩
  iapply Hk
  isplitl [HO]; · iexact HO
  isplitl [HsR HpR HrR HwR HzR H0R H1R HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HoR]; · iexact HoR
    iexact HRR
  isplitl [HsL HpL HrL HwL HzL H0L H1L HaL HnL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HaL]; · iexact HaL
    isplitl [HnL]; · iexact HnL
    isplitl [HoL]; · iexact HoL
    iexact HRL
  isplitl [HM]; · iexact HM
  isplitl [HN]; · iexact HN
  isplitl [Hd]; · iexact Hd
  isplitl [He]; · iexact He
  isplitl [Hu]; · iexact Hu
  isplitl [Hv]; · iexact Hv
  iexact HD

set_option maxRecDepth 20000 in
set_option maxHeartbeats 4000000 in
/-- Step 2, and step 3's transfers. -/
theorem ph4 {a0 : Memref sig .tc .smem S1 .f32} {h0 : a0.IsWhole} (v2 v4 v6 : BitVec 32) (w2 w4 w6 : BitVec 32) {α : Type} {Q : α → sProp 𝕄} {k : PUnit → Prog (TpuEff nD τ sig (Elt F) Λ₀ .tc) α} :
    iprop(Ctx P K ∗ ow c [.recv false 2, .cred true 2, .cred false 2, .recv true 3, .recv false 3, .cred true 3, .cred false 3, .recv true 4, .recv false 4, .cred true 4, .cred false 4, .recv true 5, .recv false 5, .recv true 6, .recv false 6] ∗ A4f c true ∗ A4 P c false ∗ loc P sc c [])
      ⊢ iprop(((ow c [.cred true 3, .cred false 3, .recv true 4, .recv false 4, .cred true 4, .cred false 4, .recv true 5, .recv false 5, .recv true 6, .recv false 6] ∗ A5 P c true ∗ A5 P c false ∗ loc P sc c []) -∗ wp frame (wpE defs₀ 𝒱₀ (c : Thread nD τ) none) Set.univ (k PUnit.unit) Q)
        -∗ wp frame (wpE defs₀ 𝒱₀ (c : Thread nD τ) none) Set.univ ((onRefs (k1_part10 (F := F) a0 h0) c v2 v4 v6) >>= fun v248 => (onRefs (k1_part11 (F := F) a0 h0) c v4 v6 v248) >>= fun _ => (onRefs (k1_part12 (F := F) a0 h0) c) >>= fun v298 => (onRefs (k1_part13 (F := F) a0 h0) c v4 v6 v298) >>= k) Q) := by
  unfold A4f A4 A5 tk loc
  iintro ⟨#HC, HO, ⟨⟨HsR, HpR, HrR, HwR, HzR⟩, H0R, H1R, HoR, #HRR⟩, ⟨⟨HsL, HpL, HrL, HwL, HzL⟩, H0L, H1L, HaL, HnL, HoL, #HRL⟩, ⟨HM, HN, Hd, He, Hu, Hv, HD⟩⟩ Hk
  simp only [onRefs]
  rw [k1_part10_eq_skeleton, k1_part11_eq_skeleton, k1_part12_eq_skeleton, k1_part13_eq_skeleton]
  unfold k1_part10_skel k1_part11_skel k1_part12_skel k1_part13_skel
  simp only [semSignalWord, semWaitWord, smemLoad, Prog.lift, Prog.bind_op, Prog.bind_ret, Prog.pure_eq_ret, Prog.bind_assoc, wp_deviceId]
  iapply (op_send5 (hq := squeezes_S1x1024x4096_S1024x4096) P K c false 2 (by decide) 2 rfl _ (Fin.ext (k1_dev12_eq c)) 0 1 rfl rfl rfl rfl fullShare rfl rfl _ _ rfl rfl 0 rfl 1 rfl rfl) $$ [HO HsL H0L HaL HnL HwL]
  · isplitr; · iexact HC
    isplitl [HO]; · iexact HO
    isplitl [HsL]; · iexact HsL
    isplitl [H0L]; · iexact H0L
    isplitl [HaL]; · iexact HaL
    isplitl [HnL]; · iexact HnL
    isplitr; · iexact HRL
    iexact HwL
  iintro ⟨HO, HsL, H0L, HwL⟩
  iapply (op_load P c true (own true 2 c) fullShare.left ldR (k1_off1_eq c 0) _ rfl (View.dmaCredit_pos _ (by decide))) $$ [HM HoR Hd]
  · isplitl [HM]; · iexact HM
    isplitl [HoR]; · iexact HoR
    iexact Hd
  iintro HgR
  iapply (op_load P c false (own false 2 c) fullShare.right ldL (k1_off3_eq c 2) _ rfl (View.dmaCredit_pos _ (by decide))) $$ [HN HoL He]
  · isplitl [HN]; · iexact HN
    isplitl [HoL]; · iexact HoL
    iexact He
  iintro HgL
  iapply (op_sent5 P K c true 2 _ rfl (l := [.cred true 2, .cred false 2, .recv true 3, .recv false 3, .cred true 3, .cred false 3, .recv true 4, .recv false 4, .cred true 4, .cred false 4, .recv true 5, .recv false 5, .recv true 6, .recv false 6]) (by decide) (by decide) 0 rfl 2 rfl 0 0 4096 rfl rfl rfl fullShare rfl _ rfl (dstw := cut true 0 0 4096 inb_S2x1024x4096_S1x1024x4096_0_0_0 S1024x4096 squeezes_S1x1024x4096_S1024x4096) rfl) $$ [HO H0R]
  · isplitr; · iexact HC
    isplitl [HO]; · iexact HO
    iexact H0R
  iintro ⟨HO, H0R, HaR⟩
  iapply (op_recv5 P K c true 2 _ rfl (l := [.cred true 2, .cred false 2, .recv true 3, .recv false 3, .cred true 3, .cred false 3, .recv true 4, .recv false 4, .cred true 4, .cred false 4, .recv true 5, .recv false 5, .recv true 6, .recv false 6]) (by decide) (by decide) 1 0 4096 rfl rfl rfl _ rfl (dstw := cut true 1 0 4096 inb_S2x1024x4096_S1x1024x4096_1_0_0 S1024x4096 squeezes_S1x1024x4096_S1024x4096) rfl) $$ [HO HrR]
  · isplitr; · iexact HC
    isplitl [HO]; · iexact HO
    iexact HrR
  iintro ⟨HO, HrR, Hy, HbR, #HkR⟩
  ihave Hx := (rZs_cons c true 2 [1, 0]) $$ [Hy HzR]
  · isplitl [Hy]; · iexact Hy
    iexact HzR
  irename Hx => HzR
  iapply (op_sent5 P K c false 2 _ rfl (l := [.cred true 2, .cred false 2, .recv true 3, .recv false 3, .cred true 3, .cred false 3, .recv true 4, .recv false 4, .cred true 4, .cred false 4, .recv true 5, .recv false 5, .recv true 6, .recv false 6]) (by decide) (by decide) 0 rfl 2 rfl 0 0 4096 rfl rfl rfl fullShare rfl _ rfl (dstw := cut false 0 0 4096 inb_S2x1024x4096_S1x1024x4096_0_0_0 S1024x4096 squeezes_S1x1024x4096_S1024x4096) rfl) $$ [HO H0L]
  · isplitr; · iexact HC
    isplitl [HO]; · iexact HO
    iexact H0L
  iintro ⟨HO, H0L, HaL⟩
  iapply (op_recv5 P K c false 2 _ rfl (l := [.cred true 2, .cred false 2, .recv true 3, .recv false 3, .cred true 3, .cred false 3, .recv true 4, .recv false 4, .cred true 4, .cred false 4, .recv true 5, .recv false 5, .recv true 6, .recv false 6]) (by decide) (by decide) 1 0 4096 rfl rfl rfl _ rfl (dstw := cut false 1 0 4096 inb_S2x1024x4096_S1x1024x4096_1_0_0 S1024x4096 squeezes_S1x1024x4096_S1024x4096) rfl) $$ [HO HrL]
  · isplitr; · iexact HC
    isplitl [HO]; · iexact HO
    iexact HrL
  iintro ⟨HO, HrL, Hy, HbL, #HkL⟩
  ihave Hx := (rZs_cons c false 2 [1, 0]) $$ [Hy HzL]
  · isplitl [Hy]; · iexact Hy
    iexact HzL
  irename Hx => HzL
  ihave Hf := (hold_any) $$ HaR
  iapply (op_give5 P K c true 2 (by decide) 2 rfl 0 rfl _ (Fin.ext (k1_dev13_eq c)) _ rfl) $$ [HO HpR Hf]
  · isplitr; · iexact HC
    isplitl [HO]; · iexact HO
    isplitl [HpR]; · iexact HpR
    isplitl [Hf]; · iexact Hf
    iexact HkR
  iintro ⟨HO, HpR⟩
  ihave Hf := (hold_any) $$ HaL
  iapply (op_give5 P K c false 2 (by decide) 2 rfl 0 rfl _ (Fin.ext (k1_dev14_eq c)) _ rfl) $$ [HO HpL Hf]
  · isplitr; · iexact HC
    isplitl [HO]; · iexact HO
    isplitl [HpL]; · iexact HpL
    isplitl [Hf]; · iexact Hf
    iexact HkL
  iintro ⟨HO, HpL⟩
  iapply (op_arrived P K c ldR rfl _ _ (l := [.recv true 3, .recv false 3, .cred true 3, .cred false 3, .recv true 4, .recv false 4, .cred true 4, .cred false 4, .recv true 5, .recv false 5, .recv true 6, .recv false 6]) (by decide) (by decide) rfl) $$ [HO HgR]
  · isplitr; · iexact HC
    isplitl [HO]; · iexact HO
    iexact HgR
  iintro ⟨HO, ⟨HoR, HM⟩, Hd⟩
  iapply (op_arrived P K c ldL rfl _ _ (l := [.recv true 3, .recv false 3, .cred true 3, .cred false 3, .recv true 4, .recv false 4, .cred true 4, .cred false 4, .recv true 5, .recv false 5, .recv true 6, .recv false 6]) (by decide) (by decide) rfl) $$ [HO HgL]
  · isplitr; · iexact HC
    isplitl [HO]; · iexact HO
    iexact HgL
  iintro ⟨HO, ⟨HoL, HN⟩, He⟩
  ihave Hx := (add_start c true 1 fullShare _ (chunk true (P c) (own true 2 c))) $$ HbR
  irename Hx => HbR
  iapply (op_add c true 1 0 (by decide) (X P true 2 (fro true c)) (chunk true (P c) (own true 2 c)) _ (fun _ _ => rfl)) $$ [HbR HoR]
  · isplitl [HbR]; · iexact HbR
    iexact HoR
  iintro ⟨HbR, HoR⟩
  iapply (op_add c true 1 2048 (by decide) (X P true 2 (fro true c)) (chunk true (P c) (own true 2 c)) _ (fun _ _ => rfl)) $$ [HbR HoR]
  · isplitl [HbR]; · iexact HbR
    iexact HoR
  iintro ⟨HbR, HoR⟩
  ihave Hx := (add_done P c true 2 (by decide) 1 fullShare) $$ HbR
  irename Hx => HbR
  ihave Hx := (hold_any) $$ HoR
  irename Hx => HoR
  ihave Hx := (add_start c false 1 fullShare _ (chunk false (P c) (own false 2 c))) $$ HbL
  irename Hx => HbL
  iapply (op_add c false 1 0 (by decide) (X P false 2 (fro false c)) (chunk false (P c) (own false 2 c)) _ (fun _ _ => rfl)) $$ [HbL HoL]
  · isplitl [HbL]; · iexact HbL
    iexact HoL
  iintro ⟨HbL, HoL⟩
  iapply (op_add c false 1 2048 (by decide) (X P false 2 (fro false c)) (chunk false (P c) (own false 2 c)) _ (fun _ _ => rfl)) $$ [HbL HoL]
  · isplitl [HbL]; · iexact HbL
    iexact HoL
  iintro ⟨HbL, HoL⟩
  ihave Hx := (add_done P c false 2 (by decide) 1 fullShare) $$ HbL
  irename Hx => HbL
  ihave Hx := (hold_any) $$ HoL
  irename Hx => HoL
  iapply (op_take P K c true 2 (by decide) _ rfl (l := [.recv true 3, .recv false 3, .cred true 3, .cred false 3, .recv true 4, .recv false 4, .cred true 4, .cred false 4, .recv true 5, .recv false 5, .recv true 6, .recv false 6]) (by decide) (by decide)) $$ [HO HwR]
  · isplitr; · iexact HC
    isplitl [HO]; · iexact HO
    iexact HwR
  iintro ⟨HO, HwR, HnR⟩
  iapply (op_take P K c false 2 (by decide) _ rfl (l := [.recv true 3, .recv false 3, .cred true 3, .cred false 3, .recv true 4, .recv false 4, .cred true 4, .cred false 4, .recv true 5, .recv false 5, .recv true 6, .recv false 6]) (by decide) (by decide)) $$ [HO HwL]
  · isplitr; · iexact HC
    isplitl [HO]; · iexact HO
    iexact HwL
  iintro ⟨HO, HwL, HnL⟩
  ihave Hx := (hold_share) $$ HbR
  icases Hx with ⟨HlR, HbR⟩
  iapply (op_send5 (hq := squeezes_S1x1024x4096_S1024x4096) P K c true 3 (by decide) 3 rfl _ (Fin.ext (k1_dev15_eq c)) 1 0 rfl rfl rfl rfl fullShare.left rfl rfl _ _ rfl rfl 1 rfl 1 rfl rfl) $$ [HO HsR H1R HlR HnR HwR]
  · isplitr; · iexact HC
    isplitl [HO]; · iexact HO
    isplitl [HsR]; · iexact HsR
    isplitl [H1R]; · iexact H1R
    isplitl [HlR]; · iexact HlR
    isplitl [HnR]; · iexact HnR
    isplitr; · iexact HRR
    iexact HwR
  iintro ⟨HO, HsR, H1R, HwR⟩
  ihave Hx := (hold_share) $$ HbL
  icases Hx with ⟨HlL, HbL⟩
  iapply (op_send5 (hq := squeezes_S1x1024x4096_S1024x4096) P K c false 3 (by decide) 3 rfl _ (Fin.ext (k1_dev16_eq c)) 1 0 rfl rfl rfl rfl fullShare.left rfl rfl _ _ rfl rfl 1 rfl 1 rfl rfl) $$ [HO HsL H1L HlL HnL HwL]
  · isplitr; · iexact HC
    isplitl [HO]; · iexact HO
    isplitl [HsL]; · iexact HsL
    isplitl [H1L]; · iexact H1L
    isplitl [HlL]; · iexact HlL
    isplitl [HnL]; · iexact HnL
    isplitr; · iexact HRL
    iexact HwL
  iintro ⟨HO, HsL, H1L, HwL⟩
  iapply Hk
  isplitl [HO]; · iexact HO
  isplitl [HsR HpR HrR HwR HzR H0R H1R HbR HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HbR]; · iexact HbR
    isplitl [HoR]; · iexact HoR
    iexact HRR
  isplitl [HsL HpL HrL HwL HzL H0L H1L HbL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HbL]; · iexact HbL
    isplitl [HoL]; · iexact HoL
    iexact HRL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Body3.lean ====
/-
# The kernel, step 3
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- Step 3: the device's own rows of the result, while the sum travels on. -/
theorem ph5 {a0 : Memref sig .tc .smem S1 .f32} {h0 : a0.IsWhole} (v2 v4 v6 : BitVec 32) {D : List ℕ} {α : Type} {Q : α → sProp 𝕄} {k : PUnit → Prog (TpuEff nD τ sig (Elt F) Λ₀ .tc) α} :
    iprop(Ctx P K ∗ ow c [.cred true 3, .cred false 3, .recv true 4, .recv false 4, .cred true 4, .cred false 4, .recv true 5, .recv false 5, .recv true 6, .recv false 6] ∗ A5 P c true ∗ A5 P c false ∗ loc P sc c D)
      ⊢ iprop(((ow c [.recv true 4, .recv false 4, .cred true 4, .cred false 4, .recv true 5, .recv false 5, .recv true 6, .recv false 6] ∗ A6 P c true ∗ A6 P c false ∗ loc P sc c (bks c false (bks c true D))) -∗ wp frame (wpE defs₀ 𝒱₀ (c : Thread nD τ) none) Set.univ (k PUnit.unit) Q)
        -∗ wp frame (wpE defs₀ 𝒱₀ (c : Thread nD τ) none) Set.univ ((onRefs (k1_part14 (F := F) a0 h0) c v2 (sc c)) >>= fun _ => (onRefs (k1_part15 (F := F) a0 h0) c v2 (sc c)) >>= fun v393 => (onRefs (k1_part16 (F := F) a0 h0) c v2 (sc c) v393) >>= fun ⟨v423, v428, v429⟩ => (onRefs (k1_part17 (F := F) a0 h0) c v2 (sc c) v423 v428 v429) >>= fun ⟨v461, v463⟩ => (onRefs (k1_part18 (F := F) a0 h0) c v2 v4 v461 v463) >>= fun _ => (onRefs (k1_part19 (F := F) a0 h0) c v4 v6) >>= k) Q) := by
  unfold A5 A6 tk loc
  iintro ⟨#HC, HO, ⟨⟨HsR, HpR, HrR, HwR, HzR⟩, H0R, H1R, HbR, HoR, #HRR⟩, ⟨⟨HsL, HpL, HrL, HwL, HzL⟩, H0L, H1L, HbL, HoL, #HRL⟩, ⟨HM, HN, Hd, He, Hu, Hv, HD⟩⟩ Hk
  simp only [onRefs]
  rw [k1_part14_eq_skeleton, k1_part15_eq_skeleton, k1_part16_eq_skeleton, k1_part17_eq_skeleton, k1_part18_eq_skeleton, k1_part19_eq_skeleton]
  unfold k1_part14_skel k1_part15_skel k1_part16_skel k1_part17_skel k1_part18_skel k1_part19_skel
  simp only [semSignalWord, semWaitWord, smemLoad, Prog.lift, Prog.bind_op, Prog.bind_ret, Prog.pure_eq_ret, Prog.bind_assoc, wp_deviceId]
  iapply (op_blk P sc K c true 1 0 (by decide) (c) (box 1 0 4096) (box_sub _ (by decide) (by decide)) fullShare.right rfl (k1_off4_eq c) 0 rfl ouS rfl _ (fun _ => rfl) (l := [.cred true 3, .cred false 3, .recv true 4, .recv false 4, .cred true 4, .cred false 4, .recv true 5, .recv false 5, .recv true 6, .recv false 6]) (by decide) (by decide) _) $$ [HO HbR Hu Hv HD]
  · isplitr; · iexact HC
    isplitl [HO]; · iexact HO
    isplitl [HbR]; · iexact HbR
    isplitl [Hu]; · iexact Hu
    isplitl [Hv]; · iexact Hv
    iexact HD
  iintro ⟨HO, HbR, Hu, Hv, HD⟩
  iapply (op_blk P sc K c true 1 1 (by decide) (c) (box 1 0 4096) (box_sub _ (by decide) (by decide)) fullShare.right rfl (k1_off5_eq c) 1024 rfl ouS rfl _ (fun _ => rfl) (l := [.cred true 3, .cred false 3, .recv true 4, .recv false 4, .cred true 4, .cred false 4, .recv true 5, .recv false 5, .recv true 6, .recv false 6]) (by decide) (by decide) _) $$ [HO HbR Hu Hv HD]
  · isplitr; · iexact HC
    isplitl [HO]; · iexact HO
    isplitl [HbR]; · iexact HbR
    isplitl [Hu]; · iexact Hu
    isplitl [Hv]; · iexact Hv
    iexact HD
  iintro ⟨HO, HbR, Hu, Hv, HD⟩
  iapply (op_blk P sc K c true 1 2 (by decide) (c) (box 1 0 4096) (box_sub _ (by decide) (by decide)) fullShare.right rfl (k1_off6_eq c) 2048 rfl ouS rfl _ (fun _ => rfl) (l := [.cred true 3, .cred false 3, .recv true 4, .recv false 4, .cred true 4, .cred false 4, .recv true 5, .recv false 5, .recv true 6, .recv false 6]) (by decide) (by decide) _) $$ [HO HbR Hu Hv HD]
  · isplitr; · iexact HC
    isplitl [HO]; · iexact HO
    isplitl [HbR]; · iexact HbR
    isplitl [Hu]; · iexact Hu
    isplitl [Hv]; · iexact Hv
    iexact HD
  iintro ⟨HO, HbR, Hu, Hv, HD⟩
  iapply (op_blk P sc K c true 1 3 (by decide) (c) (box 1 0 4096) (box_sub _ (by decide) (by decide)) fullShare.right rfl (k1_off7_eq c) 3072 rfl ouS rfl _ (fun _ => rfl) (l := [.cred true 3, .cred false 3, .recv true 4, .recv false 4, .cred true 4, .cred false 4, .recv true 5, .recv false 5, .recv true 6, .recv false 6]) (by decide) (by decide) _) $$ [HO HbR Hu Hv HD]
  · isplitr; · iexact HC
    isplitl [HO]; · iexact HO
    isplitl [HbR]; · iexact HbR
    isplitl [Hu]; · iexact Hu
    isplitl [Hv]; · iexact Hv
    iexact HD
  iintro ⟨HO, HbR, Hu, Hv, HD⟩
  iapply (op_blk P sc K c false 1 0 (by decide) (c) (box 1 0 4096) (box_sub _ (by decide) (by decide)) fullShare.right rfl (k1_off8_eq c) 0 rfl ouS rfl _ (fun _ => rfl) (l := [.cred true 3, .cred false 3, .recv true 4, .recv false 4, .cred true 4, .cred false 4, .recv true 5, .recv false 5, .recv true 6, .recv false 6]) (by decide) (by decide) _) $$ [HO HbL Hu Hv HD]
  · isplitr; · iexact HC
    isplitl [HO]; · iexact HO
    isplitl [HbL]; · iexact HbL
    isplitl [Hu]; · iexact Hu
    isplitl [Hv]; · iexact Hv
    iexact HD
  iintro ⟨HO, HbL, Hu, Hv, HD⟩
  iapply (op_blk P sc K c false 1 1 (by decide) (c) (box 1 0 4096) (box_sub _ (by decide) (by decide)) fullShare.right rfl (k1_off9_eq c) 1024 rfl ouS rfl _ (fun _ => rfl) (l := [.cred true 3, .cred false 3, .recv true 4, .recv false 4, .cred true 4, .cred false 4, .recv true 5, .recv false 5, .recv true 6, .recv false 6]) (by decide) (by decide) _) $$ [HO HbL Hu Hv HD]
  · isplitr; · iexact HC
    isplitl [HO]; · iexact HO
    isplitl [HbL]; · iexact HbL
    isplitl [Hu]; · iexact Hu
    isplitl [Hv]; · iexact Hv
    iexact HD
  iintro ⟨HO, HbL, Hu, Hv, HD⟩
  iapply (op_blk P sc K c false 1 2 (by decide) (c) (box 1 0 4096) (box_sub _ (by decide) (by decide)) fullShare.right rfl (k1_off10_eq c) 2048 rfl ouS rfl _ (fun _ => rfl) (l := [.cred true 3, .cred false 3, .recv true 4, .recv false 4, .cred true 4, .cred false 4, .recv true 5, .recv false 5, .recv true 6, .recv false 6]) (by decide) (by decide) _) $$ [HO HbL Hu Hv HD]
  · isplitr; · iexact HC
    isplitl [HO]; · iexact HO
    isplitl [HbL]; · iexact HbL
    isplitl [Hu]; · iexact Hu
    isplitl [Hv]; · iexact Hv
    iexact HD
  iintro ⟨HO, HbL, Hu, Hv, HD⟩
  iapply (op_blk P sc K c false 1 3 (by decide) (c) (box 1 0 4096) (box_sub _ (by decide) (by decide)) fullShare.right rfl (k1_off11_eq c) 3072 rfl ouS rfl _ (fun _ => rfl) (l := [.cred true 3, .cred false 3, .recv true 4, .recv false 4, .cred true 4, .cred false 4, .recv true 5, .recv false 5, .recv true 6, .recv false 6]) (by decide) (by decide) _) $$ [HO HbL Hu Hv HD]
  · isplitr; · iexact HC
    isplitl [HO]; · iexact HO
    isplitl [HbL]; · iexact HbL
    isplitl [Hu]; · iexact Hu
    isplitl [Hv]; · iexact Hv
    iexact HD
  iintro ⟨HO, HbL, Hu, Hv, HD⟩
  iapply (op_sent5 P K c true 3 _ rfl (l := [.cred true 3, .cred false 3, .recv true 4, .recv false 4, .cred true 4, .cred false 4, .recv true 5, .recv false 5, .recv true 6, .recv false 6]) (by decide) (by decide) 1 rfl 2 rfl 1 0 4096 rfl rfl rfl fullShare.left rfl _ rfl (dstw := cut true 1 0 4096 inb_S2x1024x4096_S1x1024x4096_1_0_0 S1024x4096 squeezes_S1x1024x4096_S1024x4096) rfl) $$ [HO H1R]
  · isplitr; · iexact HC
    isplitl [HO]; · iexact HO
    iexact H1R
  iintro ⟨HO, H1R, HlR⟩
  iapply (op_recv5 P K c true 3 _ rfl (l := [.cred true 3, .cred false 3, .recv true 4, .recv false 4, .cred true 4, .cred false 4, .recv true 5, .recv false 5, .recv true 6, .recv false 6]) (by decide) (by decide) 0 0 4096 rfl rfl rfl _ rfl (dstw := cut true 0 0 4096 inb_S2x1024x4096_S1x1024x4096_0_0_0 S1024x4096 squeezes_S1x1024x4096_S1024x4096) rfl) $$ [HO HrR]
  · isplitr; · iexact HC
    isplitl [HO]; · iexact HO
    iexact HrR
  iintro ⟨HO, HrR, Hy, HaR, #HkR⟩
  ihave Hx := (rZs_cons c true 3 [2, 1, 0]) $$ [Hy HzR]
  · isplitl [Hy]; · iexact Hy
    iexact HzR
  irename Hx => HzR
  iapply (op_sent5 P K c false 3 _ rfl (l := [.cred true 3, .cred false 3, .recv true 4, .recv false 4, .cred true 4, .cred false 4, .recv true 5, .recv false 5, .recv true 6, .recv false 6]) (by decide) (by decide) 1 rfl 2 rfl 1 0 4096 rfl rfl rfl fullShare.left rfl _ rfl (dstw := cut false 1 0 4096 inb_S2x1024x4096_S1x1024x4096_1_0_0 S1024x4096 squeezes_S1x1024x4096_S1024x4096) rfl) $$ [HO H1L]
  · isplitr; · iexact HC
    isplitl [HO]; · iexact HO
    iexact H1L
  iintro ⟨HO, H1L, HlL⟩
  iapply (op_recv5 P K c false 3 _ rfl (l := [.cred true 3, .cred false 3, .recv true 4, .recv false 4, .cred true 4, .cred false 4, .recv true 5, .recv false 5, .recv true 6, .recv false 6]) (by decide) (by decide) 0 0 4096 rfl rfl rfl _ rfl (dstw := cut false 0 0 4096 inb_S2x1024x4096_S1x1024x4096_0_0_0 S1024x4096 squeezes_S1x1024x4096_S1024x4096) rfl) $$ [HO HrL]
  · isplitr; · iexact HC
    isplitl [HO]; · iexact HO
    iexact HrL
  iintro ⟨HO, HrL, Hy, HaL, #HkL⟩
  ihave Hx := (rZs_cons c false 3 [2, 1, 0]) $$ [Hy HzL]
  · isplitl [Hy]; · iexact Hy
    iexact HzL
  irename Hx => HzL
  ihave Hf := (free_slot c true) $$ [HlR HbR]
  · isplitl [HlR]; · iexact HlR
    iexact HbR
  iapply (op_give5 P K c true 3 (by decide) 3 rfl 1 rfl _ (Fin.ext (k1_dev17_eq c)) _ rfl) $$ [HO HpR Hf]
  · isplitr; · iexact HC
    isplitl [HO]; · iexact HO
    isplitl [HpR]; · iexact HpR
    isplitl [Hf]; · iexact Hf
    iexact HkR
  iintro ⟨HO, HpR⟩
  ihave Hf := (free_slot c false) $$ [HlL HbL]
  · isplitl [HlL]; · iexact HlL
    iexact HbL
  iapply (op_give5 P K c false 3 (by decide) 3 rfl 1 rfl _ (Fin.ext (k1_dev18_eq c)) _ rfl) $$ [HO HpL Hf]
  · isplitr; · iexact HC
    isplitl [HO]; · iexact HO
    isplitl [HpL]; · iexact HpL
    isplitl [Hf]; · iexact Hf
    iexact HkL
  iintro ⟨HO, HpL⟩
  iapply (op_take P K c true 3 (by decide) _ rfl (l := [.recv true 4, .recv false 4, .cred true 4, .cred false 4, .recv true 5, .recv false 5, .recv true 6, .recv false 6]) (by decide) (by decide)) $$ [HO HwR]
  · isplitr; · iexact HC
    isplitl [HO]; · iexact HO
    iexact HwR
  iintro ⟨HO, HwR, HnR⟩
  iapply (op_take P K c false 3 (by decide) _ rfl (l := [.recv true 4, .recv false 4, .cred true 4, .cred false 4, .recv true 5, .recv false 5, .recv true 6, .recv false 6]) (by decide) (by decide)) $$ [HO HwL]
  · isplitr; · iexact HC
    isplitl [HO]; · iexact HO
    iexact HwL
  iintro ⟨HO, HwL, HnL⟩
  iapply Hk
  isplitl [HO]; · iexact HO
  isplitl [HsR HpR HrR HwR HzR H0R H1R HaR HnR HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HaR]; · iexact HaR
    isplitl [HnR]; · iexact HnR
    isplitl [HoR]; · iexact HoR
    iexact HRR
  isplitl [HsL HpL HrL HwL HzL H0L H1L HaL HnL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HaL]; · iexact HaL
    isplitl [HnL]; · iexact HnL
    isplitl [HoL]; · iexact HoL
    iexact HRL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Body4.lean ====
/-
# The kernel, step 4
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- Step 4: the neighbours' rows, and the first of the last transfers. -/
theorem ph6 {a0 : Memref sig .tc .smem S1 .f32} {h0 : a0.IsWhole} (v2 v4 v6 : BitVec 32) {D : List ℕ} {α : Type} {Q : α → sProp 𝕄} {k : PUnit → Prog (TpuEff nD τ sig (Elt F) Λ₀ .tc) α} :
    iprop(Ctx P K ∗ ow c [.recv true 4, .recv false 4, .cred true 4, .cred false 4, .recv true 5, .recv false 5, .recv true 6, .recv false 6] ∗ A6 P c true ∗ A6 P c false ∗ loc P sc c D)
      ⊢ iprop(((ow c [.recv false 5, .recv true 6, .recv false 6] ∗ A7f P c true ∗ A7 P c false ∗ loc P sc c (bks (fro false c) false (bks (fro true c) true D))) -∗ wp frame (wpE defs₀ 𝒱₀ (c : Thread nD τ) none) Set.univ (k PUnit.unit) Q)
        -∗ wp frame (wpE defs₀ 𝒱₀ (c : Thread nD τ) none) Set.univ ((onRefs (k1_part20 (F := F) a0 h0) c v2 v6 (sc c)) >>= fun ⟨v531, v544⟩ => (onRefs (k1_part21 (F := F) a0 h0) c (sc c) v531 v544) >>= fun ⟨v574, v577, v578⟩ => (onRefs (k1_part22 (F := F) a0 h0) c v2 (sc c) v531 v574 v577 v578) >>= fun v610 => (onRefs (k1_part23 (F := F) a0 h0) c (sc c) v610) >>= fun _ => (onRefs (k1_part24 (F := F) a0 h0) c (sc c) v610) >>= fun v680 => (onRefs (k1_part25 (F := F) a0 h0) c v4 v610 v680) >>= fun _ => (onRefs (k1_part26 (F := F) a0 h0) c v4 v6) >>= k) Q) := by
  unfold A6 A7 A7f tk loc
  iintro ⟨#HC, HO, ⟨⟨HsR, HpR, HrR, HwR, HzR⟩, H0R, H1R, HaR, HnR, HoR, #HRR⟩, ⟨⟨HsL, HpL, HrL, HwL, HzL⟩, H0L, H1L, HaL, HnL, HoL, #HRL⟩, ⟨HM, HN, Hd, He, Hu, Hv, HD⟩⟩ Hk
  simp only [onRefs]
  rw [k1_part20_eq_skeleton, k1_part21_eq_skeleton, k1_part22_eq_skeleton, k1_part23_eq_skeleton, k1_part24_eq_skeleton, k1_part25_eq_skeleton, k1_part26_eq_skeleton]
  unfold k1_part20_skel k1_part21_skel k1_part22_skel k1_part23_skel k1_part24_skel k1_part25_skel k1_part26_skel
  simp only [semSignalWord, semWaitWord, smemLoad, Prog.lift, Prog.bind_op, Prog.bind_ret, Prog.pure_eq_ret, Prog.bind_assoc, wp_deviceId]
  ihave Hx := (hold_share) $$ HaR
  icases Hx with ⟨HlR, HaR⟩
  iapply (op_send5 (hq := squeezes_S1x1024x4096_S1024x4096) P K c true 4 (by decide) 4 rfl _ (Fin.ext (k1_dev19_eq c)) 0 1 rfl rfl rfl rfl fullShare.left rfl (X_pass P true 3 (by decide) c).symm _ _ rfl rfl 0 rfl 2 rfl rfl) $$ [HO HsR H0R HlR HnR HwR]
  · isplitr; · iexact HC
    isplitl [HO]; · iexact HO
    isplitl [HsR]; · iexact HsR
    isplitl [H0R]; · iexact H0R
    isplitl [HlR]; · iexact HlR
    isplitl [HnR]; · iexact HnR
    isplitr; · iexact HRR
    iexact HwR
  iintro ⟨HO, HsR, H0R, HwR⟩
  ihave Hx := (hold_share) $$ HaL
  icases Hx with ⟨HlL, HaL⟩
  iapply (op_send5 (hq := squeezes_S1x1024x4096_S1024x4096) P K c false 4 (by decide) 4 rfl _ (Fin.ext (k1_dev20_eq c)) 0 1 rfl rfl rfl rfl fullShare.left rfl (X_pass P false 3 (by decide) c).symm _ _ rfl rfl 0 rfl 2 rfl rfl) $$ [HO HsL H0L HlL HnL HwL]
  · isplitr; · iexact HC
    isplitl [HO]; · iexact HO
    isplitl [HsL]; · iexact HsL
    isplitl [H0L]; · iexact H0L
    isplitl [HlL]; · iexact HlL
    isplitl [HnL]; · iexact HnL
    isplitr; · iexact HRL
    iexact HwL
  iintro ⟨HO, HsL, H0L, HwL⟩
  iapply (op_blk P sc K c true 0 0 (by decide) (fro true c) (box 0 0 4096) (box_sub _ (by decide) (by decide)) fullShare.right rfl (k1_off12_eq c 0) 0 rfl ouS rfl _ (fun _ => rfl) (l := [.cred true 4, .cred false 4, .recv true 5, .recv false 5, .recv true 6, .recv false 6]) (by decide) (by decide) _) $$ [HO HaR Hu Hv HD]
  · isplitr; · iexact HC
    isplitl [HO]; · iexact HO
    isplitl [HaR]; · iexact HaR
    isplitl [Hu]; · iexact Hu
    isplitl [Hv]; · iexact Hv
    iexact HD
  iintro ⟨HO, HaR, Hu, Hv, HD⟩
  iapply (op_blk P sc K c true 0 1 (by decide) (fro true c) (box 0 0 4096) (box_sub _ (by decide) (by decide)) fullShare.right rfl (k1_off13_eq c 0) 1024 rfl ouS rfl _ (fun _ => rfl) (l := [.cred true 4, .cred false 4, .recv true 5, .recv false 5, .recv true 6, .recv false 6]) (by decide) (by decide) _) $$ [HO HaR Hu Hv HD]
  · isplitr; · iexact HC
    isplitl [HO]; · iexact HO
    isplitl [HaR]; · iexact HaR
    isplitl [Hu]; · iexact Hu
    isplitl [Hv]; · iexact Hv
    iexact HD
  iintro ⟨HO, HaR, Hu, Hv, HD⟩
  iapply (op_blk P sc K c true 0 2 (by decide) (fro true c) (box 0 0 4096) (box_sub _ (by decide) (by decide)) fullShare.right rfl (k1_off14_eq c 0) 2048 rfl ouS rfl _ (fun _ => rfl) (l := [.cred true 4, .cred false 4, .recv true 5, .recv false 5, .recv true 6, .recv false 6]) (by decide) (by decide) _) $$ [HO HaR Hu Hv HD]
  · isplitr; · iexact HC
    isplitl [HO]; · iexact HO
    isplitl [HaR]; · iexact HaR
    isplitl [Hu]; · iexact Hu
    isplitl [Hv]; · iexact Hv
    iexact HD
  iintro ⟨HO, HaR, Hu, Hv, HD⟩
  iapply (op_blk P sc K c true 0 3 (by decide) (fro true c) (box 0 0 4096) (box_sub _ (by decide) (by decide)) fullShare.right rfl (k1_off15_eq c 0) 3072 rfl ouS rfl _ (fun _ => rfl) (l := [.cred true 4, .cred false 4, .recv true 5, .recv false 5, .recv true 6, .recv false 6]) (by decide) (by decide) _) $$ [HO HaR Hu Hv HD]
  · isplitr; · iexact HC
    isplitl [HO]; · iexact HO
    isplitl [HaR]; · iexact HaR
    isplitl [Hu]; · iexact Hu
    isplitl [Hv]; · iexact Hv
    iexact HD
  iintro ⟨HO, HaR, Hu, Hv, HD⟩
  iapply (op_blk P sc K c false 0 0 (by decide) (fro false c) (box 0 0 4096) (box_sub _ (by decide) (by decide)) fullShare.right rfl (k1_off16_eq c 0) 0 rfl ouS rfl _ (fun _ => rfl) (l := [.cred true 4, .cred false 4, .recv true 5, .recv false 5, .recv true 6, .recv false 6]) (by decide) (by decide) _) $$ [HO HaL Hu Hv HD]
  · isplitr; · iexact HC
    isplitl [HO]; · iexact HO
    isplitl [HaL]; · iexact HaL
    isplitl [Hu]; · iexact Hu
    isplitl [Hv]; · iexact Hv
    iexact HD
  iintro ⟨HO, HaL, Hu, Hv, HD⟩
  iapply (op_blk P sc K c false 0 1 (by decide) (fro false c) (box 0 0 4096) (box_sub _ (by decide) (by decide)) fullShare.right rfl (k1_off17_eq c 0) 1024 rfl ouS rfl _ (fun _ => rfl) (l := [.cred true 4, .cred false 4, .recv true 5, .recv false 5, .recv true 6, .recv false 6]) (by decide) (by decide) _) $$ [HO HaL Hu Hv HD]
  · isplitr; · iexact HC
    isplitl [HO]; · iexact HO
    isplitl [HaL]; · iexact HaL
    isplitl [Hu]; · iexact Hu
    isplitl [Hv]; · iexact Hv
    iexact HD
  iintro ⟨HO, HaL, Hu, Hv, HD⟩
  iapply (op_blk P sc K c false 0 2 (by decide) (fro false c) (box 0 0 4096) (box_sub _ (by decide) (by decide)) fullShare.right rfl (k1_off18_eq c 0) 2048 rfl ouS rfl _ (fun _ => rfl) (l := [.cred true 4, .cred false 4, .recv true 5, .recv false 5, .recv true 6, .recv false 6]) (by decide) (by decide) _) $$ [HO HaL Hu Hv HD]
  · isplitr; · iexact HC
    isplitl [HO]; · iexact HO
    isplitl [HaL]; · iexact HaL
    isplitl [Hu]; · iexact Hu
    isplitl [Hv]; · iexact Hv
    iexact HD
  iintro ⟨HO, HaL, Hu, Hv, HD⟩
  iapply (op_blk P sc K c false 0 3 (by decide) (fro false c) (box 0 0 4096) (box_sub _ (by decide) (by decide)) fullShare.right rfl (k1_off19_eq c 0) 3072 rfl ouS rfl _ (fun _ => rfl) (l := [.cred true 4, .cred false 4, .recv true 5, .recv false 5, .recv true 6, .recv false 6]) (by decide) (by decide) _) $$ [HO HaL Hu Hv HD]
  · isplitr; · iexact HC
    isplitl [HO]; · iexact HO
    isplitl [HaL]; · iexact HaL
    isplitl [Hu]; · iexact Hu
    isplitl [Hv]; · iexact Hv
    iexact HD
  iintro ⟨HO, HaL, Hu, Hv, HD⟩
  iapply (op_sent5 P K c true 4 _ rfl (l := [.cred true 4, .cred false 4, .recv true 5, .recv false 5, .recv true 6, .recv false 6]) (by decide) (by decide) 0 rfl 3 rfl 0 0 4096 rfl rfl rfl fullShare.left rfl (X P true 3 (fro true c)) (X_pass P true 3 (by decide) c).symm (dstw := cut true 0 0 4096 inb_S2x1024x4096_S1x1024x4096_0_0_0 S1024x4096 squeezes_S1x1024x4096_S1024x4096) rfl) $$ [HO H0R]
  · isplitr; · iexact HC
    isplitl [HO]; · iexact HO
    iexact H0R
  iintro ⟨HO, H0R, HlR⟩
  iapply (op_recv5 P K c true 4 _ rfl (l := [.cred true 4, .cred false 4, .recv true 5, .recv false 5, .recv true 6, .recv false 6]) (by decide) (by decide) 1 0 4096 rfl rfl rfl (X P true 3 (fro true (fro true c))) (X_pass P true 3 (by decide) (fro true c)).symm (dstw := cut true 1 0 4096 inb_S2x1024x4096_S1x1024x4096_1_0_0 S1024x4096 squeezes_S1x1024x4096_S1024x4096) rfl) $$ [HO HrR]
  · isplitr; · iexact HC
    isplitl [HO]; · iexact HO
    iexact HrR
  iintro ⟨HO, HrR, Hy, HbR, #HkR⟩
  ihave Hx := (rZs_cons c true 4 [3, 2, 1, 0]) $$ [Hy HzR]
  · isplitl [Hy]; · iexact Hy
    iexact HzR
  irename Hx => HzR
  iapply (op_sent5 P K c false 4 _ rfl (l := [.cred true 4, .cred false 4, .recv true 5, .recv false 5, .recv true 6, .recv false 6]) (by decide) (by decide) 0 rfl 3 rfl 0 0 4096 rfl rfl rfl fullShare.left rfl (X P false 3 (fro false c)) (X_pass P false 3 (by decide) c).symm (dstw := cut false 0 0 4096 inb_S2x1024x4096_S1x1024x4096_0_0_0 S1024x4096 squeezes_S1x1024x4096_S1024x4096) rfl) $$ [HO H0L]
  · isplitr; · iexact HC
    isplitl [HO]; · iexact HO
    iexact H0L
  iintro ⟨HO, H0L, HlL⟩
  iapply (op_recv5 P K c false 4 _ rfl (l := [.cred true 4, .cred false 4, .recv true 5, .recv false 5, .recv true 6, .recv false 6]) (by decide) (by decide) 1 0 4096 rfl rfl rfl (X P false 3 (fro false (fro false c))) (X_pass P false 3 (by decide) (fro false c)).symm (dstw := cut false 1 0 4096 inb_S2x1024x4096_S1x1024x4096_1_0_0 S1024x4096 squeezes_S1x1024x4096_S1024x4096) rfl) $$ [HO HrL]
  · isplitr; · iexact HC
    isplitl [HO]; · iexact HO
    iexact HrL
  iintro ⟨HO, HrL, Hy, HbL, #HkL⟩
  ihave Hx := (rZs_cons c false 4 [3, 2, 1, 0]) $$ [Hy HzL]
  · isplitl [Hy]; · iexact Hy
    iexact HzL
  irename Hx => HzL
  ihave Hf := (free_slot c true) $$ [HlR HaR]
  · isplitl [HlR]; · iexact HlR
    iexact HaR
  iapply (op_give5 P K c true 4 (by decide) 4 rfl 0 rfl _ (Fin.ext (k1_dev21_eq c)) _ rfl) $$ [HO HpR Hf]
  · isplitr; · iexact HC
    isplitl [HO]; · iexact HO
    isplitl [HpR]; · iexact HpR
    isplitl [Hf]; · iexact Hf
    iexact HkR
  iintro ⟨HO, HpR⟩
  ihave Hf := (free_slot c false) $$ [HlL HaL]
  · isplitl [HlL]; · iexact HlL
    iexact HaL
  iapply (op_give5 P K c false 4 (by decide) 4 rfl 0 rfl _ (Fin.ext (k1_dev22_eq c)) _ rfl) $$ [HO HpL Hf]
  · isplitr; · iexact HC
    isplitl [HO]; · iexact HO
    isplitl [HpL]; · iexact HpL
    isplitl [Hf]; · iexact Hf
    iexact HkL
  iintro ⟨HO, HpL⟩
  iapply (op_take P K c true 4 (by decide) _ rfl (l := [.recv true 5, .recv false 5, .recv true 6, .recv false 6]) (by decide) (by decide)) $$ [HO HwR]
  · isplitr; · iexact HC
    isplitl [HO]; · iexact HO
    iexact HwR
  iintro ⟨HO, HwR, HnR⟩
  iapply (op_take P K c false 4 (by decide) _ rfl (l := [.recv true 5, .recv false 5, .recv true 6, .recv false 6]) (by decide) (by decide)) $$ [HO HwL]
  · isplitr; · iexact HC
    isplitl [HO]; · iexact HO
    iexact HwL
  iintro ⟨HO, HwL, HnL⟩
  ihave Hx := (slot_halves c true 1 fullShare _) $$ HbR
  icases Hx with ⟨Hb5R, Hb6R⟩
  ihave Hx := (slot_any_halves true 0 fullShare (dn true c)) $$ HnR
  icases Hx with ⟨Hn5R, Hn6R⟩
  ihave Hx := (hold_share) $$ Hb5R
  icases Hx with ⟨HlR, Hb5R⟩
  iapply (op_sendH (hq := squeezes_S1x1024x2048_S1024x2048) P K c true 5 (by decide) _ (Fin.ext (k1_dev23_eq c)) 1 0 0 2048 (by decide) rfl rfl rfl rfl fullShare.left rfl ((X_pass P true 4 (by decide) c).trans (X_pass P true 3 (by decide) (fro true c))).symm _ _ rfl rfl 1 rfl 2 rfl rfl) $$ [HO HsR H1R HlR Hn5R]
  · isplitr; · iexact HC
    isplitl [HO]; · iexact HO
    isplitl [HsR]; · iexact HsR
    isplitl [H1R]; · iexact H1R
    isplitl [HlR]; · iexact HlR
    isplitl [Hn5R]; · iexact Hn5R
    iexact HRR
  iintro ⟨HO, HsR, H1R⟩
  iapply Hk
  isplitl [HO]; · iexact HO
  isplitl [HsR HpR HrR HwR HzR H0R H1R Hb5R Hb6R Hn6R HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [Hb5R]; · iexact Hb5R
    isplitl [Hb6R]; · iexact Hb6R
    isplitl [Hn6R]; · iexact Hn6R
    isplitl [HoR]; · iexact HoR
    iexact HRR
  isplitl [HsL HpL HrL HwL HzL H0L H1L HbL HnL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HbL]; · iexact HbL
    isplitl [HnL]; · iexact HnL
    isplitl [HoL]; · iexact HoL
    iexact HRL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Body5.lean ====
/-
# The kernel, step 5
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- Step 5: the rows from two devices away, both halves of the last transfers on the way. -/
theorem ph7 {a0 : Memref sig .tc .smem S1 .f32} {h0 : a0.IsWhole} (v2 v4 v6 : BitVec 32) {D : List ℕ} {α : Type} {Q : α → sProp 𝕄} {k : BitVec 32 → BitVec 32 → Prog (TpuEff nD τ sig (Elt F) Λ₀ .tc) α} :
    iprop(Ctx P K ∗ ow c [.recv false 5, .recv true 6, .recv false 6] ∗ A7f P c true ∗ A7 P c false ∗ loc P sc c D)
      ⊢ iprop(((ow c [] ∗ A8 P c true ∗ A8 P c false ∗ loc P sc c (bks (fro false (fro false c)) false (bks (fro true (fro true c)) true D))) -∗ wp frame (wpE defs₀ 𝒱₀ (c : Thread nD τ) none) Set.univ (k (Scalar.remsi (Scalar.addi v2 1#32) 4#32) (Scalar.remsi (Scalar.addi v2 3#32) 4#32)) Q)
        -∗ wp frame (wpE defs₀ 𝒱₀ (c : Thread nD τ) none) Set.univ ((onRefs (k1_part27 (F := F) a0 h0) c v4 v6) >>= fun _ => (onRefs (k1_part28 (F := F) a0 h0) c v2 (sc c)) >>= fun ⟨v762, v786, v791, v792⟩ => (onRefs (k1_part29 (F := F) a0 h0) c (sc c) v762 v786 v791 v792) >>= fun ⟨v824, v826⟩ => (onRefs (k1_part30 (F := F) a0 h0) c v2 (sc c) v762 v824 v826) >>= fun v841 => (onRefs (k1_part31 (F := F) a0 h0) c (sc c) v841) >>= fun c1024 => (onRefs (k1_part32 (F := F) a0 h0) c v2 (sc c) v841 c1024) >>= fun ⟨v919, v921⟩ => k v919 v921) Q) := by
  unfold A7f A7 A8 tk loc
  iintro ⟨#HC, HO, ⟨⟨HsR, HpR, HrR, HwR, HzR⟩, H0R, H1R, Hb5R, Hb6R, Hn6R, HoR, #HRR⟩, ⟨⟨HsL, HpL, HrL, HwL, HzL⟩, H0L, H1L, HbL, HnL, HoL, #HRL⟩, ⟨HM, HN, Hd, He, Hu, Hv, HD⟩⟩ Hk
  simp only [onRefs]
  rw [k1_part27_eq_skeleton, k1_part28_eq_skeleton, k1_part29_eq_skeleton, k1_part30_eq_skeleton, k1_part31_eq_skeleton, k1_part32_eq_skeleton]
  unfold k1_part27_skel k1_part28_skel k1_part29_skel k1_part30_skel k1_part31_skel k1_part32_skel
  simp only [semSignalWord, semWaitWord, smemLoad, Prog.lift, Prog.bind_op, Prog.bind_ret, Prog.pure_eq_ret, Prog.bind_assoc, wp_deviceId]
  ihave Hx := (slot_halves c false 1 fullShare _) $$ HbL
  icases Hx with ⟨Hb5L, Hb6L⟩
  ihave Hx := (slot_any_halves false 0 fullShare (dn false c)) $$ HnL
  icases Hx with ⟨Hn5L, Hn6L⟩
  ihave Hx := (hold_share) $$ Hb5L
  icases Hx with ⟨HlL, Hb5L⟩
  iapply (op_sendH (hq := squeezes_S1x1024x2048_S1024x2048) P K c false 5 (by decide) _ (Fin.ext (k1_dev24_eq c)) 1 0 0 2048 (by decide) rfl rfl rfl rfl fullShare.left rfl ((X_pass P false 4 (by decide) c).trans (X_pass P false 3 (by decide) (fro false c))).symm _ _ rfl rfl 1 rfl 2 rfl rfl) $$ [HO HsL H1L HlL Hn5L]
  · isplitr; · iexact HC
    isplitl [HO]; · iexact HO
    isplitl [HsL]; · iexact HsL
    isplitl [H1L]; · iexact H1L
    isplitl [HlL]; · iexact HlL
    isplitl [Hn5L]; · iexact Hn5L
    iexact HRL
  iintro ⟨HO, HsL, H1L⟩
  ihave Hx := (hold_share) $$ Hb6R
  icases Hx with ⟨HlR, Hb6R⟩
  iapply (op_sendH (hq := squeezes_S1x1024x2048_S1024x2048) P K c true 6 (by decide) _ (Fin.ext (k1_dev25_eq c)) 1 0 2048 2048 (by decide) rfl rfl rfl rfl fullShare.left rfl ((X_pass P true 4 (by decide) c).trans (X_pass P true 3 (by decide) (fro true c))).symm _ _ rfl rfl 0 rfl 3 rfl rfl) $$ [HO HsR H0R HlR Hn6R]
  · isplitr; · iexact HC
    isplitl [HO]; · iexact HO
    isplitl [HsR]; · iexact HsR
    isplitl [H0R]; · iexact H0R
    isplitl [HlR]; · iexact HlR
    isplitl [Hn6R]; · iexact Hn6R
    iexact HRR
  iintro ⟨HO, HsR, H0R⟩
  ihave Hx := (hold_share) $$ Hb6L
  icases Hx with ⟨HlL, Hb6L⟩
  iapply (op_sendH (hq := squeezes_S1x1024x2048_S1024x2048) P K c false 6 (by decide) _ (Fin.ext (k1_dev26_eq c)) 1 0 2048 2048 (by decide) rfl rfl rfl rfl fullShare.left rfl ((X_pass P false 4 (by decide) c).trans (X_pass P false 3 (by decide) (fro false c))).symm _ _ rfl rfl 0 rfl 3 rfl rfl) $$ [HO HsL H0L HlL Hn6L]
  · isplitr; · iexact HC
    isplitl [HO]; · iexact HO
    isplitl [HsL]; · iexact HsL
    isplitl [H0L]; · iexact H0L
    isplitl [HlL]; · iexact HlL
    isplitl [Hn6L]; · iexact Hn6L
    iexact HRL
  iintro ⟨HO, HsL, H0L⟩
  iapply (op_blk P sc K c true 1 0 (by decide) (fro true (fro true c)) (box 1 0 2048) (box_sub _ (by decide) (by decide)) fullShare.right rfl ((k1_off12_eq c 1).trans (congrArg (fun n => ![1024 * n, (if true then 0 else 4096) + 1024 * 0]) (fro2_true c))) 0 rfl ouS rfl _ (fun _ => rfl) (l := []) (by decide) (by decide) _) $$ [HO Hb5R Hu Hv HD]
  · isplitr; · iexact HC
    isplitl [HO]; · iexact HO
    isplitl [Hb5R]; · iexact Hb5R
    isplitl [Hu]; · iexact Hu
    isplitl [Hv]; · iexact Hv
    iexact HD
  iintro ⟨HO, Hb5R, Hu, Hv, HD⟩
  iapply (op_blk P sc K c true 1 1 (by decide) (fro true (fro true c)) (box 1 0 2048) (box_sub _ (by decide) (by decide)) fullShare.right rfl ((k1_off13_eq c 1).trans (congrArg (fun n => ![1024 * n, (if true then 0 else 4096) + 1024 * 1]) (fro2_true c))) 1024 rfl ouS rfl _ (fun _ => rfl) (l := []) (by decide) (by decide) _) $$ [HO Hb5R Hu Hv HD]
  · isplitr; · iexact HC
    isplitl [HO]; · iexact HO
    isplitl [Hb5R]; · iexact Hb5R
    isplitl [Hu]; · iexact Hu
    isplitl [Hv]; · iexact Hv
    iexact HD
  iintro ⟨HO, Hb5R, Hu, Hv, HD⟩
  iapply (op_blk P sc K c true 1 2 (by decide) (fro true (fro true c)) (box 1 2048 2048) (box_sub _ (by decide) (by decide)) fullShare.right rfl ((k1_off14_eq c 1).trans (congrArg (fun n => ![1024 * n, (if true then 0 else 4096) + 1024 * 2]) (fro2_true c))) 2048 rfl ouS rfl _ (fun _ => rfl) (l := []) (by decide) (by decide) _) $$ [HO Hb6R Hu Hv HD]
  · isplitr; · iexact HC
    isplitl [HO]; · iexact HO
    isplitl [Hb6R]; · iexact Hb6R
    isplitl [Hu]; · iexact Hu
    isplitl [Hv]; · iexact Hv
    iexact HD
  iintro ⟨HO, Hb6R, Hu, Hv, HD⟩
  iapply (op_blk P sc K c true 1 3 (by decide) (fro true (fro true c)) (box 1 2048 2048) (box_sub _ (by decide) (by decide)) fullShare.right rfl ((k1_off15_eq c 1).trans (congrArg (fun n => ![1024 * n, (if true then 0 else 4096) + 1024 * 3]) (fro2_true c))) 3072 rfl ouS rfl _ (fun _ => rfl) (l := []) (by decide) (by decide) _) $$ [HO Hb6R Hu Hv HD]
  · isplitr; · iexact HC
    isplitl [HO]; · iexact HO
    isplitl [Hb6R]; · iexact Hb6R
    isplitl [Hu]; · iexact Hu
    isplitl [Hv]; · iexact Hv
    iexact HD
  iintro ⟨HO, Hb6R, Hu, Hv, HD⟩
  iapply (op_blk P sc K c false 1 0 (by decide) (fro false (fro false c)) (box 1 0 2048) (box_sub _ (by decide) (by decide)) fullShare.right rfl ((k1_off16_eq c 1).trans (congrArg (fun n => ![1024 * n, (if false then 0 else 4096) + 1024 * 0]) (fro2_false c))) 0 rfl ouS rfl _ (fun _ => rfl) (l := []) (by decide) (by decide) _) $$ [HO Hb5L Hu Hv HD]
  · isplitr; · iexact HC
    isplitl [HO]; · iexact HO
    isplitl [Hb5L]; · iexact Hb5L
    isplitl [Hu]; · iexact Hu
    isplitl [Hv]; · iexact Hv
    iexact HD
  iintro ⟨HO, Hb5L, Hu, Hv, HD⟩
  iapply (op_blk P sc K c false 1 1 (by decide) (fro false (fro false c)) (box 1 0 2048) (box_sub _ (by decide) (by decide)) fullShare.right rfl ((k1_off17_eq c 1).trans (congrArg (fun n => ![1024 * n, (if false then 0 else 4096) + 1024 * 1]) (fro2_false c))) 1024 rfl ouS rfl _ (fun _ => rfl) (l := []) (by decide) (by decide) _) $$ [HO Hb5L Hu Hv HD]
  · isplitr; · iexact HC
    isplitl [HO]; · iexact HO
    isplitl [Hb5L]; · iexact Hb5L
    isplitl [Hu]; · iexact Hu
    isplitl [Hv]; · iexact Hv
    iexact HD
  iintro ⟨HO, Hb5L, Hu, Hv, HD⟩
  iapply (op_blk P sc K c false 1 2 (by decide) (fro false (fro false c)) (box 1 2048 2048) (box_sub _ (by decide) (by decide)) fullShare.right rfl ((k1_off18_eq c 1).trans (congrArg (fun n => ![1024 * n, (if false then 0 else 4096) + 1024 * 2]) (fro2_false c))) 2048 rfl ouS rfl _ (fun _ => rfl) (l := []) (by decide) (by decide) _) $$ [HO Hb6L Hu Hv HD]
  · isplitr; · iexact HC
    isplitl [HO]; · iexact HO
    isplitl [Hb6L]; · iexact Hb6L
    isplitl [Hu]; · iexact Hu
    isplitl [Hv]; · iexact Hv
    iexact HD
  iintro ⟨HO, Hb6L, Hu, Hv, HD⟩
  iapply (op_blk P sc K c false 1 3 (by decide) (fro false (fro false c)) (box 1 2048 2048) (box_sub _ (by decide) (by decide)) fullShare.right rfl ((k1_off19_eq c 1).trans (congrArg (fun n => ![1024 * n, (if false then 0 else 4096) + 1024 * 3]) (fro2_false c))) 3072 rfl ouS rfl _ (fun _ => rfl) (l := []) (by decide) (by decide) _) $$ [HO Hb6L Hu Hv HD]
  · isplitr; · iexact HC
    isplitl [HO]; · iexact HO
    isplitl [Hb6L]; · iexact Hb6L
    isplitl [Hu]; · iexact Hu
    isplitl [Hv]; · iexact Hv
    iexact HD
  iintro ⟨HO, Hb6L, Hu, Hv, HD⟩
  iapply Hk
  isplitl [HO]; · iexact HO
  isplitl [HsR HpR HrR HwR HzR H0R H1R Hb5R Hb6R HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [Hb5R]; · iexact Hb5R
    isplitl [Hb6R]; · iexact Hb6R
    iexact HoR
  isplitl [HsL HpL HrL HwL HzL H0L H1L Hb5L Hb6L HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [Hb5L]; · iexact Hb5L
    isplitl [Hb6L]; · iexact Hb6L
    iexact HoL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Body6.lean ====
/-
# The kernel, the last arrivals
-/
module

public import proofs.«01_k».proof.Proof.KernelIdeal.State
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

set_option maxRecDepth 20000 in
set_option maxHeartbeats 4000000 in
/-- The last arrivals, and all but the last block of the result. -/
theorem ph8 {a0 : Memref sig .tc .smem S1 .f32} {h0 : a0.IsWhole} (v4 v6 v919 v921 : BitVec 32) {D : List ℕ} {α : Type} {Q : α → sProp 𝕄} {k : PUnit → Prog (TpuEff nD τ sig (Elt F) Λ₀ .tc) α} :
    iprop(Ctx P K ∗ ow c [] ∗ A8 P c true ∗ A8 P c false ∗ loc P sc c D)
      ⊢ iprop(((ow c [] ∗ A9 c true ∗ A9h P c false ∗ loc P sc c (bk (fro false (fro false (fro false c))) false 2 :: bk (fro true (fro true (fro true c))) true 3 :: bk (fro true (fro true (fro true c))) true 2 :: bk (fro false (fro false (fro false c))) false 1 :: bk (fro false (fro false (fro false c))) false 0 :: bk (fro true (fro true (fro true c))) true 1 :: bk (fro true (fro true (fro true c))) true 0 :: D)) -∗ wp frame (wpE defs₀ 𝒱₀ (c : Thread nD τ) none) Set.univ (k PUnit.unit) Q)
        -∗ wp frame (wpE defs₀ 𝒱₀ (c : Thread nD τ) none) Set.univ ((onRefs (k1_part33 (F := F) a0 h0) v4 v6) >>= fun _ => (onRefs (k1_part34 (F := F) a0 h0) c (sc c) v919) >>= fun _ => (onRefs (k1_part35 (F := F) a0 h0) c (sc c) v921) >>= fun v1019 => (onRefs (k1_part36 (F := F) a0 h0) c v4 v921 v1019) >>= fun _ => (onRefs (k1_part37 (F := F) a0 h0) c v6 (sc c) v919) >>= fun ⟨v1075, v1076⟩ => (onRefs (k1_part38 (F := F) a0 h0) c (sc c) v919 v921 v1075 v1076) >>= k) Q) := by
  unfold A8 A9 A9h tk loc
  iintro ⟨#HC, HO, ⟨⟨HsR, HpR, HrR, HwR, HzR⟩, H0R, H1R, Hb5R, Hb6R, HoR⟩, ⟨⟨HsL, HpL, HrL, HwL, HzL⟩, H0L, H1L, Hb5L, Hb6L, HoL⟩, ⟨HM, HN, Hd, He, Hu, Hv, HD⟩⟩ Hk
  simp only [onRefs]
  rw [k1_part33_eq_skeleton, k1_part34_eq_skeleton, k1_part35_eq_skeleton, k1_part36_eq_skeleton, k1_part37_eq_skeleton, k1_part38_eq_skeleton]
  unfold k1_part33_skel k1_part34_skel k1_part35_skel k1_part36_skel k1_part37_skel k1_part38_skel
  simp only [semSignalWord, semWaitWord, smemLoad, Prog.lift, Prog.bind_op, Prog.bind_ret, Prog.pure_eq_ret, Prog.bind_assoc, wp_deviceId]
  iapply (op_sent5 P K c true 5 _ rfl (l := []) (by decide) (by decide) 1 rfl 3 rfl 1 0 2048 rfl rfl rfl fullShare.left rfl (X P true 3 (fro true (fro true c))) ((X_pass P true 4 (by decide) c).trans (X_pass P true 3 (by decide) (fro true c))).symm (dstw := cut true 1 0 2048 inb_S2x1024x4096_S1x1024x2048_1_0_0 S1024x2048 squeezes_S1x1024x2048_S1024x2048) rfl) $$ [HO H1R]
  · isplitr; · iexact HC
    isplitl [HO]; · iexact HO
    iexact H1R
  iintro ⟨HO, H1R, Hl5R⟩
  iapply (op_recv5 P K c true 5 _ rfl (l := []) (by decide) (by decide) 0 0 2048 rfl rfl rfl (X P true 3 (fro true (fro true (fro true c)))) ((X_pass P true 4 (by decide) (fro true c)).trans (X_pass P true 3 (by decide) (fro true (fro true c)))).symm (dstw := cut true 0 0 2048 inb_S2x1024x4096_S1x1024x2048_0_0_0 S1024x2048 squeezes_S1x1024x2048_S1024x2048) rfl) $$ [HO HrR]
  · isplitr; · iexact HC
    isplitl [HO]; · iexact HO
    iexact HrR
  iintro ⟨HO, HrR, Hy, Ha5R, #HkR⟩
  ihave Hx := (rZs_cons c true 5 [4, 3, 2, 1, 0]) $$ [Hy HzR]
  · isplitl [Hy]; · iexact Hy
    iexact HzR
  irename Hx => HzR
  iapply (op_sent5 P K c false 5 _ rfl (l := []) (by decide) (by decide) 1 rfl 3 rfl 1 0 2048 rfl rfl rfl fullShare.left rfl (X P false 3 (fro false (fro false c))) ((X_pass P false 4 (by decide) c).trans (X_pass P false 3 (by decide) (fro false c))).symm (dstw := cut false 1 0 2048 inb_S2x1024x4096_S1x1024x2048_1_0_0 S1024x2048 squeezes_S1x1024x2048_S1024x2048) rfl) $$ [HO H1L]
  · isplitr; · iexact HC
    isplitl [HO]; · iexact HO
    iexact H1L
  iintro ⟨HO, H1L, Hl5L⟩
  iapply (op_recv5 P K c false 5 _ rfl (l := []) (by decide) (by decide) 0 0 2048 rfl rfl rfl (X P false 3 (fro false (fro false (fro false c)))) ((X_pass P false 4 (by decide) (fro false c)).trans (X_pass P false 3 (by decide) (fro false (fro false c)))).symm (dstw := cut false 0 0 2048 inb_S2x1024x4096_S1x1024x2048_0_0_0 S1024x2048 squeezes_S1x1024x2048_S1024x2048) rfl) $$ [HO HrL]
  · isplitr; · iexact HC
    isplitl [HO]; · iexact HO
    iexact HrL
  iintro ⟨HO, HrL, Hy, Ha5L, #HkL⟩
  ihave Hx := (rZs_cons c false 5 [4, 3, 2, 1, 0]) $$ [Hy HzL]
  · isplitl [Hy]; · iexact Hy
    iexact HzL
  irename Hx => HzL
  iapply (op_blk P sc K c true 0 0 (by decide) (fro true (fro true (fro true c))) (box 0 0 2048) (box_sub _ (by decide) (by decide)) fullShare rfl ((k1_off20_eq c).trans (congrArg (fun n => ![1024 * n, (if true then 0 else 4096) + 1024 * 0]) (fro3_true c))) 0 rfl ouS rfl _ (fun _ => rfl) (l := []) (by decide) (by decide) _) $$ [HO Ha5R Hu Hv HD]
  · isplitr; · iexact HC
    isplitl [HO]; · iexact HO
    isplitl [Ha5R]; · iexact Ha5R
    isplitl [Hu]; · iexact Hu
    isplitl [Hv]; · iexact Hv
    iexact HD
  iintro ⟨HO, Ha5R, Hu, Hv, HD⟩
  iapply (op_blk P sc K c true 0 1 (by decide) (fro true (fro true (fro true c))) (box 0 0 2048) (box_sub _ (by decide) (by decide)) fullShare rfl ((k1_off21_eq c).trans (congrArg (fun n => ![1024 * n, (if true then 0 else 4096) + 1024 * 1]) (fro3_true c))) 1024 rfl ouS rfl _ (fun _ => rfl) (l := []) (by decide) (by decide) _) $$ [HO Ha5R Hu Hv HD]
  · isplitr; · iexact HC
    isplitl [HO]; · iexact HO
    isplitl [Ha5R]; · iexact Ha5R
    isplitl [Hu]; · iexact Hu
    isplitl [Hv]; · iexact Hv
    iexact HD
  iintro ⟨HO, Ha5R, Hu, Hv, HD⟩
  iapply (op_blk P sc K c false 0 0 (by decide) (fro false (fro false (fro false c))) (box 0 0 2048) (box_sub _ (by decide) (by decide)) fullShare rfl ((k1_off22_eq c).trans (congrArg (fun n => ![1024 * n, (if false then 0 else 4096) + 1024 * 0]) (fro3_false c))) 0 rfl ouS rfl _ (fun _ => rfl) (l := []) (by decide) (by decide) _) $$ [HO Ha5L Hu Hv HD]
  · isplitr; · iexact HC
    isplitl [HO]; · iexact HO
    isplitl [Ha5L]; · iexact Ha5L
    isplitl [Hu]; · iexact Hu
    isplitl [Hv]; · iexact Hv
    iexact HD
  iintro ⟨HO, Ha5L, Hu, Hv, HD⟩
  iapply (op_blk P sc K c false 0 1 (by decide) (fro false (fro false (fro false c))) (box 0 0 2048) (box_sub _ (by decide) (by decide)) fullShare rfl ((k1_off23_eq c).trans (congrArg (fun n => ![1024 * n, (if false then 0 else 4096) + 1024 * 1]) (fro3_false c))) 1024 rfl ouS rfl _ (fun _ => rfl) (l := []) (by decide) (by decide) _) $$ [HO Ha5L Hu Hv HD]
  · isplitr; · iexact HC
    isplitl [HO]; · iexact HO
    isplitl [Ha5L]; · iexact Ha5L
    isplitl [Hu]; · iexact Hu
    isplitl [Hv]; · iexact Hv
    iexact HD
  iintro ⟨HO, Ha5L, Hu, Hv, HD⟩
  iapply (op_sent5 P K c true 6 _ rfl (l := []) (by decide) (by decide) 0 rfl 4 rfl 1 2048 2048 rfl rfl rfl fullShare.left rfl (X P true 3 (fro true (fro true c))) ((X_pass P true 4 (by decide) c).trans (X_pass P true 3 (by decide) (fro true c))).symm (dstw := cut true 1 2048 2048 inb_S2x1024x4096_S1x1024x2048_1_0_2048 S1024x2048 squeezes_S1x1024x2048_S1024x2048) rfl) $$ [HO H0R]
  · isplitr; · iexact HC
    isplitl [HO]; · iexact HO
    iexact H0R
  iintro ⟨HO, H0R, Hl6R⟩
  iapply (op_recv5 P K c true 6 _ rfl (l := []) (by decide) (by decide) 0 2048 2048 rfl rfl rfl (X P true 3 (fro true (fro true (fro true c)))) ((X_pass P true 4 (by decide) (fro true c)).trans (X_pass P true 3 (by decide) (fro true (fro true c)))).symm (dstw := cut true 0 2048 2048 inb_S2x1024x4096_S1x1024x2048_0_0_2048 S1024x2048 squeezes_S1x1024x2048_S1024x2048) rfl) $$ [HO HrR]
  · isplitr; · iexact HC
    isplitl [HO]; · iexact HO
    iexact HrR
  iintro ⟨HO, HrR, Hy, Ha6R, #HkR⟩
  ihave Hx := (rZs_cons c true 6 [5, 4, 3, 2, 1, 0]) $$ [Hy HzR]
  · isplitl [Hy]; · iexact Hy
    iexact HzR
  irename Hx => HzR
  iapply (op_sent5 P K c false 6 _ rfl (l := []) (by decide) (by decide) 0 rfl 4 rfl 1 2048 2048 rfl rfl rfl fullShare.left rfl (X P false 3 (fro false (fro false c))) ((X_pass P false 4 (by decide) c).trans (X_pass P false 3 (by decide) (fro false c))).symm (dstw := cut false 1 2048 2048 inb_S2x1024x4096_S1x1024x2048_1_0_2048 S1024x2048 squeezes_S1x1024x2048_S1024x2048) rfl) $$ [HO H0L]
  · isplitr; · iexact HC
    isplitl [HO]; · iexact HO
    iexact H0L
  iintro ⟨HO, H0L, Hl6L⟩
  iapply (op_recv5 P K c false 6 _ rfl (l := []) (by decide) (by decide) 0 2048 2048 rfl rfl rfl (X P false 3 (fro false (fro false (fro false c)))) ((X_pass P false 4 (by decide) (fro false c)).trans (X_pass P false 3 (by decide) (fro false (fro false c)))).symm (dstw := cut false 0 2048 2048 inb_S2x1024x4096_S1x1024x2048_0_0_2048 S1024x2048 squeezes_S1x1024x2048_S1024x2048) rfl) $$ [HO HrL]
  · isplitr; · iexact HC
    isplitl [HO]; · iexact HO
    iexact HrL
  iintro ⟨HO, HrL, Hy, Ha6L, #HkL⟩
  ihave Hx := (rZs_cons c false 6 [5, 4, 3, 2, 1, 0]) $$ [Hy HzL]
  · isplitl [Hy]; · iexact Hy
    iexact HzL
  irename Hx => HzL
  iapply (op_blk P sc K c true 0 2 (by decide) (fro true (fro true (fro true c))) (box 0 2048 2048) (box_sub _ (by decide) (by decide)) fullShare rfl ((k1_off24_eq c).trans (congrArg (fun n => ![1024 * n, (if true then 0 else 4096) + 1024 * 2]) (fro3_true c))) 2048 rfl ouS rfl _ (fun _ => rfl) (l := []) (by decide) (by decide) _) $$ [HO Ha6R Hu Hv HD]
  · isplitr; · iexact HC
    isplitl [HO]; · iexact HO
    isplitl [Ha6R]; · iexact Ha6R
    isplitl [Hu]; · iexact Hu
    isplitl [Hv]; · iexact Hv
    iexact HD
  iintro ⟨HO, Ha6R, Hu, Hv, HD⟩
  iapply (op_blk P sc K c true 0 3 (by decide) (fro true (fro true (fro true c))) (box 0 2048 2048) (box_sub _ (by decide) (by decide)) fullShare rfl ((k1_off25_eq c).trans (congrArg (fun n => ![1024 * n, (if true then 0 else 4096) + 1024 * 3]) (fro3_true c))) 3072 rfl ouS rfl _ (fun _ => rfl) (l := []) (by decide) (by decide) _) $$ [HO Ha6R Hu Hv HD]
  · isplitr; · iexact HC
    isplitl [HO]; · iexact HO
    isplitl [Ha6R]; · iexact Ha6R
    isplitl [Hu]; · iexact Hu
    isplitl [Hv]; · iexact Hv
    iexact HD
  iintro ⟨HO, Ha6R, Hu, Hv, HD⟩
  iapply (op_blk P sc K c false 0 2 (by decide) (fro false (fro false (fro false c))) (box 0 2048 2048) (box_sub _ (by decide) (by decide)) fullShare rfl ((k1_off26_eq c).trans (congrArg (fun n => ![1024 * n, (if false then 0 else 4096) + 1024 * 2]) (fro3_false c))) 2048 rfl ouS rfl _ (fun _ => rfl) (l := []) (by decide) (by decide) _) $$ [HO Ha6L Hu Hv HD]
  · isplitr; · iexact HC
    isplitl [HO]; · iexact HO
    isplitl [Ha6L]; · iexact Ha6L
    isplitl [Hu]; · iexact Hu
    isplitl [Hv]; · iexact Hv
    iexact HD
  iintro ⟨HO, Ha6L, Hu, Hv, HD⟩
  ihave Hx := (free_slot c true) $$ [Hl5R Hb5R]
  · isplitl [Hl5R]; · iexact Hl5R
    iexact Hb5R
  irename Hx => Hf5R
  ihave Hx := (free_slot c true) $$ [Hl6R Hb6R]
  · isplitl [Hl6R]; · iexact Hl6R
    iexact Hb6R
  irename Hx => Hf6R
  ihave Hx := (slot_any_join c true 1 fullShare) $$ [Hf5R Hf6R]
  · isplitl [Hf5R]; · iexact Hf5R
    iexact Hf6R
  irename Hx => HbR
  ihave Hx := (hold_any) $$ Ha5R
  irename Hx => Ha5R
  ihave Hx := (free_slot c false) $$ [Hl5L Hb5L]
  · isplitl [Hl5L]; · iexact Hl5L
    iexact Hb5L
  irename Hx => Hf5L
  ihave Hx := (free_slot c false) $$ [Hl6L Hb6L]
  · isplitl [Hl6L]; · iexact Hl6L
    iexact Hb6L
  irename Hx => Hf6L
  ihave Hx := (slot_any_join c false 1 fullShare) $$ [Hf5L Hf6L]
  · isplitl [Hf5L]; · iexact Hf5L
    iexact Hf6L
  irename Hx => HbL
  ihave Hx := (hold_any) $$ Ha5L
  irename Hx => Ha5L
  ihave Hx := (hold_any) $$ Ha6R
  irename Hx => Ha6R
  ihave Hx := (slot_any_join c true 0 fullShare) $$ [Ha5R Ha6R]
  · isplitl [Ha5R]; · iexact Ha5R
    iexact Ha6R
  irename Hx => HaR
  iapply Hk
  isplitl [HO]; · iexact HO
  isplitl [HsR HpR HrR HwR HzR H0R H1R HaR HbR HoR]
  · skip
    isplitl [HsR HpR HrR HwR HzR]
    · skip
      isplitl [HsR]; · iexact HsR
      isplitl [HpR]; · iexact HpR
      isplitl [HrR]; · iexact HrR
      isplitl [HwR]; · iexact HwR
      iexact HzR
    isplitl [H0R]; · iexact H0R
    isplitl [H1R]; · iexact H1R
    isplitl [HaR]; · iexact HaR
    isplitl [HbR]; · iexact HbR
    iexact HoR
  isplitl [HsL HpL HrL HwL HzL H0L H1L Ha5L Ha6L HbL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [Ha5L]; · iexact Ha5L
    isplitl [Ha6L]; · iexact Ha6L
    isplitl [HbL]; · iexact HbL
    iexact HoL
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Flat.lean ====
/-
# The kernel as its phases in turn
-/
module

public import proofs.«01_k».proof.Proof.KernelIdeal.Common
public import proofs.«01_k».proof.Proof.Gen.KernelIdeal.Skeleton

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

/-- Two programs with the same start and pointwise the same rest. -/
theorem bind_next {E : Type → Type} {α β γ : Type} {p : Prog E α} {f : α → Prog E β} {g : β → Prog E γ} {h : α → Prog E γ}
    (e : ∀ x, f x >>= g = h x) : (p >>= f) >>= g = p >>= h := by
  rw [Prog.bind_assoc]; exact congrArg (p >>= ·) (funext e)

/-- The last block: from its load to the wait of its copy. -/
def R8 (a0 : Memref sig .tc .smem S1 .f32) (h0 : a0.IsWhole) (d0 : Dev nD) (v7 : Elt F .f32) : Prog (TpuEff nD τ sig (Elt F) Λ₀ .tc) PUnit := do
  let v1111 : Vec F S1x1024x1024 .bf16 ← Prog.lift (.load (Memref.whole cc1_scratch1) (Rect.unit (s := S2x1024x4096) ![0, 0, 3072] S1x1024x1024.size inb_S2x1024x4096_S1x1024x1024_0_0_3072).toLoadRect (View.loadsAt_vmem h_S1x1024x1024))
  let v1124 : Vec F S1024x1024 .f32 ← Prog.lift (.load (Memref.whole cc1_scratch4) (Rect.unit (s := S1024x1024) ![0, 0] S1024x1024.size inb_S1024x1024_S1024x1024_0_0).toLoadRect (View.loadsAt_vmem h_S1024x1024))
  Prog.lift (.store (Memref.whole cc1_scratch4) (Rect.unit (s := S1024x1024) ![0, 0] S1024x1024.size inb_S1024x1024_S1024x1024_0_0) (k1_pay1 (k1_pay66 v7 v1111)) Finset.univ (View.stores_vmem_bits_univ h_S1024x1024 rfl) (.inl rfl))
  let v1128 : Memref sig .tc .hbm S1024x1024 .f32 := (Memref.whole main_v5).slice (Rect.unit (s := S4096x8192) (k1_off27 d0) S1024x1024.size (k1_off27_inb d0)) (fun _ => rfl)
  Prog.lift (.enqueueDma (Memref.whole cc1_scratch4) (.here v1128) (.dma cc1_scratch11.sem) (Memref.isWhole_whole _).wordExact (View.wordExact_bits rfl) ⟨Or.inl rfl, trivial⟩)
  let v1129 : Memref sig .tc .hbm S1024x1024 .f32 := (Memref.whole main_v5).slice (Rect.unit (s := S4096x8192) (k1_off27 d0) S1024x1024.size (k1_off27_inb d0)) (fun _ => rfl)
  Prog.lift (.waitDma2 cc1_scratch11.sem (Memref.whole cc1_scratch4) v1129 (Memref.isWhole_whole _).wordExact (View.wordExact_bits rfl))
  pure ⟨⟩

/-- The rest of the kernel from phase 8 on. -/
def R7 (a0 : Memref sig .tc .smem S1 .f32) (h0 : a0.IsWhole) (d0 : Dev nD) (v4 : BitVec 32) (v6 : BitVec 32) (v7 : Elt F .f32) (v919 : BitVec 32) (v921 : BitVec 32) : Prog (TpuEff nD τ sig (Elt F) Λ₀ .tc) PUnit := do
  onRefs (k1_part33 a0 h0) v4 v6
  onRefs (k1_part34 a0 h0) d0 v7 v919
  let v1019 : FVec F S1024x1024 .f32 ← onRefs (k1_part35 a0 h0) d0 v7 v921
  onRefs (k1_part36 a0 h0) d0 v4 v921 v1019
  let ⟨v1075, v1076⟩ : Σ' (v1075 : FVec F S1024x1024 .f32), FVec F S1024x1024 .f32 ← onRefs (k1_part37 a0 h0) d0 v6 v7 v919
  onRefs (k1_part38 a0 h0) d0 v7 v919 v921 v1075 v1076
  R8 a0 h0 d0 v7

/-- The rest of the kernel from phase 7 on. -/
def R6 (a0 : Memref sig .tc .smem S1 .f32) (h0 : a0.IsWhole) (d0 : Dev nD) (v2 : BitVec 32) (v4 : BitVec 32) (v6 : BitVec 32) (v7 : Elt F .f32) : Prog (TpuEff nD τ sig (Elt F) Λ₀ .tc) PUnit := do
  onRefs (k1_part27 a0 h0) d0 v4 v6
  let ⟨v762, v786, v791, v792⟩ : Σ' (v762 : BitVec 32) (v786 : FVec F S1024x1024 .f32) (v791 : FVec F S1024x1024 .f32), FVec F S1024x1024 .f32 ← onRefs (k1_part28 a0 h0) d0 v2 v7
  let ⟨v824, v826⟩ : Σ' (v824 : FVec F S1024x1024 .f32), FVec F S1024x1024 .f32 ← onRefs (k1_part29 a0 h0) d0 v7 v762 v786 v791 v792
  let v841 : BitVec 32 ← onRefs (k1_part30 a0 h0) d0 v2 v7 v762 v824 v826
  let c1024_i32_789 : BitVec 32 ← onRefs (k1_part31 a0 h0) d0 v7 v841
  let ⟨v919, v921⟩ : Σ' (v919 : BitVec 32), BitVec 32 ← onRefs (k1_part32 a0 h0) d0 v2 v7 v841 c1024_i32_789
  R7 a0 h0 d0 v4 v6 v7 v919 v921

/-- The rest of the kernel from phase 6 on. -/
def R5 (a0 : Memref sig .tc .smem S1 .f32) (h0 : a0.IsWhole) (d0 : Dev nD) (v2 : BitVec 32) (v4 : BitVec 32) (v6 : BitVec 32) (v7 : Elt F .f32) : Prog (TpuEff nD τ sig (Elt F) Λ₀ .tc) PUnit := do
  let ⟨v531, v544⟩ : Σ' (v531 : BitVec 32), FVec F S1024x1024 .f32 ← onRefs (k1_part20 a0 h0) d0 v2 v6 v7
  let ⟨v574, v577, v578⟩ : Σ' (v574 : FVec F S1024x1024 .f32) (v577 : FVec F S1024x1024 .f32), FVec F S1024x1024 .f32 ← onRefs (k1_part21 a0 h0) d0 v7 v531 v544
  let v610 : BitVec 32 ← onRefs (k1_part22 a0 h0) d0 v2 v7 v531 v574 v577 v578
  onRefs (k1_part23 a0 h0) d0 v7 v610
  let v680 : FVec F S1024x1024 .f32 ← onRefs (k1_part24 a0 h0) d0 v7 v610
  onRefs (k1_part25 a0 h0) d0 v4 v610 v680
  onRefs (k1_part26 a0 h0) d0 v4 v6
  R6 a0 h0 d0 v2 v4 v6 v7

/-- The rest of the kernel from phase 5 on. -/
def R4 (a0 : Memref sig .tc .smem S1 .f32) (h0 : a0.IsWhole) (d0 : Dev nD) (v2 : BitVec 32) (v4 : BitVec 32) (v6 : BitVec 32) (v7 : Elt F .f32) : Prog (TpuEff nD τ sig (Elt F) Λ₀ .tc) PUnit := do
  onRefs (k1_part14 a0 h0) d0 v2 v7
  let v393 : FVec F S1024x1024 .f32 ← onRefs (k1_part15 a0 h0) d0 v2 v7
  let ⟨v423, v428, v429⟩ : Σ' (v423 : FVec F S1024x1024 .f32) (v428 : FVec F S1024x1024 .f32), FVec F S1024x1024 .f32 ← onRefs (k1_part16 a0 h0) d0 v2 v7 v393
  let ⟨v461, v463⟩ : Σ' (v461 : FVec F S1024x1024 .f32), FVec F S1024x1024 .f32 ← onRefs (k1_part17 a0 h0) d0 v2 v7 v423 v428 v429
  onRefs (k1_part18 a0 h0) d0 v2 v4 v461 v463
  onRefs (k1_part19 a0 h0) d0 v4 v6
  R5 a0 h0 d0 v2 v4 v6 v7

/-- The rest of the kernel from phase 4 on. -/
def R3 (a0 : Memref sig .tc .smem S1 .f32) (h0 : a0.IsWhole) (d0 : Dev nD) (v2 : BitVec 32) (v4 : BitVec 32) (v6 : BitVec 32) (v7 : Elt F .f32) : Prog (TpuEff nD τ sig (Elt F) Λ₀ .tc) PUnit := do
  let v248 : BitVec 32 ← onRefs (k1_part10 a0 h0) d0 v2 v4 v6
  onRefs (k1_part11 a0 h0) d0 v4 v6 v248
  let v298 : FVec F S1024x2048 .bf16 ← onRefs (k1_part12 a0 h0) d0
  onRefs (k1_part13 a0 h0) d0 v4 v6 v298
  R4 a0 h0 d0 v2 v4 v6 v7

/-- The rest of the kernel from phase 3 on. -/
def R2 (a0 : Memref sig .tc .smem S1 .f32) (h0 : a0.IsWhole) (d0 : Dev nD) (v2 : BitVec 32) (v4 : BitVec 32) (v6 : BitVec 32) (v7 : Elt F .f32) : Prog (TpuEff nD τ sig (Elt F) Λ₀ .tc) PUnit := do
  onRefs (k1_part6 a0 h0) d0 v2 v4 v6
  onRefs (k1_part7 a0 h0) v4 v6
  onRefs (k1_part8 a0 h0) d0 v4 v6
  onRefs (k1_part9 a0 h0) d0 v4
  R3 a0 h0 d0 v2 v4 v6 v7

/-- The rest of the kernel from phase 2 on. -/
def R1 (a0 : Memref sig .tc .smem S1 .f32) (h0 : a0.IsWhole) (d0 : Dev nD) (v2 : BitVec 32) (v4 : BitVec 32) (v6 : BitVec 32) (v7 : Elt F .f32) (v51 : BitVec 32) : Prog (TpuEff nD τ sig (Elt F) Λ₀ .tc) PUnit := do
  onRefs (k1_part3 a0 h0) d0 v2 v4 v51
  let v97 : FVec F S1024x2048 .bf16 ← onRefs (k1_part4 a0 h0) d0 v4 v6
  onRefs (k1_part5 a0 h0) v97
  R2 a0 h0 d0 v2 v4 v6 v7

/-- The rest of the kernel from phase 1 on. -/
def R0 (a0 : Memref sig .tc .smem S1 .f32) (h0 : a0.IsWhole)  : Prog (TpuEff nD τ sig (Elt F) Λ₀ .tc) PUnit := do
  let ⟨d0, v2, v4, v6, v7⟩ : Σ' (d0 : Dev nD) (v2 : BitVec 32) (v4 : BitVec 32) (v6 : BitVec 32), Elt F .f32 ← onRefs (k1_part1 a0 h0)
  let v51 : BitVec 32 ← onRefs (k1_part2 a0 h0) d0 v2 v4 v6
  R1 a0 h0 d0 v2 v4 v6 v7 v51

set_option maxRecDepth 65536 in
/-- The kernel's body is its phases in turn. -/
theorem body_phases (a0 : Memref sig .tc .smem S1 .f32) (h0 : a0.IsWhole) : onRefs (cc1__body (F := F) a0 h0) = R0 a0 h0 := by
  unfold onRefs
  rw [cc1__body_eq_skeleton]
  unfold cc1__body_skel
  rw [k1_part39_eq_skeleton]
  unfold k1_part39_skel
  unfold R0
  refine bind_next fun ⟨d0, v2, v4, v6, v7⟩ => ?_
  refine bind_next fun v51 => ?_
  unfold R1
  refine bind_next fun _ => ?_
  refine bind_next fun v97 => ?_
  refine bind_next fun _ => ?_
  unfold R2
  refine bind_next fun _ => ?_
  refine bind_next fun _ => ?_
  refine bind_next fun _ => ?_
  refine bind_next fun _ => ?_
  unfold R3
  refine bind_next fun v248 => ?_
  refine bind_next fun _ => ?_
  refine bind_next fun v298 => ?_
  refine bind_next fun _ => ?_
  unfold R4
  refine bind_next fun _ => ?_
  refine bind_next fun v393 => ?_
  refine bind_next fun ⟨v423, v428, v429⟩ => ?_
  refine bind_next fun ⟨v461, v463⟩ => ?_
  refine bind_next fun _ => ?_
  refine bind_next fun _ => ?_
  unfold R5
  refine bind_next fun ⟨v531, v544⟩ => ?_
  refine bind_next fun ⟨v574, v577, v578⟩ => ?_
  refine bind_next fun v610 => ?_
  refine bind_next fun _ => ?_
  refine bind_next fun v680 => ?_
  refine bind_next fun _ => ?_
  refine bind_next fun _ => ?_
  unfold R6
  refine bind_next fun _ => ?_
  refine bind_next fun ⟨v762, v786, v791, v792⟩ => ?_
  refine bind_next fun ⟨v824, v826⟩ => ?_
  refine bind_next fun v841 => ?_
  refine bind_next fun c1024_i32_789 => ?_
  refine bind_next fun ⟨v919, v921⟩ => ?_
  unfold R7
  refine bind_next fun _ => ?_
  refine bind_next fun _ => ?_
  refine bind_next fun v1019 => ?_
  refine bind_next fun _ => ?_
  refine bind_next fun ⟨v1075, v1076⟩ => ?_
  refine bind_next fun _ => ?_
  rfl

end Cert.KernelIdeal.Ring
-- ==== Proof.KernelIdeal.Body.lean ====
/-
# The kernel on one device
-/
module

public import proofs.«01_k».proof.Proof.KernelIdeal.State
public import proofs.«01_k».proof.Proof.Gen.KernelIdeal.Skeleton
public import proofs.«01_k».proof.Proof.KernelIdeal.Body1
public import proofs.«01_k».proof.Proof.KernelIdeal.Body2
public import proofs.«01_k».proof.Proof.KernelIdeal.Body3
public import proofs.«01_k».proof.Proof.KernelIdeal.Body4
public import proofs.«01_k».proof.Proof.KernelIdeal.Body5
public import proofs.«01_k».proof.Proof.KernelIdeal.Body6
public import proofs.«01_k».proof.Proof.KernelIdeal.Flat

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (P : Dev nD → S4096x8192.Idx → Elt F .bf16) (sc : Dev nD → Elt F .f32) (K : GSem nD τ sig → ℕ) (c : Dev nD)

/-- Every block of the result is among those a device writes. -/
theorem all_blocks (c : Dev nD) : ∀ n, n < 32 → n ∈ (bk (fro false (fro false (fro false c))) false 3 :: bk (fro false (fro false (fro false c))) false 2
      :: bk (fro true (fro true (fro true c))) true 3 :: bk (fro true (fro true (fro true c))) true 2
      :: bk (fro false (fro false (fro false c))) false 1 :: bk (fro false (fro false (fro false c))) false 0
      :: bk (fro true (fro true (fro true c))) true 1 :: bk (fro true (fro true (fro true c))) true 0
      :: bks (fro false (fro false c)) false (bks (fro true (fro true c)) true
        (bks (fro false c) false (bks (fro true c) true (bks c false (bks c true [])))))) := by
  revert c; decide

theorem blkOf_lt (x : S4096x8192.Idx) : blkOf x < 32 := by
  have h0 : (x 0).val < 4096 := (x 0).isLt
  have h1 : (x 1).val < 8192 := (x 1).isLt
  unfold blkOf; omega

/-- With every block done, the result buffer holds the result. -/
theorem oD_all (D : List ℕ) (h : ∀ n, n < 32 → n ∈ D) : oD P sc c D ⊢ hold c outM Finset.univ fullShare (outv P (sc c)) := by
  unfold oD hold
  iintro ⟨%f, %hf, Hf⟩
  iexists f
  isplitr
  · ipureintro; exact fun x _ => hf x (h _ (blkOf_lt x))
  iexact Hf

theorem oD_nil : anyHold c outM Finset.univ fullShare ⊢ oD P sc c [] := by
  unfold oD anyHold
  iintro ⟨%f, Hf⟩
  iexists f
  isplitr
  · ipureintro; intro x hx; cases hx
  iexact Hf

set_option maxRecDepth 20000 in
set_option maxHeartbeats 1000000 in
/-- The whole kernel on one device. -/
theorem body_run (a0 : Memref sig .tc .smem S1 .f32) (h0 : a0.IsWhole) (q : PosShare TreeShare) {Q : PUnit → sProp 𝕄} :
    iprop(Ctx P K ∗ ow c ows ∗ A0 c true ∗ A0 c false ∗ (atPos ER (barC c) 0 ∅ 0 ∗ cred (tallyAt (barC c) 0 2) ∗ hold c a0 Finset.univ q (fun _ => sc c)) ∗ loc P sc c [])
      ⊢ iprop(((ow c [] ∗ A9 c true ∗ A9 c false ∗ (semVal (barC c) 0 ∗ hold c a0 Finset.univ q (fun _ => sc c))
          ∗ hold c pM Finset.univ fullShare.left (P c) ∗ hold c pM Finset.univ fullShare.right (P c) ∗ semVal ((c : Thread nD τ), .dma ldR) 0
          ∗ semVal ((c : Thread nD τ), .dma ldL) 0 ∗ anyHold c outbM Finset.univ fullShare ∗ semVal ((c : Thread nD τ), .dma ouS) 0
          ∗ hold c outM Finset.univ fullShare (outv P (sc c))) -∗ wp frame (wpE defs₀ 𝒱₀ (c : Thread nD τ) none) Set.univ (.ret ⟨⟩) Q)
        -∗ wp frame (wpE defs₀ 𝒱₀ (c : Thread nD τ) none) Set.univ (onRefs (cc1__body (F := F) a0 h0)) Q) := by
  rw [body_phases]
  iintro ⟨#HC, HO, HR, HL, HB, Hloc⟩ Hk
  unfold R0
  iapply (ph1 P sc K c (k := fun d0 v2 v4 v6 v7 v51 => R1 a0 h0 d0 v2 v4 v6 v7 v51)) $$ [HO HR HL HB Hloc]
  · isplitr; · iexact HC
    isplitl [HO]; · iexact HO
    isplitl [HR]; · iexact HR
    isplitl [HL]; · iexact HL
    isplitl [HB]; · iexact HB
    iexact Hloc
  iintro ⟨HO, HR, HL, HB, Hloc⟩
  unfold R1
  iapply (ph2 P sc K c _ _ _ _ (k := fun _ => R2 a0 h0 c _ _ _ (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R2
  iapply (ph3 P sc K c _ _ _ (k := fun _ => R3 a0 h0 c _ _ _ (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R3
  iapply (ph4 P sc K c _ _ _ 0 0 0 (k := fun _ => R4 a0 h0 c _ _ _ (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R4
  iapply (ph5 P sc K c _ _ _ (k := fun _ => R5 a0 h0 c _ _ _ (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R5
  iapply (ph6 P sc K c _ _ _ (k := fun _ => R6 a0 h0 c _ _ _ (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R6
  iapply (ph7 P sc K c _ _ _ (k := fun x y => R7 a0 h0 c _ _ (sc c) x y)) $$ [HO HR HL Hloc]
  · isplitr; · iexact HC
    isplitl [HO]; · iexact HO
    isplitl [HR]; · iexact HR
    isplitl [HL]; · iexact HL
    iexact Hloc
  iintro ⟨HO, HR, HL, Hloc⟩
  unfold R7
  iapply (ph8 P sc K c _ _ _ _ (k := fun _ => R8 a0 h0 c (sc c))) $$ [HO HR HL Hloc]
  · isplitr; · iexact HC
    isplitl [HO]; · iexact HO
    isplitl [HR]; · iexact HR
    isplitl [HL]; · iexact HL
    iexact Hloc
  iintro ⟨HO, HR, HL, Hloc⟩
  unfold R8 A9h tk loc
  simp only [Prog.lift, Prog.bind_op, Prog.bind_ret, Prog.pure_eq_ret]
  icases HL with ⟨⟨HsL, HpL, HrL, HwL, HzL⟩, H0L, H1L, Ha5L, Ha6L, HbL, HoL⟩
  icases Hloc with ⟨HM, HN, Hd, He, Hu, Hv, HD⟩
  iapply (op_blk P sc K c false 0 3 (by decide) (fro false (fro false (fro false c))) (box 0 2048 2048) (box_sub _ (by decide) (by decide)) fullShare rfl ((k1_off27_eq c).trans (congrArg (fun n => ![1024 * n, (if false then 0 else 4096) + 1024 * 3]) (fro3_false c))) 3072 rfl ouS rfl _ (fun _ => rfl) (l := []) (by decide) (by decide) _) $$ [HO Ha6L Hu Hv HD]
  · isplitr; · iexact HC
    isplitl [HO]; · iexact HO
    isplitl [Ha6L]; · iexact Ha6L
    isplitl [Hu]; · iexact Hu
    isplitl [Hv]; · iexact Hv
    iexact HD
  iintro ⟨HO, Ha6L, Hu, Hv, HD⟩
  ihave Hx := (hold_any) $$ Ha6L
  irename Hx => Ha6L
  ihave Hx := (slot_any_join c false 0 fullShare) $$ [Ha5L Ha6L]
  · isplitl [Ha5L]; · iexact Ha5L
    iexact Ha6L
  irename Hx => HaL
  ihave HD := (oD_all P sc c _ (all_blocks c)) $$ HD
  iapply Hk
  unfold A9 tk
  isplitl [HO]; · iexact HO
  isplitl [HR]; · iexact HR
  isplitl [HsL HpL HrL HwL HzL H0L H1L HaL HbL HoL]
  · skip
    isplitl [HsL HpL HrL HwL HzL]
    · skip
      isplitl [HsL]; · iexact HsL
      isplitl [HpL]; · iexact HpL
      isplitl [HrL]; · iexact HrL
      isplitl [HwL]; · iexact HwL
      iexact HzL
    isplitl [H0L]; · iexact H0L
    isplitl [H1L]; · iexact H1L
    isplitl [HaL]; · iexact HaL
    isplitl [HbL]; · iexact HbL
    iexact HoL
  isplitl [HB]; · iexact HB
  isplitl [HM]; · iexact HM
  isplitl [HN]; · iexact HN
  isplitl [Hd]; · iexact Hd
  isplitl [He]; · iexact He
  isplitl [Hu]; · iexact Hu
  isplitl [Hv]; · iexact Hv
  iexact HD

end Cert.KernelIdeal.Ring
-- ==== Proof.KernelIdeal.Regions.lean ====
/-
# The two regions

The contents between the items of the program, each kernel's data, and what each kernel's body does from them.
-/
module

public import proofs.«01_k».proof.Proof.KernelIdeal.Widen
public import proofs.«01_k».proof.Proof.KernelIdeal.Body
public import Idealize.ShloMosaic.Lib.Pipeline.RegionTalk
public import Idealize.ShloMosaic.Lib.Pipeline.FrameTail
public import Idealize.ShloMosaic.Lib.Pipeline.Regions
public import Idealize.ShloMosaic.Lib.StableHlo

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## Contents and data -/

/-- A window's block in the first kernel. -/
def iblk0 (c : Dev nD) (w : Fin cfg0.W) (t : Fin cfg0.N) : ((cfg0.win w).xblock (cfg0.grid.coords t)).Idx → Elt F (cfg0.win w).elt :=
  ((cfg0.win w).blk t).view.read (Elt F) (Gen.V0 m c (Pipeline.arrRef spec0 w))

/-- The first kernel: its inputs stay, its outputs are the inputs widened. -/
def dat0 (c : Dev nD) : Dat τ (Elt F) ℕ ℕ UU ℕ cfg0 c where
  A w := Gen.V0 m c (Pipeline.arrRef spec0 w)
  after w t := match w with
    | ⟨0, _⟩ => iblk0 m c 0 t
    | ⟨1, _⟩ => iblk0 m c 1 t
    | ⟨2, _⟩ => k0_pay1 (iblk0 m c 0 t)
    | ⟨3, _⟩ => k0_pay2 (iblk0 m c 1 t)
  Φ _ := Pipeline.scopedRest spec0 c
  q _ := fullShare
  owed _ := O₀ c

/-- After the first kernel; after the host operations. -/
def W1 (c : Dev nD) : Valuation τ sig (Elt F) := Pipeline.afterRegion (dat0 m c) (Gen.V0 m c)
def W2 (c : Dev nD) : Valuation τ sig (Elt F) := StableHlo.after hostOps1 (W1 m c)

/-- A device's partial product, and its scale. -/
def Pm (c : Dev nD) (x : S4096x8192.Idx) : Elt F .bf16 := W2 m c main_v3 x
def scm (c : Dev nD) : Elt F .f32 := (show S1.Idx → Elt F .f32 from W2 m c main_v4) (ix1 0)

/-- After the second kernel: the result written. -/
def W3 (c : Dev nD) : Valuation τ sig (Elt F) :=
  Function.update (W2 m c) (Proc.devRef .tc main_v5) (show Buf (Elt F) ((c : Thread nD τ).loc main_v5) from outv (Pm m) (scm m c))

def iblk1 (c : Dev nD) (w : Fin cfg1.W) (t : Fin cfg1.N) : ((cfg1.win w).xblock (cfg1.grid.coords t)).Idx → Elt F (cfg1.win w).elt :=
  ((cfg1.win w).blk t).view.read (Elt F) (W2 m c (Pipeline.arrRef spec1 w))

/-- The second kernel's own counters: ten in each direction, three for local copies. -/
def osem : (Bool × Fin 10) ⊕ Fin 3 → SemLoc sig
  | .inl p => scS p.1 p.2
  | .inr 0 => .dma ldR
  | .inr 1 => .dma ldL
  | .inr 2 => .dma ouS

/-- The buffers the second kernel addresses itself. -/
def Hs : Finset (DevRef τ sig) := {Proc.devRef .tc main_v3, Proc.devRef .tc main_v5}

/-- What a device holds of the exchange before the second kernel. -/
def Tk (c : Dev nD) : sProp 𝕄 :=
  iprop(∃ K, Ctx (Pm m) K ∗ atPos ER (barC c) 0 ∅ 0 ∗ cred (tallyAt (barC c) 0 2) ∗ opens c
    ∗ dirTok true c ∗ dirTok false c ∗ dirCred true c ∗ dirCred false c)

/-- The same, its cells opened. -/
def Xk (c : Dev nD) : sProp 𝕄 :=
  iprop(∃ K, Ctx (Pm m) K ∗ atPos ER (barC c) 0 ∅ 0 ∗ cred (tallyAt (barC c) 0 2)
    ∗ ((bigSep Finset.univ fun k => start1 c true k) ∗ (bigSep Finset.univ fun k => start1 c false k))
    ∗ dirTok true c ∗ dirTok false c ∗ dirCred true c ∗ dirCred false c
    ∗ (bigSep Finset.univ fun k : Fin 3 => semVal ((c : Thread nD τ), osem (.inr k)) 0))

def Yk (c : Dev nD) : sProp 𝕄 := semVal (barC c) 0

/-- The second kernel: everything it holds before its one point, and after. -/
def dat1 (c : Dev nD) : Dat τ (Elt F) ℕ ℕ UU ℕ cfg1 c where
  A w := W2 m c (Pipeline.arrRef spec1 w)
  after w t := match w with
    | ⟨0, _⟩ => iblk1 m c 0 t
  Φ t := if t.val = 0 then iprop(Pipeline.scopedRest spec1 c ∗ (∃ r, prngReg c r) ∗ StableHlo.held (c.tc : Thread nD τ) Hs (W2 m c) ∗ Xk m c)
    else iprop(Pipeline.scopedRest spec1 c ∗ (∃ r, prngReg c r) ∗ StableHlo.held (c.tc : Thread nD τ) Hs (W3 m c) ∗ Pipeline.ownSems0 osem c ∗ Yk c)
  q _ := fullShare
  owed t := if t.val = 0 then O₀ c else 0

def pdats : (p : Fin 2) → (c : Dev nD) → Dat τ (Elt F) ℕ ℕ UU ℕ (Pipeline.pin (pcfgs (F := F)) Gen.adm p) c
  | 0 => dat0 m
  | 1 => dat1 m

/-! ## What the core owes, in the data's form -/

theorem owesAt_of {cfg : Pipeline.Cfg sig Λ₀} {c : Dev nD} (dat : Dat τ (Elt F) ℕ ℕ UU ℕ cfg c) (t : Fin (cfg.N + 1))
    (l : List Ow) (h0 : dat.owed t = tl c l) (hr : dat.recorded t = Set.univ) : (ow c l : sProp 𝕄) ⊢ (dat.owesAt 0 t : sProp 𝕄) := by
  unfold ow Dat.owesAt Pipeline.owesWithin Dat.bound; rw [h0, hr]
  iintro ⟨%W, HO⟩
  iexists W
  isplitr; · ipureintro; exact fun _ _ => Or.inl trivial
  iexact HO
theorem of_owesAt {cfg : Pipeline.Cfg sig Λ₀} {c : Dev nD} (dat : Dat τ (Elt F) ℕ ℕ UU ℕ cfg c) (t : Fin (cfg.N + 1))
    (l : List Ow) (h0 : dat.owed t = tl c l) : (dat.owesAt 0 t : sProp 𝕄) ⊢ ow c l := by
  unfold ow Dat.owesAt Pipeline.owesWithin; rw [h0]
  iintro ⟨%W, -, HO⟩
  iexists W; iexact HO

/-! ## The first kernel's body -/

theorem before0 (c : Dev nD) (t : Fin cfg0.N) (d) : (dat0 m c).before 0 t d = iblk0 m c 0 t :=
  ((dat0 m c).before_in_eq_fetched 0 rfl (fun _ => rfl) (fun _ _ _ => rfl) (fun t => by
    rw [show (dat0 m c).after 0 t = iblk0 m c 0 t from rfl]; unfold Dat.blockOf iblk0; rfl) t d).trans (by unfold Dat.fetched Dat.blockOf iblk0; rfl)
theorem before1 (c : Dev nD) (t : Fin cfg0.N) (d) : (dat0 m c).before 1 t d = iblk0 m c 1 t :=
  ((dat0 m c).before_in_eq_fetched 1 rfl (fun _ => rfl) (fun _ _ _ => rfl) (fun t => by
    rw [show (dat0 m c).after 1 t = iblk0 m c 1 t from rfl]; unfold Dat.blockOf iblk0; rfl) t d).trans (by unfold Dat.fetched Dat.blockOf iblk0; rfl)

theorem row0 (t : Fin cfg0.N) : defs₀ (F := F) .tc cfg0.body (cfg0.bodyArgs t (cfg0.slots t)) = bodyAt0 t := by
  unfold defs₀; rw [Defs.onTc_tc]
theorem row1 (t : Fin cfg1.N) : defs₀ (F := F) .tc cfg1.body (cfg1.bodyArgs t (cfg1.slots t)) = bodyAt1 t := by
  unfold defs₀; rw [Defs.onTc_tc]

theorem run0 (c : Dev nD) (t : Fin cfg0.N) :
    iprop((dat0 m c).Φ t.castSucc ∗ (dat0 m c).owesAt 0 t.castSucc
      ∗ (∃ d, owns (c : Thread nD τ) (st0_0 t) fullShare ((dat0 m c).before 0 t d)) ∗ (∃ d, owns (c : Thread nD τ) (st0_1 t) fullShare ((dat0 m c).before 1 t d))
      ∗ (∃ d, owns (c : Thread nD τ) (st0_2 t) fullShare ((dat0 m c).before 2 t d)) ∗ (∃ d, owns (c : Thread nD τ) (st0_3 t) fullShare ((dat0 m c).before 3 t d)))
      ⊢ wp frame (wpE (defs₀ (F := F)) 𝒱₀ c none) Set.univ (bodyAt0 t) (fun _ => iprop((dat0 m c).Φ t.succ ∗ (dat0 m c).owesAt 0 t.succ
        ∗ owns (c : Thread nD τ) (st0_0 t) fullShare ((dat0 m c).after 0 t) ∗ owns (c : Thread nD τ) (st0_1 t) fullShare ((dat0 m c).after 1 t)
        ∗ owns (c : Thread nD τ) (st0_2 t) fullShare ((dat0 m c).after 2 t) ∗ owns (c : Thread nD τ) (st0_3 t) fullShare ((dat0 m c).after 3 t))) := by
  unfold bodyAt0
  simp only [before0, before1]
  rw [show (dat0 m c).Φ t.succ = (dat0 m c).Φ t.castSucc from rfl, show (dat0 m c).owesAt 0 t.succ = (dat0 m c).owesAt 0 t.castSucc from rfl,
    show (dat0 m c).after 0 t = iblk0 m c 0 t from rfl, show (dat0 m c).after 1 t = iblk0 m c 1 t from rfl,
    show (dat0 m c).after 2 t = k0_pay1 (iblk0 m c 0 t) from rfl, show (dat0 m c).after 3 t = k0_pay2 (iblk0 m c 1 t) from rfl]
  iintro ⟨HΦ, Ho, ⟨%d0, H0⟩, ⟨%d1, H1⟩, ⟨%d2, H2⟩, ⟨%d3, H3⟩⟩
  ihave H0 := (owns_hold c (st0_0 t) fullShare (iblk0 m c 0 t)) $$ H0
  ihave H1 := (owns_hold c (st0_1 t) fullShare (iblk0 m c 1 t)) $$ H1
  ihave H2 := ((owns_hold c (st0_2 t) fullShare _).trans hold_any) $$ H2
  ihave H3 := ((owns_hold c (st0_3 t) fullShare _).trans hold_any) $$ H3
  iapply (widen_run c (st0_0 t) (hstage0_0 0) (st0_1 t) (hstage0_1 0) (st0_2 t) (hstage0_2 0) (st0_3 t) (hstage0_3 0) (iblk0 m c 0 t) (iblk0 m c 1 t)) $$ [H0 H1 H2 H3]
  · isplitl [H0]; · iexact H0
    isplitl [H2]; · iexact H2
    isplitl [H1] <;> iassumption
  iintro ⟨H0, H2, H1, H3⟩
  isplitl [HΦ]; · iexact HΦ
  isplitl [Ho]; · iexact Ho
  isplitl [H0]; · iapply (hold_owns c (st0_0 t) fullShare (iblk0 m c 0 t)); iexact H0
  isplitl [H1]; · iapply (hold_owns c (st0_1 t) fullShare (iblk0 m c 1 t)); iexact H1
  isplitl [H2]; · iapply (hold_owns c (st0_2 t) fullShare (k0_pay1 (iblk0 m c 0 t))); iexact H2
  iapply (hold_owns c (st0_3 t) fullShare (k0_pay2 (iblk0 m c 1 t))); iexact H3

theorem body0 (c : Dev nD) : BodyObligation (dat0 m c) (defs₀ (F := F)) 𝒱₀ 0 Set.univ := fun t => by
  rw [bigSep_W0, bigSep_W0, row0]
  exact triple_restated (run0 m c t) rfl .rfl fun _ => .rfl

/-! ## The second kernel's body -/

theorem held_Hs (c : Dev nD) (W : Valuation τ sig (Elt F)) : (StableHlo.held (c.tc : Thread nD τ) Hs W : sProp 𝕄)
    = iprop((((c : Thread nD τ).loc main_v3) ↦{fullShare} W main_v3) ∗ (((c : Thread nD τ).loc main_v5) ↦{fullShare} W main_v5)) := by
  unfold StableHlo.held Hs
  rw [bigSep_eq_bigSepL_of_eq [Proc.devRef .tc main_v3, Proc.devRef .tc main_v5] (by decide) (by decide)]
  rfl

theorem hold_of_whole (c : Dev nD) (b : Ref sig .tc) (q : PosShare TreeShare) (f : Buf (Elt F) ((c : Thread nD τ).loc b)) :
    (((c : Thread nD τ).loc b) ↦{q} f : sProp 𝕄) ⊢ hold c (Memref.whole b) Finset.univ q f := by
  unfold hold
  rw [setOn_univ_of_whole]
  iintro H
  iexists f
  isplitr; · ipureintro; intro x _; rfl
  iexact H
theorem whole_of_hold (c : Dev nD) (b : Ref sig .tc) (q : PosShare TreeShare) (f : Buf (Elt F) ((c : Thread nD τ).loc b)) :
    (hold c (Memref.whole b) Finset.univ q f : sProp 𝕄) ⊢ (((c : Thread nD τ).loc b) ↦{q} f) := by
  unfold hold
  rw [setOn_univ_of_whole]
  iintro ⟨%g, %hg, H⟩
  rw [show f = g from funext fun x => (hg x (Finset.mem_univ x)).symm]
  iexact H

theorem before_sc (c : Dev nD) (t : Fin cfg1.N) (d) : (dat1 m c).before 0 t d = iblk1 m c 0 t :=
  ((dat1 m c).before_in_eq_fetched 0 rfl (fun _ => rfl) (fun _ _ _ => rfl) (fun t => by
    rw [show (dat1 m c).after 0 t = iblk1 m c 0 t from rfl]; unfold Dat.blockOf iblk1; rfl) t d).trans (by unfold Dat.fetched Dat.blockOf iblk1; rfl)

theorem one_idx (i j : S1.Idx) : i = j := funext fun a => Fin.ext (by
  match a with
  | ⟨0, _⟩ => have h1 : (i 0).val < 1 := (i 0).isLt; have h2 : (j 0).val < 1 := (j 0).isLt; show (i 0).val = (j 0).val; omega)

theorem iblk1_eq (c : Dev nD) (t : Fin cfg1.N) : (iblk1 m c 0 t : S1.Idx → Elt F .f32) = fun _ => scm m c := by
  funext j
  show (W2 m c main_v4 : S1.Idx → Elt F .f32) _ = scm m c
  exact congrArg (W2 m c main_v4 : S1.Idx → Elt F .f32) (one_idx _ _)

theorem ownSems_eq (c : Dev nD) : (Pipeline.ownSems0 osem c : sProp 𝕄)
    = iprop(((bigSep Finset.univ fun k : Fin 10 => semVal ((c : Thread nD τ), scS true k) 0) ∗ (bigSep Finset.univ fun k : Fin 10 => semVal ((c : Thread nD τ), scS false k) 0))
      ∗ (bigSep Finset.univ fun k : Fin 3 => semVal ((c : Thread nD τ), osem (.inr k)) 0)) := by
  unfold Pipeline.ownSems0
  rw [BI.bigSep_univ_sum, bigSep_univ_prod, bigSep_two]
  rfl
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ

theorem hopen1 (c : Dev nD) : iprop(Tk m c ∗ Pipeline.ownSems0 osem c ∗ levAts L lv) ⊢ (|={Set.univ}=> Xk m c : sProp 𝕄) := by
  unfold Tk Xk
  rw [ownSems_eq]
  iintro ⟨⟨%K, #HC, Hb, Hcb, Ho, Ht, Hf, Hct, Hcf⟩, ⟨Hs, Hl⟩, -⟩
  imod (open_all (Pm m) K c) $$ [Ho Hs] with Hst
  · isplitr; · iexact HC
    isplitl [Ho]; · iexact Ho
    rw [bigSep_univ_prod, bigSep_two]; iexact Hs
  imodintro
  iexists K
  isplitr; · iexact HC
  isplitl [Hb]; · iexact Hb
  isplitl [Hcb]; · iexact Hcb
  isplitl [Hst]; · iexact Hst
  isplitl [Ht]; · iexact Ht
  isplitl [Hf]; · iexact Hf
  isplitl [Hct]; · iexact Hct
  isplitl [Hcf]; · iexact Hcf
  iexact Hl

theorem W3_v3 (c : Dev nD) : W3 m c main_v3 = W2 m c main_v3 :=
  Function.update_of_ne (StableHlo.devRef_ne_of_ne (by decide : (main_v3 : Ref sig .tc) ≠ main_v5)) _ _
theorem W3_v5 (c : Dev nD) : W3 m c main_v5 = (show Buf (Elt F) ((c : Thread nD τ).loc main_v5) from outv (Pm m) (scm m c)) := Function.update_self _ _ _

set_option maxHeartbeats 1000000 in
theorem run1 (c : Dev nD) (t : Fin cfg1.N) :
    iprop((dat1 m c).Φ t.castSucc ∗ (dat1 m c).owesAt 0 t.castSucc ∗ (∃ d, owns (c : Thread nD τ) (st1_0 t) fullShare ((dat1 m c).before 0 t d)))
      ⊢ wp frame (wpE (defs₀ (F := F)) 𝒱₀ c none) Set.univ (bodyAt1 t) (fun _ => iprop((dat1 m c).Φ t.succ ∗ (dat1 m c).owesAt 0 t.succ
        ∗ owns (c : Thread nD τ) (st1_0 t) fullShare ((dat1 m c).after 0 t))) := by
  obtain rfl := fin_N1 t
  unfold bodyAt1
  simp only [before_sc]
  rw [show (dat1 m c).Φ t1_0.castSucc = iprop(Pipeline.scopedRest spec1 c ∗ (∃ r, prngReg c r) ∗ StableHlo.held (c.tc : Thread nD τ) Hs (W2 m c) ∗ Xk m c) from rfl,
    show (dat1 m c).Φ t1_0.succ = iprop(Pipeline.scopedRest spec1 c ∗ (∃ r, prngReg c r) ∗ StableHlo.held (c.tc : Thread nD τ) Hs (W3 m c) ∗ Pipeline.ownSems0 osem c ∗ Yk c) from rfl,
    show (dat1 m c).after 0 t1_0 = iblk1 m c 0 t1_0 from rfl, scopedRest1_eq, held_Hs, held_Hs, ownSems_eq, bigSep_three, W3_v3, W3_v5]
  unfold Xk
  rw [bigSep_three]
  iintro ⟨⟨⟨G0, G1, G2, G3, S0, S1, S2, S3, S4⟩, Hp, ⟨Hv3, Hv5⟩, ⟨%K, #HC, Hb, Hcb, ⟨Hst, Hsf⟩, Htt, Htf, Hct, Hcf, ⟨L0, L1, L2⟩⟩⟩, HO, ⟨%d, Hw⟩⟩
  ihave HO := (of_owesAt (dat1 m c) t1_0.castSucc ows rfl) $$ HO
  ihave Hw := (owns_hold c (st1_0 t1_0) fullShare (iblk1 m c 0 t1_0)) $$ Hw
  ihave Hw := (hold_congr (c := c) (M := st1_0 t1_0) (B := Finset.univ) (q := fullShare) (Y := iblk1 m c 0 t1_0) (Y' := fun _ => scm m c) (fun x _ => congrFun (iblk1_eq m c t1_0) x)) $$ Hw
  ihave Hv3 := (hold_of_whole c main_v3 fullShare (W2 m c main_v3)) $$ Hv3
  ihave Hv3 := hold_share $$ Hv3
  icases Hv3 with ⟨Hl, Hr⟩
  iapply (body_run (Pm m) (scm m) K c (st1_0 t1_0) (hstage1_0 0) fullShare) $$ [S0 S1 S2 S3 S4 Hv5 Hb Hcb Hst Hsf Htt Htf Hct Hcf L0 L1 L2 HO Hw Hl Hr]
  · isplitr; · iexact HC
    isplitl [HO]; · iexact HO
    isplitl [Hst Htt Hct S0 S2]
    · iapply (start_dir true c)
      isplitl [Hst]; · iexact Hst
      isplitl [Htt]; · iexact Htt
      isplitl [Hct]; · iexact Hct
      isplitl [S0]; · iapply (Entails.of_eq (any_whole (c := c) cc1_scratch0 fullShare).symm); iexact S0
      iapply (Entails.of_eq (any_whole (c := c) cc1_scratch2 fullShare).symm); iexact S2
    isplitl [Hsf Htf Hcf S1 S3]
    · iapply (start_dir false c)
      isplitl [Hsf]; · iexact Hsf
      isplitl [Htf]; · iexact Htf
      isplitl [Hcf]; · iexact Hcf
      isplitl [S1]; · iapply (Entails.of_eq (any_whole (c := c) cc1_scratch1 fullShare).symm); iexact S1
      iapply (Entails.of_eq (any_whole (c := c) cc1_scratch3 fullShare).symm); iexact S3
    isplitl [Hb Hcb Hw]
    · isplitl [Hb]; · iexact Hb
      isplitl [Hcb]; · iexact Hcb
      iexact Hw
    unfold loc
    isplitl [Hl]; · iexact Hl
    isplitl [Hr]; · iexact Hr
    isplitl [L0]; · iexact L0
    isplitl [L1]; · iexact L1
    isplitl [S4]; · iapply (Entails.of_eq (any_whole (c := c) cc1_scratch4 fullShare).symm); iexact S4
    isplitl [L2]; · iexact L2
    iapply (oD_nil (Pm m) (scm m) c)
    iapply (Entails.of_eq (any_whole (c := c) main_v5 fullShare).symm)
    iexists _; iexact Hv5
  iintro ⟨HO, Dt, Df, ⟨Hbar, Hw⟩, Hl, Hr, L0, L1, S4, L2, Hout⟩
  rw [wp_ret]
  imod (close_dir (Pm m) K true c) $$ [Dt] with ⟨St, S0, S2⟩
  · isplitr; · iexact HC
    iexact Dt
  imod (close_dir (Pm m) K false c) $$ [Df] with ⟨Sf, S1, S3⟩
  · isplitr; · iexact HC
    iexact Df
  imodintro
  isplitl [G0 G1 G2 G3 S0 S1 S2 S3 S4 Hp Hl Hr Hout St Sf L0 L1 L2 Hbar]
  · isplitl [G0 G1 G2 G3 S0 S1 S2 S3 S4]
    · isplitl [G0]; · iexact G0
      isplitl [G1]; · iexact G1
      isplitl [G2]; · iexact G2
      isplitl [G3]; · iexact G3
      isplitl [S0]; · iapply (Entails.of_eq (any_whole (c := c) cc1_scratch0 fullShare)); iexact S0
      isplitl [S1]; · iapply (Entails.of_eq (any_whole (c := c) cc1_scratch1 fullShare)); iexact S1
      isplitl [S2]; · iapply (Entails.of_eq (any_whole (c := c) cc1_scratch2 fullShare)); iexact S2
      isplitl [S3]; · iapply (Entails.of_eq (any_whole (c := c) cc1_scratch3 fullShare)); iexact S3
      iapply (Entails.of_eq (any_whole (c := c) cc1_scratch4 fullShare)); iexact S4
    isplitl [Hp]; · iexact Hp
    isplitl [Hl Hr Hout]
    · isplitl [Hl Hr]
      · iapply (whole_of_hold c main_v3 fullShare (W2 m c main_v3))
        iapply hold_unshare
        isplitl [Hl]; · iexact Hl
        iexact Hr
      iapply (whole_of_hold c main_v5 fullShare (outv (Pm m) (scm m c)))
      iexact Hout
    isplitl [St Sf L0 L1 L2]
    · isplitl [St Sf]
      · isplitl [St]; · iexact St
        iexact Sf
      isplitl [L0]; · iexact L0
      isplitl [L1]; · iexact L1
      iexact L2
    unfold Yk; iexact Hbar
  isplitl [HO]
  · iapply (owesAt_of (dat1 m c) t1_0.succ [] rfl rfl); iexact HO
  iapply (hold_owns c (st1_0 t1_0) fullShare (iblk1 m c 0 t1_0))
  iapply (hold_congr (c := c) (M := st1_0 t1_0) (B := Finset.univ) (q := fullShare) (Y := fun _ => scm m c) (Y' := iblk1 m c 0 t1_0) (fun x _ => (congrFun (iblk1_eq m c t1_0) x).symm))
  iexact Hw

theorem body1 (c : Dev nD) : BodyObligation (dat1 m c) (defs₀ (F := F)) 𝒱₀ 0 Set.univ := fun t => by
  rw [bigSep_W1, bigSep_W1, row1]
  exact triple_restated (run1 m c t) rfl .rfl fun _ => .rfl

end Cert.KernelIdeal.Ring
-- ==== Proof.KernelIdeal.Launch.lean ====
/-
# The whole program's run

The two regions as segments beside the host operations, the ghost state dealt at the launch, and what every device holds at the end.
-/
module

public import proofs.«01_k».proof.Proof.KernelIdeal.Regions
public import Idealize.ShloMosaic.Lib.Pipeline.RegionArraysS

@[expose] public section

noncomputable section

namespace Cert.KernelIdeal.Ring

open Cert.KernelIdeal Cert.KernelIdeal.Gen Cert.Hold
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The segments -/

/-- Any nonempty reason to wait is above the staging cells. -/
theorem cutD (c : Dev nD) (g : GSem nD τ sig) (i : ℕ) (h : 0 < (O₀ c) g i) : i ∈ L g ∧ (0 : ℕ) < lv g i := by
  obtain ⟨o, ho, h1, h2, h3⟩ := tl_pos c ows g i ix_lt h
  refine ⟨?_, ?_⟩
  · unfold L; rw [if_pos h2]; exact Finset.mem_range.mpr h3
  · rw [h1]; exact (by decide : ∀ o ∈ ows, 0 < lvO o) o ho

abbrev ℝ𝕊 (p : Fin 2) : Type 1 := Pipeline.RegionSeg (pcfgs (F := F)) Gen.adm (pdats m) 0 defs₀ 𝒱₀ L lv p

theorem arr0 (c : Dev nD) (w : Fin cfg0.W) : (dat0 m c).arrAt w 0 = Gen.V0 m c (Proc.devRef .tc (Pipeline.arrRef spec0 w)) := rfl
theorem arr1 (c : Dev nD) (w : Fin cfg1.W) : (dat1 m c).arrAt w 0 = W2 m c (Proc.devRef .tc (Pipeline.arrRef spec1 w)) := rfl
theorem only1 : ∀ w : Fin cfg1.W, w = 0 := by decide
theorem arr1_end (c : Dev nD) (w : Fin cfg1.W) : (dat1 m c).arrAt w cfg1.N = W3 m c (Proc.devRef .tc (Pipeline.arrRef spec1 w)) := by
  obtain rfl := only1 w
  rw [(dat1 m c).arrAt_in 0 rfl cfg1.N]
  exact (Function.update_of_ne (StableHlo.devRef_ne_of_ne (by decide : (Pipeline.arrRef spec1 0 : Ref sig .tc) ≠ main_v5)) _ (W2 m c)).symm

theorem stage_low0 : ∀ (w : Fin cfg0.W) (s : Fin (cfg0.win w).nbuf), lv (((0 : Dev nD) : Thread nD τ), .dma ((cfg0.win w).sem s)) 0 ≤ 0 := by decide
theorem stage_low1 : ∀ (w : Fin cfg1.W) (s : Fin (cfg1.win w).nbuf), lv (((0 : Dev nD) : Thread nD τ), .dma ((cfg1.win w).sem s)) 0 ≤ 0 := by decide

set_option backward.isDefEq.respectTransparency.types false in
/-- The widening kernel, beside what the exchange keeps. -/
def reg0 : ℝ𝕊 (F := F) m 0 :=
  Pipeline.RegionSeg.ofHeldIn (pcfgs (F := F)) Gen.adm (pdats m) 0 defs₀ 𝒱₀ L lv 0 O₀ (Pipeline.ucRefs τ sig)
    (fun _ => iprop(emp)) (fun _ => iprop(emp)) launch0.toP rfl (fun c => (body0 m c).loose)
    (fun _ _ => rfl) (fun _ => rfl) (fun c w => (dat0 m c).share_full (fun _ => rfl) w)
    (fun c => by
      rw [show (pdats m 0 c).Φ 0 = Pipeline.scopedRest spec0 c from rfl]
      iintro ⟨H, -⟩; iexact H)
    (fun c => by
      rw [show (pdats m 0 c).Φ (Fin.last _) = Pipeline.scopedRest spec0 c from rfl]
      iintro H
      isplitl [H]; · iexact H
      iempintro)
    (fun _ => 0)
    ⟨fun c w s => mem_L c _ 0 (by decide), fun c w s => stage_low0 w s, fun c g i h => cutD c g i h⟩
    (fun c => iprop(Tk m c ∗ ∃ r, prngReg c r)) (Gen.V0 m) (fun c w => arr0 m c w)

/-- The other buffers during the second kernel. -/
abbrev Sr : Finset (DevRef τ sig) := Pipeline.ucRefs τ sig \ Pipeline.arrRefs (τ := τ) spec1

set_option backward.isDefEq.respectTransparency.types false in
/-- The exchanging kernel. -/
def reg1 : ℝ𝕊 (F := F) m 1 :=
  Pipeline.RegionSeg.ofTalk (pcfgs (F := F)) Gen.adm (pdats m) 0 defs₀ 𝒱₀ L lv 1 osem (by decide : Pipeline.OwnSemFacts spec1 osem)
    Hs Sr (by decide) launch1.toP rfl (fun c => (body1 m c).loose)
    (fun _ => 0) O₀ (fun c => (show (pdats m 1 c).owed 0 = O₀ c from rfl).trans (zero_add _).symm) (fun _ => rfl) (fun _ => rfl)
    (fun c w => (dat1 m c).share_full (fun _ => rfl) w)
    (W2 m) (W3 m)
    (fun c b hb => Function.update_of_ne (fun e => by subst e; revert hb; decide) _ _)
    (Tk m) Yk (Xk m) Yk (hopen1 m) (fun _ => .rfl) (fun _ => .rfl)
    (fun c => by iintro H; imodintro; iexact H)
    (fun _ => 0)
    ⟨fun c w s => mem_L c _ 0 (by decide), fun c w s => stage_low1 w s, fun c t g i h => by
      have e : (pdats m 1 c).owed t = if t.val = 0 then O₀ c else 0 := rfl
      rw [e] at h
      split at h
      · exact cutD c g i h
      · exact absurd h (Nat.lt_irrefl 0)⟩
    (fun _ => iprop(emp)) (fun c w => arr1 m c w) (fun c w => arr1_end m c w)

/-- What rides beside the buffers up to the second kernel. -/
def R (c : Dev nD) : sProp 𝕄 := iprop((∃ Wd, owes (c : Thread nD τ) (O₀ c) Wd) ∗ emp ∗ (Tk m c ∗ ∃ r, prngReg c r))

def segH : Pipeline.HostSeg (Ix := ℕ) (Name := ℕ) (U := UU) (Lvl := ℕ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) (R m)

def sgs : List (Pipeline.Seg (pcfgs (F := F)) Gen.adm (pdats m) 0 defs₀ 𝒱₀ L lv) := [.region (reg0 m), .host (segH m), .region (reg1 m)]

theorem arr0_sub : Pipeline.arrRefs (τ := τ) spec0 ⊆ Pipeline.ucRefs τ sig := by decide
theorem arr1_sub : Pipeline.arrRefs (τ := τ) spec1 ⊆ Pipeline.ucRefs τ sig := by decide

theorem reg0_pre (c : Dev nD) : iprop(StableHlo.held (c : Thread nD τ) (Pipeline.ucRefs τ sig) (Gen.V0 m c) ∗ R m c) ⊢ (reg0 m).pre c := by
  show _ ⊢ iprop(StableHlo.held (c.tc : Thread nD τ) (Pipeline.arrRefs (τ := τ) spec0) (Gen.V0 m c) ∗ emp
    ∗ (StableHlo.held (c.tc : Thread nD τ) (Pipeline.ucRefs τ sig \ Pipeline.arrRefs (τ := τ) spec0) (Gen.V0 m c) ∗ (Tk m c ∗ ∃ r, prngReg c r))
    ∗ ∃ Wd, owes (c : Thread nD τ) (O₀ c) Wd)
  rw [StableHlo.held_sub_split (c.tc : Thread nD τ) arr0_sub (Gen.V0 m c)]
  unfold R
  iintro ⟨⟨Ha, Hs⟩, HO, -, HT⟩
  isplitl [Ha]; · iexact Ha
  isplitr; · iempintro
  isplitl [Hs HT]
  · isplitl [Hs]; · iexact Hs
    iexact HT
  iexact HO

theorem reg0_post (c : Dev nD) : (reg0 m).post c ⊢ iprop(StableHlo.held (c : Thread nD τ) (Pipeline.ucRefs τ sig) (W1 m c) ∗ R m c) := by
  show iprop(StableHlo.held (c.tc : Thread nD τ) (Pipeline.arrRefs (τ := τ) spec0) (W1 m c) ∗ emp
    ∗ (StableHlo.held (c.tc : Thread nD τ) (Pipeline.ucRefs τ sig \ Pipeline.arrRefs (τ := τ) spec0) (Gen.V0 m c) ∗ (Tk m c ∗ ∃ r, prngReg c r))
    ∗ ∃ Wd, owes (c : Thread nD τ) (O₀ c) Wd) ⊢ _
  rw [StableHlo.held_sub_split (c.tc : Thread nD τ) arr0_sub (W1 m c),
    StableHlo.held_congr (c.tc : Thread nD τ) (S := Pipeline.ucRefs τ sig \ Pipeline.arrRefs (τ := τ) spec0) (V := W1 m c) (V' := Gen.V0 m c)
      (Pipeline.afterRegion_off (dat0 m c) (Gen.V0 m c) (Pipeline.ucRefs τ sig))]
  unfold R
  iintro ⟨Ha, -, ⟨Hs, HT⟩, HO⟩
  isplitl [Ha Hs]
  · isplitl [Ha]; · iexact Ha
    iexact Hs
  isplitl [HO]; · iexact HO
  isplitr; · iempintro
  iexact HT

theorem reg1_pre (c : Dev nD) : iprop(StableHlo.held (c : Thread nD τ) (Pipeline.ucRefs τ sig) (W2 m c) ∗ R m c) ⊢ (reg1 m).pre c := by
  show _ ⊢ iprop(StableHlo.held (c.tc : Thread nD τ) (Pipeline.arrRefs (τ := τ) spec1) (W2 m c) ∗ (∃ r, prngReg c r)
    ∗ (StableHlo.held (c.tc : Thread nD τ) Sr (W2 m c) ∗ emp) ∗ Tk m c ∗ ∃ Wd, owes (c : Thread nD τ) (0 + O₀ c) Wd)
  rw [StableHlo.held_sub_split (c.tc : Thread nD τ) arr1_sub (W2 m c), zero_add]
  unfold R
  iintro ⟨⟨Ha, Hs⟩, HO, -, HT, Hp⟩
  isplitl [Ha]; · iexact Ha
  isplitl [Hp]; · iexact Hp
  isplitl [Hs]
  · isplitl [Hs]; · iexact Hs
    iempintro
  isplitl [HT]; · iexact HT
  iexact HO

abbrev Tₙ (c : Dev nD) : sProp 𝕄 := iprop(StableHlo.held (c : Thread nD τ) (Pipeline.ucRefs τ sig) (W3 m c) ∗ semVal (barC c) 0)

theorem reg1_post (c : Dev nD) : (reg1 m).post c ⊢ iprop(Tₙ m c ∗ ∃ Wd, owes (c : Thread nD τ) (0 : CellTallies nD τ sig ℕ) Wd) := by
  show iprop(StableHlo.held (c.tc : Thread nD τ) (Pipeline.arrRefs (τ := τ) spec1) (W3 m c) ∗ (∃ r, prngReg c r)
    ∗ (StableHlo.held (c.tc : Thread nD τ) Sr (W3 m c) ∗ emp) ∗ Yk c ∗ ∃ Wd, owes (c : Thread nD τ) (0 : CellTallies nD τ sig ℕ) Wd) ⊢ _
  unfold Tₙ
  rw [StableHlo.held_sub_split (c.tc : Thread nD τ) arr1_sub (W3 m c)]
  unfold Yk
  iintro ⟨Ha, -, ⟨Hs, -⟩, Hb, HO⟩
  isplitr [HO]
  · isplitl [Ha Hs]
    · isplitl [Ha]; · iexact Ha
      iexact Hs
    iexact Hb
  iexact HO

/-! ## The launch -/

theorem disjoint_cells : Disjoint (barCells : Finset (GSem nD τ sig)) scCells := by
  rw [Finset.disjoint_left]
  intro g h₁ h₂
  obtain ⟨c, -, rfl⟩ := Finset.mem_map.mp h₁
  obtain ⟨p, -, h⟩ := Finset.mem_map.mp h₂
  exact scS_ne_bar p.2.1 p.2.2 (congrArg Prod.snd h)

def u₀ : UU :=
  (initOf (Pipeline.cells (Pipeline.pin (pcfgs (F := F)) Gen.adm) cellOf_inj) (Pipeline.launchToks (Pipeline.pin (pcfgs (F := F)) Gen.adm) cellOf_inj),
    (launchOf barCells scCells allToks, 1))

/-- A resource given to the first device alone. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

def G : Dev nD → sProp 𝕄 := first (BI.own (ER (launchOf barCells scCells allToks)))

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barrier0} from by decide, BI.bigSep_singleton]

/-- What each device takes of the rounds. -/
def linear (c : Dev nD) : sProp 𝕄 := iprop(atPos ER (barC c) 0 ∅ 0 ∗ opens c ∗ dirTok true c ∗ dirTok false c)
/-- The rest of what it is launched with. -/
def bundle (c : Dev nD) : sProp 𝕄 :=
  iprop(StableHlo.held (c : Thread nD τ) (Pipeline.ucRefs τ sig) (Gen.V0 m c) ∗ (cred (tallyAt (barC c) 0 2) ∗ dirCred true c ∗ dirCred false c)
    ∗ owes (c : Thread nD τ) (O₀ c) ∅ ∗ ∃ r, prngReg c r)

abbrev T₀ (c : Dev nD) : sProp 𝕄 := iprop(StableHlo.held (c : Thread nD τ) (Pipeline.ucRefs τ sig) (Gen.V0 m c) ∗ R m c)

theorem T₀_intro (κ : GSem nD τ sig → ℕ) (c : Dev nD) : iprop(Ctx (Pm m) κ ∗ (linear c ∗ bundle m c)) ⊢ (T₀ m c : sProp 𝕄) := by
  unfold bundle T₀ R Tk linear
  iintro ⟨#HC, ⟨Hb, Ho, Ht, Hf⟩, Hh, ⟨H1, Hct, Hcf⟩, HO, Hp⟩
  isplitl [Hh]; · iexact Hh
  isplitl [HO]; · iexists ∅; iexact HO
  isplitr; · iempintro
  isplitr [Hp]
  · iexists κ
    isplitr; · iexact HC
    isplitl [Hb]; · iexact Hb
    isplitl [H1]; · iexact H1
    isplitl [Ho]; · iexact Ho
    isplitl [Ht]; · iexact Ht
    isplitl [Hf]; · iexact Hf
    isplitl [Hct]; · iexact Hct
    iexact Hcf
  iexact Hp

/-- Everything the machine is launched with, dealt to the devices. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barC c) 0 ∗ G c)) : sProp 𝕄) := by
    rw [show (unscopedBufs c (fun b => m ((c : Thread nD τ).loc b)) : sProp 𝕄) = StableHlo.held (c : Thread nD τ) (Pipeline.ucRefs τ sig) (Gen.V0 m c) from
      Pipeline.unscopedBufs_held c (Gen.V0 m c), unscopedSems0_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ ((bigSep Finset.univ fun c : Dev nD => bundle m c) ∗ ((bigSep Finset.univ fun c : Dev nD => (semVal (barC c) 0 : sProp 𝕄)) ∗ bigSep Finset.univ (G (F := F))) : sProp 𝕄)
      from (bigSep_mono fun c _ => hcore c).trans (by rw [bigSep_sep', bigSep_sep']; exact BI.Entails.refl _)) $$ H
  icases H' with ⟨HB, Hv, HG⟩
  ihave Hu := (show bigSep Finset.univ (G (F := F)) ⊢ BI.own (ER (launchOf barCells scCells allToks)) from
    Entails.of_eq (bigSep_first (F := F) (BI.own (ER (launchOf barCells scCells allToks))))) $$ HG
  imod (Rounds.fund_launch ER (rd (Pm m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := Ctx (Pm m) κ) (Φ := fun c => iprop(linear c ∗ bundle m c)) fun c _ => T₀_intro m κ c)
  isplitr
  · unfold Ctx
    isplitr; · iexact Hinv
    isplitr; · iexact Hr
    iexact HL
  rw [bigSep_sep']
  isplitr [HB]
  · unfold linear
    rw [bigSep_sep', bigSep_sep']
    isplitl [Hat]; · iapply hat $$ Hat
    isplitl [Hopen]; · iapply (deal_opens (F := F)) $$ Hopen
    iapply (deal_toks (F := F)) $$ Htok
  · iexact HB

/-! ## The run -/

theorem unscoped_eq : ∀ sm : SemLoc sig, sm.isScoped .tc = false → sm = .reg barrier0 := by decide

set_option backward.isDefEq.respectTransparency.types false in
/-- Every weakly fair execution ends, with every buffer at the last contents and every counter at zero. -/
theorem run_all : θ_run defs (onTc (τ := τ) (main (F := F))) ⟨m, fun _ => 0, ρ⟩
    (fun r => (∀ c : Dev nD, ∀ b ∈ Pipeline.ucRefs τ sig, r.2.mem ((c : Thread nD τ).1, b) = W3 m c b) ∧ r.2.sem = fun _ => 0) :=
  Pipeline.θ_run_regions_kit_sems (pcfgs (F := F)) Gen.adm (pdats m) 0 cellOf_inj EP defs₀ 𝒱₀ L lv m ρ main (sgs m)
    (fun c Q => by
      rewrite [main_chain c, Pipeline.Seg.run_eq_chain, show (sgs m).map Pipeline.Seg.prog = [Prog.lift (.customCall (Pipeline.entry 0) ()),
        StableHlo.seq hostOps1, Prog.lift (.customCall (Pipeline.entry 1) ())] from rfl]
      dsimp (config := { failIfUnchanged := false }) only
      exact .rfl)
    (by simp only [sgs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_first]; iexact HX)
    (T₀ := T₀ m) (Tₙ := Tₙ m)
    (hch := by
      exact ⟨fun c => reg0_pre m c, fun c => reg0_post m c, fun c => reg1_pre m c, fun c => reg1_post m c⟩)
    (hinit := init m ρ)
    (QY := fun c s => (∀ b ∈ Pipeline.ucRefs τ sig, s.mem ((c : Thread nD τ).1, b) = W3 m c b) ∧ s.sem (barC c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro; exact ⟨h, by simpa using hb⟩
      iexact HSI)
    (hQ := fun s h hs => ⟨fun c => (h c).1, sem_eq_zero hs fun c sm hsm => by
        obtain rfl := unscoped_eq sm hsm
        exact (h c).2⟩)

/-! ## Read at the arguments and the result -/

theorem W1_arg (c : Dev nD) (r : Ref sig .tc) (h : ∀ w : Fin cfg0.W, Pipeline.arrRef spec0 w = r → (cfg0.win w).isOut = false) :
    W1 m c r = m ((c : Thread nD τ).loc r) :=
  Pipeline.afterRegion_keeps (dat0 m c) (Gen.V0 m c) winFacts0.arr_inj (fun _ => rfl) r h
theorem W2_arg (c : Dev nD) (r : Ref sig .tc) (h : r ∉ hostOps1_W) : W2 m c r = W1 m c r :=
  StableHlo.after_of_writes_sub hostOps1 _ hostOps1_writes h
theorem W3_arg (c : Dev nD) (r : Ref sig .tc) (h0 : ∀ w : Fin cfg0.W, Pipeline.arrRef spec0 w = r → (cfg0.win w).isOut = false)
    (h1 : r ∉ hostOps1_W) (h2 : r ≠ main_v5) : W3 m c r = m ((c : Thread nD τ).loc r) :=
  ((Function.update_of_ne (StableHlo.devRef_ne_of_ne h2) _ _).trans (W2_arg m c r h1)).trans (W1_arg m c r h0)

/-- The run: the arguments as they were, the result every device's epilogue of the summed partial products, the counters zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v5) = (show Buf (Elt F) ((c : Thread nD τ).loc main_v5) from outv (Pm m) (scm m c)))
    ∧ r.2.sem = fun _ => 0) :=
  (θ_run defs _ _).mono (fun r h => ⟨fun c =>
    ⟨(h.1 c (Proc.devRef .tc main_arg0) (Finset.mem_filter.mpr ⟨StableHlo.devRef_mem_tcRefs main_arg0, by decide⟩)).trans (W3_arg m c main_arg0 (by decide) (by decide) (by decide)),
      (h.1 c (Proc.devRef .tc main_arg1) (Finset.mem_filter.mpr ⟨StableHlo.devRef_mem_tcRefs main_arg1, by decide⟩)).trans (W3_arg m c main_arg1 (by decide) (by decide) (by decide)),
      (h.1 c (Proc.devRef .tc main_arg2) (Finset.mem_filter.mpr ⟨StableHlo.devRef_mem_tcRefs main_arg2, by decide⟩)).trans (W3_arg m c main_arg2 (by decide) (by decide) (by decide)),
      (h.1 c (Proc.devRef .tc main_arg3) (Finset.mem_filter.mpr ⟨StableHlo.devRef_mem_tcRefs main_arg3, by decide⟩)).trans (W3_arg m c main_arg3 (by decide) (by decide) (by decide)),
      (h.1 c (Proc.devRef .tc main_v5) (Finset.mem_filter.mpr ⟨StableHlo.devRef_mem_tcRefs main_v5, by decide⟩)).trans (W3_v5 m c)⟩, h.2⟩)
    (run_all m ρ)

end Cert.KernelIdeal.Ring
-- ==== Proof.Maths.lean ====
/-
# Sums and the sigmoid gate over the extended reals

What the value proofs use of arithmetic: a product's sum over 4096 places is four sums over 1024, and a product with a
reciprocal is a quotient.
-/
module

public import Idealize.ShloMosaic.Lib.MatmulPlain
public import Idealize.ShloMosaic.Lib.StackMember
public import Idealize.ShloMosaic.Lib.IdealHost

@[expose] public section

noncomputable section

namespace Cert.Maths

open Idealize.ShloMosaic

/-- The exponential is never negative. -/
theorem exp_nonneg (y : EReal) : 0 ≤ Ideal.exp y := by
  induction y with
  | bot => exact le_refl _
  | top => exact le_top
  | coe r => exact EReal.coe_nonneg.mpr (Real.exp_pos r).le

/-- The gate's divisor is not zero. -/
theorem gate_ne (y : EReal) : 1 + Ideal.exp y ≠ 0 := fun h =>
  absurd (h ▸ le_add_of_nonneg_right (exp_nonneg y) : (1 : EReal) ≤ 0) (not_le.mpr zero_lt_one)

/-- `y` times the reciprocal of the gate's divisor is the quotient. -/
theorem gate_eq (y z : EReal) : y * Ideal.div 1 (1 + Ideal.exp z) = Ideal.div y (1 + Ideal.exp z) :=
  Ideal.mul_one_div (gate_ne z)

/-- A sum over 4096 places is the four sums over 1024 of them. -/
theorem sum_split (f : Fin 4096 → EReal) :
    ∑ d : Fin 4, ∑ k : Fin 1024, f ⟨1024 * d.val + k.val, by omega⟩ = ∑ k : Fin 4096, f k := by
  rw [← Fintype.sum_prod_type' (f := fun (d : Fin 4) (k : Fin 1024) => f ⟨1024 * d.val + k.val, by omega⟩)]
  refine Fintype.sum_equiv (finProdFinEquiv (m := 4) (n := 1024)) _ f fun p => congrArg f (Fin.ext ?_)
  show 1024 * p.1.val + p.2.val = p.2.val + 1024 * p.1.val
  omega

/-- A sum over the four devices in the order a chain of them adds it up, from any device in either direction. -/
theorem sum_up (f : Fin 4 → EReal) : ∀ c : Fin 4, f (c + 1) + f (c + 2) + f (c + 3) + f c = ∑ d, f d
  | 0 => by rw [Fin.sum_univ_four]; show f 1 + f 2 + f 3 + f 0 = f 0 + f 1 + f 2 + f 3; ac_rfl
  | 1 => by rw [Fin.sum_univ_four]; show f 2 + f 3 + f 0 + f 1 = f 0 + f 1 + f 2 + f 3; ac_rfl
  | 2 => by rw [Fin.sum_univ_four]; show f 3 + f 0 + f 1 + f 2 = f 0 + f 1 + f 2 + f 3; ac_rfl
  | 3 => by rw [Fin.sum_univ_four]; show f 0 + f 1 + f 2 + f 3 = f 0 + f 1 + f 2 + f 3; ac_rfl
theorem sum_down (f : Fin 4 → EReal) (c : Fin 4) : f (c + 3) + f (c + 2) + f (c + 1) + f c = ∑ d, f d := by
  rw [← sum_up f c]; congr 1; ac_rfl

end Cert.Maths

end
-- ==== Proof.RefValue.lean ====
/-
# The reference's result as one function of its arguments
-/
module

public import proofs.«01_k».proof.Proof.Gen.ReferenceIdeal.Value
public import proofs.«01_k».proof.Proof.Maths
public import Idealize.ShloMosaic.Lib.Pipeline.ValueKit

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem

section Any

variable {F : FTy → Type} [FloatOps F]

/-- The result: what the body stores, of the whole argument arrays. -/
def whole (x : Vec F S4096x4096 .fp8e4m3) (w : Vec F S4096x8192 .fp8e4m3) (a b : Vec F S1 .f32) : Vec F S4096x8192 .f32 :=
  k0_pay1 x w (a (ValueIdx.ix1 0)) (b (ValueIdx.ix1 0))

theorem zero2 : (![0, 0] : Fin 2 → Nat) = fun _ => 0 := by funext a; fin_cases a <;> rfl
theorem only (i : S1.Idx) : i = ValueIdx.ix1 0 := by
  funext a; apply Fin.ext
  match a with
  | ⟨0, _⟩ => have h : (i 0).val < 1 := (i 0).isLt; show (i 0).val = 0; omega

/-- The body's one store fills the result's staging buffer with that function of the loaded blocks. -/
theorem stored (c : Dev nD) (a0 : Memref sig .tc .vmem S4096x4096 .fp8e4m3) (h0 : a0.IsWhole) (a1 : Memref sig .tc .vmem S4096x8192 .fp8e4m3)
    (h1 : a1.IsWhole) (a2 : Memref sig .tc .smem S1 .f32) (h2 : a2.IsWhole) (a3 : Memref sig .tc .smem S1 .f32) (h3 : a3.IsWhole)
    (a4 : Memref sig .tc .vmem S4096x8192 .f32) (h4 : a4.IsWhole)
    (x : Vec F S4096x4096 .fp8e4m3) (w : Vec F S4096x8192 .fp8e4m3) (a b : Vec F S1 .f32) :
    out0_A_4 c a0 h0 a1 h1 a2 h2 a3 h3 a4 h4 x w a b = whole x w a b := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x))
        (View.readAt (Elt F) a1.view (Rect.unit ![0, 0] S4096x8192.size inb_S4096x8192_S4096x8192_0_0).toLoadRect (h1.unread w))
        (View.readAt (Elt F) a2.view (Rect.unit (s := S1) ![0] S1.size inb_S1_S1_0).toLoadRect (h2.unread a) _)
        (View.readAt (Elt F) a3.view (Rect.unit (s := S1) ![0] S1.size inb_S1_S1_0).toLoadRect (h3.unread b) _)⟩] :
      List (View.Piece (Elt F) S4096x8192 .f32)) = _
  rw [View.canon_unit_zero zero2]
  simp only [View.readAt_eq_ld, h0.read_unread, h1.read_unread, h2.read_unread, h3.read_unread]
  rw [View.ld_unit_zero zero2, View.ld_unit_zero zero2]
  exact congrArg₂ (k0_pay1 x w) (congrArg a (only _)) (congrArg b (only _))

variable (m : (ℓ : Loc nD τ sig) → Buf (Elt F) ℓ) (ρ : Dev nD → PrngReg)

/-- At the one point each window's block starts at zero. -/
theorem at_zero : ∀ t : Fin cfg0.N, (win0_0.index t (0 : Fin 2) = 0 ∧ win0_0.index t (1 : Fin 2) = 0)
    ∧ (win0_1.index t (0 : Fin 2) = 0 ∧ win0_1.index t (1 : Fin 2) = 0) :=
  (by decide +kernel : ∀ t : Fin grid0.N, _)

/-- So an input's block is its array. -/
theorem blk0 (c : Dev nD) (t : Fin cfg0.N) : iblk m c 0 t = m ((c : Thread nD τ).loc main_arg0) := by
  have e := (at_zero t).1
  funext j
  show V m c main_arg0 (((cfg0.win 0).blk t).view.emb j) = _
  rw [V_main_arg0]; congr 1; funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega
theorem blk1 (c : Dev nD) (t : Fin cfg0.N) : iblk m c 1 t = m ((c : Thread nD τ).loc main_arg1) := by
  have e := (at_zero t).2
  funext j
  show V m c main_arg1 (((cfg0.win 1).blk t).view.emb j) = _
  rw [V_main_arg1]; congr 1; funext a; apply Fin.ext
  match a with
  | ⟨0, _⟩ => show win0_1.index t (0 : Fin 2) * 4096 + 1 * (j 0).val = (j 0).val; omega
  | ⟨1, _⟩ => show win0_1.index t (1 : Fin 2) * 8192 + 1 * (j 1).val = (j 1).val; omega
theorem blk2 (c : Dev nD) (t : Fin cfg0.N) : iblk m c 2 t = m ((c : Thread nD τ).loc main_arg2) := by
  funext j
  show V m c main_arg2 (((cfg0.win 2).blk t).view.emb j) = _
  rw [V_main_arg2]; exact congrArg _ ((only _).trans (only j).symm)
theorem blk3 (c : Dev nD) (t : Fin cfg0.N) : iblk m c 3 t = m ((c : Thread nD τ).loc main_arg3) := by
  funext j
  show V m c main_arg3 (((cfg0.win 3).blk t).view.emb j) = _
  rw [V_main_arg3]; exact congrArg _ ((only _).trans (only j).symm)

/-- The result array after the run. -/
theorem result (c : Dev nD) : (dats m 0 c).arrAt 4 cfg0.N = whole (m ((c : Thread nD τ).loc main_arg0)) (m ((c : Thread nD τ).loc main_arg1))
    (m ((c : Thread nD τ).loc main_arg2)) (m ((c : Thread nD τ).loc main_arg3)) := by
  refine (dats m 0 c).arrAt_eq_of_after_last 4 (⟨0, by decide⟩ : Fin cfg0.N) (by decide +kernel) _ fun j => ?_
  show (dats m 0 c).after 4 (⟨0, by decide⟩ : Fin cfg0.N) j = _
  rw [after0_4]
  unfold outsAt0
  rw [stored, blk0, blk1, blk2, blk3]
  rfl

end Any

/-- Over the reals: one element of the result, the gate of the scaled product. -/
theorem whole_apply (x : Vec Ideal S4096x4096 .fp8e4m3) (w : Vec Ideal S4096x8192 .fp8e4m3) (a b : Vec Ideal S1 .f32)
    (r : Fin 4096) (j : Fin 8192) (y : EReal)
    (hy : y = (∑ k : Fin 4096, x (ValueIdx.ix2 r k) * w (ValueIdx.ix2 k j)) * (a (ValueIdx.ix1 0) * b (ValueIdx.ix1 0))) :
    whole (F := Ideal) x w a b (ValueIdx.ix2 r j) = Ideal.div y (1 + Ideal.exp (0 - y)) := by
  have e : FloatOps.matmul (F := Ideal) (DotDims.plain 4096 4096 8192) none (show FVec Ideal ⟨2, ![4096, 4096]⟩ .f32 from x)
      (show FVec Ideal ⟨2, ![4096, 8192]⟩ .f32 from w) (constant (F := Ideal) S4096x8192 .f32 0x00000000#32) (ValueIdx.ix2 r j)
      = ∑ k : Fin 4096, x (ValueIdx.ix2 r k) * w (ValueIdx.ix2 k j) := by
    rw [Ideal.matmul_plain_apply, show constant (F := Ideal) S4096x8192 .f32 0x00000000#32 (ValueIdx.ix2 r j) = Ideal.ofBits .f32 0x00000000#32 from rfl,
      Ideal.ofBits_zero_f32, zero_add]
  have e' : y = FloatOps.matmul (F := Ideal) (DotDims.plain 4096 4096 8192) none (show FVec Ideal ⟨2, ![4096, 4096]⟩ .f32 from x)
      (show FVec Ideal ⟨2, ![4096, 8192]⟩ .f32 from w) (constant (F := Ideal) S4096x8192 .f32 0x00000000#32) (ValueIdx.ix2 r j)
      * (a (ValueIdx.ix1 0) * b (ValueIdx.ix1 0)) := by rw [e, hy]
  rw [e', ← Ideal.ofBits_one_f32, ← Ideal.ofBits_zero_f32]
  rfl

end Cert.ReferenceIdeal.Whole

end
-- ==== Proof.RingValue.lean ====
/-
# The kernel's result over the reals

A device's partial product as a sum, the four of them added up round the ring, and the gate: the result is the reference's.
-/
module

public import proofs.«01_k».proof.Proof.KernelIdeal.Launch
public import proofs.«01_k».proof.Proof.RefValue
public import Idealize.ShloMosaic.Lib.Pointwise.Reshape
public import Idealize.ShloMosaic.Lib.Layout

@[expose] public section

noncomputable section

namespace Cert.KernelIdeal.Ring

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-! ## The widened operands -/

/-- A device's arguments, read as numbers. -/
def xa (c : Dev nD) : S4096x1024.Idx → EReal := m ((c : Thread nD τ).loc main_arg0)
def wa (c : Dev nD) : S1024x8192.Idx → EReal := m ((c : Thread nD τ).loc main_arg1)
def sa (c : Dev nD) : S1.Idx → EReal := m ((c : Thread nD τ).loc main_arg2)
def sb (c : Dev nD) : S1.Idx → EReal := m ((c : Thread nD τ).loc main_arg3)

/-- Over the reals widening changes nothing. -/
theorem pay1_eq (v : Vec Ideal S4096x1024 .fp8e4m3) : (k0_pay1 (F := Ideal) v : S4096x1024.Idx → EReal) = v :=
  (show _ = shapeCast S4096x1024 v shapeCasts_S4096x1024_S4096x1024 from rfl).trans (shapeCast_id _ _)
theorem pay2_eq (v : Vec Ideal S1024x8192 .fp8e4m3) : (k0_pay2 (F := Ideal) v : S1024x8192.Idx → EReal) = v :=
  (show _ = shapeCast S1024x8192 v shapeCasts_S1024x8192_S1024x8192 from rfl).trans (shapeCast_id _ _)

/-- At the one point each window's block starts at zero, so it is the array. -/
theorem at_zero : ∀ t : Fin cfg0.N, (win0_0.index t (0 : Fin 2) = 0 ∧ win0_0.index t (1 : Fin 2) = 0)
    ∧ (win0_1.index t (0 : Fin 2) = 0 ∧ win0_1.index t (1 : Fin 2) = 0) :=
  (by decide +kernel : ∀ t : Fin grid0.N, _)
theorem in0 (c : Dev nD) (t : Fin cfg0.N) : iblk0 m c 0 t = xa m c := by
  have e := (at_zero t).1
  funext j
  show m ((c : Thread nD τ).loc main_arg0) (((cfg0.win 0).blk t).view.emb j) = m ((c : Thread nD τ).loc main_arg0) j
  congr 1; funext a; apply Fin.ext
  match a with
  | ⟨0, _⟩ => show win0_0.index t (0 : Fin 2) * 4096 + 1 * (j 0).val = (j 0).val; omega
  | ⟨1, _⟩ => show win0_0.index t (1 : Fin 2) * 1024 + 1 * (j 1).val = (j 1).val; omega
theorem in1 (c : Dev nD) (t : Fin cfg0.N) : iblk0 m c 1 t = wa m c := by
  have e := (at_zero t).2
  funext j
  show m ((c : Thread nD τ).loc main_arg1) (((cfg0.win 1).blk t).view.emb j) = m ((c : Thread nD τ).loc main_arg1) j
  congr 1; funext a; apply Fin.ext
  match a with
  | ⟨0, _⟩ => show win0_1.index t (0 : Fin 2) * 1024 + 1 * (j 0).val = (j 0).val; omega
  | ⟨1, _⟩ => show win0_1.index t (1 : Fin 2) * 8192 + 1 * (j 1).val = (j 1).val; omega

/-- The first kernel leaves its first operand. -/
theorem wide0 (c : Dev nD) : (show S4096x1024.Idx → EReal from W1 m c main_v1_0) = xa m c := by
  refine (Pipeline.afterRegion_arr (dat0 m c) (Gen.V0 m c) winFacts0.arr_inj 2).trans ?_
  refine (dat0 m c).arrAt_eq_of_after_last 2 (⟨0, by decide⟩ : Fin cfg0.N) (by decide +kernel) _ fun j => ?_
  exact congrFun ((pay1_eq _).trans (in0 m c (⟨0, by decide⟩ : Fin cfg0.N))) j

/-- And its second. -/
theorem wide1 (c : Dev nD) : (show S1024x8192.Idx → EReal from W1 m c main_v1_1) = wa m c := by
  refine (Pipeline.afterRegion_arr (dat0 m c) (Gen.V0 m c) winFacts0.arr_inj 3).trans ?_
  refine (dat0 m c).arrAt_eq_of_after_last 3 (⟨0, by decide⟩ : Fin cfg0.N) (by decide +kernel) _ fun j => ?_
  exact congrFun ((pay2_eq _).trans (in1 m c (⟨0, by decide⟩ : Fin cfg0.N))) j

/-! ## The host operations between -/

/-- A device's partial product: 1024 products added up. -/
theorem Pm_apply (c : Dev nD) (r : Fin 4096) (j : Fin 8192) : (Pm m c (ValueIdx.ix2 r j) : EReal)
    = ∑ k : Fin 1024, xa m c (ValueIdx.ix2 r k) * wa m c (ValueIdx.ix2 k j) := by
  have e : W2 m c main_v3 = truncf (F := Ideal) .bf16 (Host.dotGeneral (φ₁ := .bf16) (φ₂ := .bf16) dot_S4096x1024_S1024x8192_S4096x8192_1_0_0_1_n_n none
      (W1 m c main_v1_0) (W1 m c main_v1_1)) bitsLt_bf16_f32 := by
    unfold W2; after_results
  unfold Pm; rw [e]
  refine (StackMember.dotGeneral_plain_apply (m := 4096) (k := 1024) (n := 8192) none (show FVec Ideal ⟨2, ![4096, 1024]⟩ .bf16 from W1 m c main_v1_0)
    (show FVec Ideal ⟨2, ![1024, 8192]⟩ .bf16 from W1 m c main_v1_1) r j).trans ?_
  refine Finset.sum_congr rfl fun k _ => ?_
  exact congrArg₂ (· * ·) (congrFun (wide0 m c) (ValueIdx.ix2 r k)) (congrFun (wide1 m c) (ValueIdx.ix2 k j))

/-- The scale: the two given scales multiplied. -/
theorem scm_eq (c : Dev nD) : (scm m c : EReal) = sa m c (ValueIdx.ix1 0) * sb m c (ValueIdx.ix1 0) := by
  have e : (show FVec Ideal S1 .f32 from W2 m c main_v4) = mulf (F := Ideal) (φ := .f32) (s := S1) (W1 m c main_arg2) (W1 m c main_arg3) := by
    unfold W2; after_results
  unfold scm; refine (congrFun e _).trans ?_
  rw [W1_arg m c main_arg2 (by decide), W1_arg m c main_arg3 (by decide)]
  rfl

/-! ## Round the ring -/

/-- What reaches device `c` after three additions is its row block of the four partial products, added up. -/
theorem X_three (P : Dev nD → S4096x8192.Idx → Elt Ideal .bf16) (d : Bool) (c : Dev nD) (x : S1024x4096.Idx) :
    (X P d 3 c x : EReal) = ∑ e : Fin 4, (chunk d (P e) c x : EReal) := by
  rw [X_add P d 2 (by decide), X_add P d 1 (by decide), X_add P d 0 (by decide), X_zero]
  cases d
  · refine Eq.trans ?_ (Cert.Maths.sum_down (fun e => (chunk false (P e) c x : EReal)) c)
    match c with
    | 0 => rfl
    | 1 => rfl
    | 2 => rfl
    | 3 => rfl
  · refine Eq.trans ?_ (Cert.Maths.sum_up (fun e => (chunk true (P e) c x : EReal)) c)
    match c with
    | 0 => rfl
    | 1 => rfl
    | 2 => rfl
    | 3 => rfl

/-- One element of the result: the gate of the scaled sum of the four partial products there. -/
theorem outv_apply (P : Dev nD → S4096x8192.Idx → Elt Ideal .bf16) (s : EReal) (r : Fin 4096) (j : Fin 8192) (y : EReal)
    (hy : y = (∑ e : Fin 4, (P e (ValueIdx.ix2 r j) : EReal)) * s) :
    (outv (F := Ideal) P s (ValueIdx.ix2 r j) : EReal) = Ideal.div y (1 + Ideal.exp (0 - y)) := by
  have h1 : (X P (decide (j.val < 4096)) 3 ⟨r.val / 1024, by have := r.isLt; show _ < 4; omega⟩
      (ValueIdx.ix2 ⟨r.val % 1024, Nat.mod_lt _ (by decide)⟩ ⟨j.val % 4096, Nat.mod_lt _ (by decide)⟩) : EReal)
      = ∑ e : Fin 4, (P e (ValueIdx.ix2 r j) : EReal) := by
    rw [X_three]
    refine Finset.sum_congr rfl fun e _ => congrArg (P e) ?_
    congr 1
    · apply Fin.ext; show 1024 * (r.val / 1024) + r.val % 1024 = r.val; omega
    · apply Fin.ext
      show (if decide (j.val < 4096) = true then 0 else 4096) + j.val % 4096 = j.val
      have := j.isLt
      by_cases h : j.val < 4096
      · rw [if_pos (decide_eq_true h)]; omega
      · rw [if_neg (by simpa using h)]; omega
  rw [← Cert.Maths.gate_eq, hy, ← h1, ← Ideal.ofBits_one_f32, ← Ideal.ofBits_zero_f32]
  rfl

/-! ## The reference's result -/

/-- On blocks of whole operands every device's result is the reference's, whole: an inner index over 4096 places is a device
    and a place in its block. -/
theorem outv_eq_whole (x : Cert.ReferenceIdeal.S4096x4096.Idx → EReal) (w : S4096x8192.Idx → EReal) (a b : S1.Idx → EReal)
    (hx : ∀ c, xa m c = Layout.block ⟨2, ![4096, 1024]⟩ ⟨2, ![4096, 4096]⟩ 1 4 c x)
    (hw : ∀ c, wa m c = Layout.block ⟨2, ![1024, 8192]⟩ ⟨2, ![4096, 8192]⟩ 0 4 c w)
    (ha : ∀ c, sa m c = a) (hb : ∀ c, sb m c = b) (c : Dev nD) :
    (outv (F := Ideal) (Pm m) (scm m c) : S4096x8192.Idx → EReal) = Cert.ReferenceIdeal.Whole.whole (F := Ideal) x w a b := by
  funext i
  obtain ⟨r, j, rfl⟩ : ∃ (r : Fin 4096) (j : Fin 8192), i = ValueIdx.ix2 r j := ⟨i 0, i 1, ValueIdx.eq_ix2 i⟩
  have hs : ∑ e : Fin 4, (Pm m e (ValueIdx.ix2 r j) : EReal) = ∑ k : Fin 4096, x (ValueIdx.ix2 r k) * w (ValueIdx.ix2 k j) := by
    rw [← Cert.Maths.sum_split]
    refine Finset.sum_congr rfl fun e _ => (Pm_apply m e r j).trans (Finset.sum_congr rfl fun k _ => ?_)
    rw [hx, hw, Layout.block_apply, Layout.block_apply]
    congr 2 <;> (funext q; apply Fin.ext; rw [Layout.Tiles.idx_val])
    · match q with
      | ⟨0, _⟩ => rfl
      | ⟨1, _⟩ => show e.val * 1024 + k.val = 1024 * e.val + k.val; omega
    · match q with
      | ⟨0, _⟩ => show e.val * 1024 + k.val = 1024 * e.val + k.val; omega
      | ⟨1, _⟩ => rfl
  rw [outv_apply (Pm m) (scm m c) r j _ rfl, hs, scm_eq, ha, hb]
  exact (Cert.ReferenceIdeal.Whole.whole_apply x w a b r j _ rfl).symm

end Cert.KernelIdeal.Ring

end
-- ==== Proof.Bridge.lean ====
/-
# Clipping the gate's argument

The gate with its argument clipped to [-60, 60] is the gate itself wherever the scaled product lies there.
-/
module

public import proofs.«01_k».proof.Defs
public import proofs.«01_k».proof.Proof.Gen.SiluIdeal
public import proofs.«01_k».proof.Proof.Gen.SiluIdeal.Run
public import proofs.«01_k».proof.Proof.Gen.ClippedIdeal
public import proofs.«01_k».proof.Proof.Gen.ClippedIdeal.Run
public import proofs.«01_k».proof.Proof.Gen.Pre_within_clip
public import Idealize.ShloMosaic.Lib.WordCmp
public import Idealize.ShloMosaic.Lib.IdealHost
public import Idealize.ShloMosaic.Lib.Quiescent

@[expose] public section

noncomputable section

namespace Cert.Bridge

open Idealize.ShloMosaic Idealize.ShloMosaic.TcCoe Idealize.SL.Sem

/-- The clip's bounds. -/
theorem sixty : Ideal.ofBits .f32 0x42700000#32 = ((60 : ℝ) : EReal) := by
  simp [Ideal.ofBits, Ideal.ieee, -EReal.coe_mul]; norm_num
theorem minus_sixty : Ideal.ofBits .f32 0xC2700000#32 = ((-60 : ℝ) : EReal) := by
  simp [Ideal.ofBits, Ideal.ieee, -EReal.coe_mul, -EReal.coe_neg]; norm_num

/-- A number of size at most 60 is its own clip. -/
theorem clip_eq (y : EReal) (h : max y (-y) ≤ Ideal.ofBits .f32 0x42700000#32) :
    min (Ideal.ofBits .f32 0x42700000#32) (max (Ideal.ofBits .f32 0xC2700000#32) y) = y := by
  rw [sixty] at h; rw [sixty, minus_sixty]
  have h1 : y ≤ ((60 : ℝ) : EReal) := (le_max_left _ _).trans h
  have h2 : ((-60 : ℝ) : EReal) ≤ y := by
    have := EReal.neg_le_neg_iff.mpr ((le_max_right _ _).trans h)
    rwa [neg_neg, ← EReal.coe_neg] at this
  rw [max_eq_right h2, min_eq_right h1]

/-- The two host programs run and leave their arguments. -/
theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)
theorem frame_clipped : Cert.quiescent_ClippedIdeal := fun m ρ _ =>
  (θ_run Cert.ClippedIdeal.defs _ _).mono (fun r h => ⟨fun c => (h c).2, sem_eq_zero_of_no_sems (by decide) r.2⟩)
    (Cert.ClippedIdeal.Value.run (F := Ideal) m ρ)

/-- Where the scaled product lies within the clip the clipped gate gives what the gate gives. -/
theorem same : Cert.algebraic_SiluIdeal_ClippedIdeal_pre_within_clip := by
  intro m g m' g' hp hag
  refine ⟨fun c => _, Cert.SiluIdeal.Value.run (F := Ideal) m g,
    (θ_run Cert.ClippedIdeal.defs _ _).mono (fun r h c => ⟨(h c).1.trans ?_, (h c).2⟩) (Cert.ClippedIdeal.Value.run (F := Ideal) m' g')⟩
  rw [(hag c).1, (hag c).2.1, (hag c).2.2.1, (hag c).2.2.2]
  refine congrArg (fun z : FVec Ideal Cert.SiluIdeal.S4096x8192 .f32 => Host.divf _ (addf _ (Host.exp (Host.negf z)))) ?_
  funext i
  refine clip_eq _ ?_
  have := congrFun (hp c) i
  exact of_decide_eq_true (WordCmp.ofBool_eq_one_iff _ |>.mp this)

end Cert.Bridge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.SiluIdeal
public import proofs.«01_k».proof.Proof.Gen.SiluIdeal.Run
public import proofs.«01_k».proof.Proof.Gen.ClippedIdeal
public import proofs.«01_k».proof.Proof.Gen.ClippedIdeal.Run
public import proofs.«01_k».proof.Proof.Gen.Pre_within_clip
public import proofs.«01_k».proof.Proof.Kernel.Launch
public import proofs.«01_k».proof.Proof.RingValue
public import proofs.«01_k».proof.Proof.Bridge
public import Idealize.ShloMosaic.Adequacy
public import Idealize.ShloMosaic.Init

@[expose] public section

noncomputable section

namespace Cert.Proof

open Idealize.ShloMosaic Idealize.SL.Sem Cert.Kernel

/-- The kernel, its floats words and its floats reals: it runs, leaves its arguments, and every counter ends at zero. -/
theorem frame_kernel : Cert.quiescent_Kernel := fun m g _ =>
  (θ_run Cert.Kernel.defs _ _).mono (fun r h => ⟨fun c => ⟨(h.1 c).1, (h.1 c).2.1, (h.1 c).2.2.1, (h.1 c).2.2.2.1⟩, h.2⟩)
    (Cert.Kernel.Ring.run_main m g)
theorem frame_ideal : Cert.quiescent_KernelIdeal := fun m g _ =>
  (θ_run Cert.KernelIdeal.defs _ _).mono (fun r h => ⟨fun c => ⟨(h.1 c).1, (h.1 c).2.1, (h.1 c).2.2.1, (h.1 c).2.2.2.1⟩, h.2⟩)
    (Cert.KernelIdeal.Ring.run_main m g)

/-- Over the reals every device's result is the reference's. -/
theorem value : Cert.algebraic_KernelIdeal_ReferenceIdeal := by
  intro m g m' g' _ hag
  refine ⟨_, (θ_run Cert.KernelIdeal.defs _ _).mono (fun r h c => ⟨(h.1 c).2.2.2.2.trans ?_, (h.1 c).1, (h.1 c).2.1, (h.1 c).2.2.1, (h.1 c).2.2.2.1⟩)
      (Cert.KernelIdeal.Ring.run_main m g),
    (θ_run Cert.ReferenceIdeal.defs _ _).mono (fun r h => ⟨(h 0).1.trans (Cert.ReferenceIdeal.Whole.result m' 0), (h 0).2⟩)
      (Cert.ReferenceIdeal.Value.run_blocks m' g')⟩
  exact Cert.KernelIdeal.Ring.outv_eq_whole m _ _ _ _ (fun c => (hag c).1) (fun c => (hag c).2.1) (fun c => (hag c).2.2.1)
    (fun c => (hag c).2.2.2) c

theorem claim : Cert.Claim := ⟨Cert.Kernel.Gen.facts, Cert.KernelIdeal.Gen.facts, Cert.ReferenceIdeal.Gen.facts, Cert.SiluIdeal.Gen.facts, Cert.ClippedIdeal.Gen.facts, Cert.Pre_within_clip.Gen.facts,
  frame_kernel, frame_ideal, fun m g _ => Cert.ReferenceIdeal.Gen.frame m g,
  Cert.Bridge.frame_silu, fun m g _ => Cert.Bridge.frame_silu m g trivial,
  Cert.Bridge.frame_clipped, fun m g _ => Cert.Bridge.frame_clipped m g trivial,
  trivial, value, Cert.Bridge.same⟩

end Cert.Proof

end
